-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_routed : Cert.Pre_routed.Facts] (m : (ℓ : Loc Cert.Kernel3.nD Cert.Kernel3.τ Cert.Kernel3.sig) → Buf (Elt Bits) ℓ) : Prop :=
  ∀ c : Dev Cert.Kernel3.nD,
    (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).1 = (fun _ => 1#1)
    ∧ (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.1 = (fun _ => 1#1)
    ∧ (Cert.Pre_routed.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))).2.2 = (fun _ => 1#1)

def Pre_Kernel3Ideal [hPre_routed : Cert.Pre_routed.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_routed.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2 = (fun _ => 1#1)

def Pre_Reference3Ideal [hPre_routed : Cert.Pre_routed.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_routed.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] [hPre_routed : Cert.Pre_routed.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] [hPre_routed : Cert.Pre_routed.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v65) = v0 c
          ∧ r.2.mem ((c.tc : Thread Cert.Reference2Ideal.nD Cert.Reference2Ideal.τ).loc Cert.Reference2Ideal.main_v85) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal [hKernel3Ideal : Cert.Kernel3Ideal.Facts] [hReference3Ideal : Cert.Reference3Ideal.Facts] [hPre_routed : Cert.Pre_routed.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v260) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_routed : Cert.Pre_routed.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_routed := hPre_routed)
    ∧ quiescent_Kernel3Ideal (hKernel3Ideal := hKernel3Ideal) (hPre_routed := hPre_routed)
    ∧ quiescent_Reference3Ideal (hReference3Ideal := hReference3Ideal) (hPre_routed := hPre_routed)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_routed := hPre_routed)
-- ==== Pre_finite.lean ====
abbrev S32x2048x256 : Shape := ⟨3, ![32, 2048, 256]⟩
abbrev S4x257 : Shape := ⟨2, ![4, 257]⟩
abbrev S_ : Shape := ⟨0, ![]⟩

class Facts : Prop where
  bcast_S_S32x2048x256 : S_.BroadcastsInDim S32x2048x256 (![] : Fin 0 → Fin S32x2048x256.rank)
  bcast_S_S4x257 : S_.BroadcastsInDim S4x257 (![] : Fin 0 → Fin S4x257.rank)

variable [Facts]

def fn {F : FTy → Type} [FloatOps F] (main_arg0 : FVec F S32x2048x256 .f32) (main_arg1 : FVec F S32x2048x256 .f32) (main_arg2 : FVec F S32x2048x256 .f32) (main_arg3 : FVec F S4x257 .f32) : IVec S32x2048x256 1 × IVec S32x2048x256 1 × IVec S4x257 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_v3 : FVec F S32x2048x256 .f32 := Host.absf main_arg1
  let main_cst_0 : FVec F S_ .f32 := constant S_ .f32 0x7F800000#32
  let main_v4 : FVec F S32x2048x256 .f32 := broadcastInDim S32x2048x256 ![] bcast_S_S32x2048x256 main_cst_0
  let main_v5 : IVec S32x2048x256 1 := cmpf .olt main_v3 main_v4
  let main_v6 : FVec F S4x257 .f32 := Host.absf main_arg3
  let main_cst_1 : FVec F S_ .f32 := constant S_ .f32 0x7F800000#32
  let main_v7 : FVec F S4x257 .f32 := broadcastInDim S4x257 ![] bcast_S_S4x257 main_cst_1
  let main_v8 : IVec S4x257 1 := cmpf .olt main_v6 main_v7
  (main_v2, main_v5, main_v8)
-- ==== Pre_routed.lean ====
abbrev S83456x1152 : Shape := ⟨2, ![83456, 1152]⟩
abbrev S163 : Shape := ⟨1, ![163]⟩
abbrev S16x1024x256 : Shape := ⟨3, ![16, 1024, 256]⟩
abbrev S16x256x1024 : Shape := ⟨3, ![16, 256, 1024]⟩
abbrev S83456x12 : Shape := ⟨2, ![83456, 12]⟩
abbrev S83456x4 : Shape := ⟨2, ![83456, 4]⟩
abbrev S_ : Shape := ⟨0, ![]⟩

class Facts : Prop where
  slices_S83456x1152_S83456x12_0_1024 : S83456x1152.Slices ![0, 1024] S83456x12
  bitsLt_bf16_f32 : FTy.bits .bf16 < FTy.bits .f32
  slices_S83456x12_S83456x4_0_0 : S83456x12.Slices ![0, 0] S83456x4
  slices_S83456x12_S83456x4_0_4 : S83456x12.Slices ![0, 4] S83456x4
  slices_S83456x12_S83456x4_0_8 : S83456x12.Slices ![0, 8] S83456x4
  bcast_S_S163 : S_.BroadcastsInDim S163 (![] : Fin 0 → Fin S163.rank)
  bcast_S_S83456x4 : S_.BroadcastsInDim S83456x4 (![] : Fin 0 → Fin S83456x4.rank)

variable [Facts]

def fn {F : FTy → Type} [FloatOps F] (main_arg0 : FVec F S83456x1152 .bf16) (main_arg1 : IVec S163 32) (main_arg2 : IVec S163 32) (main_arg3 : FVec F S16x1024x256 .f32) (main_arg4 : FVec F S16x1024x256 .f32) (main_arg5 : FVec F S16x256x1024 .f32) : IVec S163 1 × IVec S83456x4 1 × IVec S83456x4 1 :=
  let main_v0 : FVec F S83456x12 .bf16 := (extractStridedSlice S83456x12 ![0, 1024] · slices_S83456x1152_S83456x12_0_1024) main_arg0
  let main_v1 : FVec F S83456x12 .f32 := (extf .f32 · bitsLt_bf16_f32) main_v0
  let main_v2 : FVec F S83456x4 .f32 := (extractStridedSlice S83456x4 ![0, 0] · slices_S83456x12_S83456x4_0_0) main_v1
  let main_v3 : FVec F S83456x4 .f32 := (extractStridedSlice S83456x4 ![0, 4] · slices_S83456x12_S83456x4_0_4) main_v1
  let main_v4 : FVec F S83456x4 .f32 := addf main_v2 main_v3
  let main_v5 : FVec F S83456x4 .f32 := (extractStridedSlice S83456x4 ![0, 8] · slices_S83456x12_S83456x4_0_8) main_v1
  let main_v6 : FVec F S83456x4 .f32 := addf main_v4 main_v5
  let main_c : IVec S_ 32 := constantI S_ 32 0#32
  let main_v7 : IVec S163 32 := broadcastInDim S163 ![] bcast_S_S163 main_c
  let main_v8 : IVec S163 1 := cmpi .sge main_arg1 main_v7
  let main_c_0 : IVec S_ 32 := constantI S_ 32 4#32
  let main_v9 : IVec S163 32 := broadcastInDim S163 ![] bcast_S_S163 main_c_0
  let main_v10 : IVec S163 1 := cmpi .slt main_arg1 main_v9
  let main_v11 : IVec S163 1 := andi main_v8 main_v10
  let main_cst : FVec F S_ .f32 := constant S_ .f32 0x00000000#32
  let main_v12 : FVec F S83456x4 .f32 := broadcastInDim S83456x4 ![] bcast_S_S83456x4 main_cst
  let main_v13 : IVec S83456x4 1 := cmpf .oge main_v6 main_v12
  let main_cst_1 : FVec F S_ .f32 := constant S_ .f32 0x7F800000#32
  let main_v14 : FVec F S83456x4 .f32 := broadcastInDim S83456x4 ![] bcast_S_S83456x4 main_cst_1
  let main_v15 : IVec S83456x4 1 := cmpf .olt main_v6 main_v14
  (main_v11, main_v13, main_v15)
-- ==== Kernel.lean ====
abbrev S32x2048x256 : Shape := ⟨3, ![32, 2048, 256]⟩
abbrev S4x257 : Shape := ⟨2, ![4, 257]⟩
abbrev S2x2x128 : Shape := ⟨3, ![2, 2, 128]⟩
abbrev S3x1024 : Shape := ⟨2, ![3, 1024]⟩
abbrev S3x1x1 : Shape := ⟨3, ![3, 1, 1]⟩
abbrev S1x4x257 : Shape := ⟨3, ![1, 4, 257]⟩
abbrev S_ : Shape := ⟨0, ![]⟩
abbrev S3x1024x1 : Shape := ⟨3, ![3, 1024, 1]⟩
abbrev S1x4x3x1024 : Shape := ⟨4, ![1, 4, 3, 1024]⟩
abbrev S1x1x1x4x1x3x1x1024 : Shape := ⟨8, ![1, 1, 1, 4, 1, 3, 1, 1024]⟩
abbrev S1x1x1x4x1x3x256x1024 : Shape := ⟨8, ![1, 1, 1, 4, 1, 3, 256, 1024]⟩
abbrev S1x4x3x262144 : Shape := ⟨4, ![1, 4, 3, 262144]⟩
abbrev S1x4x3x261888 : Shape := ⟨4, ![1, 4, 3, 261888]⟩
abbrev S1x4x3x256x1023 : Shape := ⟨5, ![1, 4, 3, 256, 1023]⟩
abbrev S1x4x3x256x768 : Shape := ⟨5, ![1, 4, 3, 256, 768]⟩
abbrev S256 : Shape := ⟨1, ![256]⟩
abbrev S1x256x1 : Shape := ⟨3, ![1, 256, 1]⟩
abbrev S768 : Shape := ⟨1, ![768]⟩
abbrev S1x1x768 : Shape := ⟨3, ![1, 1, 768]⟩
abbrev S3x1x768 : Shape := ⟨3, ![3, 1, 768]⟩
abbrev S3x256x768 : Shape := ⟨3, ![3, 256, 768]⟩
abbrev S1x1x3x256x768 : Shape := ⟨5, ![1, 1, 3, 256, 768]⟩
abbrev S4x3x256x768 : Shape := ⟨4, ![4, 3, 256, 768]⟩
abbrev S1x2048x256 : Shape := ⟨3, ![1, 2048, 256]⟩
abbrev S256x128 : Shape := ⟨2, ![256, 128]⟩
abbrev S768x128 : Shape := ⟨2, ![768, 128]⟩
abbrev S1x768x128 : Shape := ⟨3, ![1, 768, 128]⟩
abbrev S1x256x128 : Shape := ⟨3, ![1, 256, 128]⟩
abbrev S1x1x128 : Shape := ⟨3, ![1, 1, 128]⟩
abbrev S1x128 : Shape := ⟨2, ![1, 128]⟩
abbrev S256x768 : Shape := ⟨2, ![256, 768]⟩
abbrev S1x1x256x768 : Shape := ⟨4, ![1, 1, 256, 768]⟩
abbrev S256x1 : Shape := ⟨2, ![256, 1]⟩

abbrev nBuf : Space → Nat
  | .hbm => 86
  | .vmem => 10
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048x256, .f32⟩
  | .hbm, ⟨3, _⟩ => ⟨S4x257, .f32⟩
  | .hbm, ⟨4, _⟩ => ⟨S2x2x128, .bf16⟩
  | .hbm, ⟨5, _⟩ => ⟨S3x1024, .i32⟩
  | .hbm, ⟨6, _⟩ => ⟨S3x1x1, .i32⟩
  | .hbm, ⟨7, _⟩ => ⟨S32x2048x256, .bf16⟩
  | .hbm, ⟨8, _⟩ => ⟨S32x2048x256, .bf16⟩
  | .hbm, ⟨9, _⟩ => ⟨S1x4x257, .f32⟩
  | .hbm, ⟨10, _⟩ => ⟨S_, .i32⟩
  | .hbm, ⟨11, _⟩ => ⟨S3x1024, .i32⟩
  | .hbm, ⟨12, _⟩ => ⟨S3x1024, .i1⟩
  | .hbm, ⟨13, _⟩ => ⟨S_, .i32⟩
  | .hbm, ⟨14, _⟩ => ⟨S3x1024, .i32⟩
  | .hbm, ⟨15, _⟩ => ⟨S3x1024, .i32⟩
  | .hbm, ⟨16, _⟩ => ⟨S3x1024, .i32⟩
  | .hbm, ⟨17, _⟩ => ⟨S3x1024x1, .i32⟩
  | .hbm, ⟨18, _⟩ => ⟨S1x4x3x1024, .f32⟩
  | .hbm, ⟨19, _⟩ => ⟨S1x1x1x4x1x3x1x1024, .f32⟩
  | .hbm, ⟨20, _⟩ => ⟨S1x1x1x4x1x3x256x1024, .f32⟩
  | .hbm, ⟨21, _⟩ => ⟨S1x4x3x262144, .f32⟩
  | .hbm, ⟨22, _⟩ => ⟨S1x4x3x261888, .f32⟩
  | .hbm, ⟨23, _⟩ => ⟨S1x4x3x256x1023, .f32⟩
  | .hbm, ⟨24, _⟩ => ⟨S1x4x3x256x768, .f32⟩
  | .hbm, ⟨25, _⟩ => ⟨S256, .i32⟩
  | .hbm, ⟨26, _⟩ => ⟨S1x256x1, .i32⟩
  | .hbm, ⟨27, _⟩ => ⟨S768, .i32⟩
  | .hbm, ⟨28, _⟩ => ⟨S1x1x768, .i32⟩
  | .hbm, ⟨29, _⟩ => ⟨S3x1x768, .i32⟩
  | .hbm, ⟨30, _⟩ => ⟨S3x1x768, .i32⟩
  | .hbm, ⟨31, _⟩ => ⟨S3x1x768, .i32⟩
  | .hbm, ⟨32, _⟩ => ⟨S_, .i32⟩
  | .hbm, ⟨33, _⟩ => ⟨S_, .i32⟩
  | .hbm, ⟨34, _⟩ => ⟨S3x1x768, .i32⟩
  | .hbm, ⟨35, _⟩ => ⟨S3x1x768, .i32⟩
  | .hbm, ⟨36, _⟩ => ⟨S3x1x768, .i32⟩
  | .hbm, ⟨37, _⟩ => ⟨S_, .i32⟩
  | .hbm, ⟨38, _⟩ => ⟨S3x1x768, .i32⟩
  | .hbm, ⟨39, _⟩ => ⟨S3x1x768, .i1⟩
  | .hbm, ⟨40, _⟩ => ⟨S3x1x768, .i32⟩
  | .hbm, ⟨41, _⟩ => ⟨S3x1x768, .i32⟩
  | .hbm, ⟨42, _⟩ => ⟨S_, .i32⟩
  | .hbm, ⟨43, _⟩ => ⟨S3x1x768, .i32⟩
  | .hbm, ⟨44, _⟩ => ⟨S3x1x768, .i1⟩
  | .hbm, ⟨45, _⟩ => ⟨S3x1x768, .i1⟩
  | .hbm, ⟨46, _⟩ => ⟨S_, .i32⟩
  | .hbm, ⟨47, _⟩ => ⟨S3x1x768, .i32⟩
  | .hbm, ⟨48, _⟩ => ⟨S3x1x768, .i32⟩
  | .hbm, ⟨49, _⟩ => ⟨S3x1x768, .i32⟩
  | .hbm, ⟨50, _⟩ => ⟨S_, .i32⟩
  | .hbm, ⟨51, _⟩ => ⟨S_, .i32⟩
  | .hbm, ⟨52, _⟩ => ⟨S1x256x1, .i32⟩
  | .hbm, ⟨53, _⟩ => ⟨S1x256x1, .i32⟩
  | .hbm, ⟨54, _⟩ => ⟨S1x256x1, .i32⟩
  | .hbm, ⟨55, _⟩ => ⟨S_, .i32⟩
  | .hbm, ⟨56, _⟩ => ⟨S1x256x1, .i32⟩
  | .hbm, ⟨57, _⟩ => ⟨S1x256x1, .i1⟩
  | .hbm, ⟨58, _⟩ => ⟨S1x256x1, .i32⟩
  | .hbm, ⟨59, _⟩ => ⟨S1x256x1, .i32⟩
  | .hbm, ⟨60, _⟩ => ⟨S_, .i32⟩
  | .hbm, ⟨61, _⟩ => ⟨S1x256x1, .i32⟩
  | .hbm, ⟨62, _⟩ => ⟨S1x256x1, .i1⟩
  | .hbm, ⟨63, _⟩ => ⟨S1x256x1, .i1⟩
  | .hbm, ⟨64, _⟩ => ⟨S_, .i32⟩
  | .hbm, ⟨65, _⟩ => ⟨S1x256x1, .i32⟩
  | .hbm, ⟨66, _⟩ => ⟨S1x256x1, .i32⟩
  | .hbm, ⟨67, _⟩ => ⟨S1x256x1, .i32⟩
  | .hbm, ⟨68, _⟩ => ⟨S3x256x768, .i32⟩
  | .hbm, ⟨69, _⟩ => ⟨S3x256x768, .i32⟩
  | .hbm, ⟨70, _⟩ => ⟨S3x256x768, .i1⟩
  | .hbm, ⟨71, _⟩ => ⟨S_, .i32⟩
  | .hbm, ⟨72, _⟩ => ⟨S1x256x1, .i32⟩
  | .hbm, ⟨73, _⟩ => ⟨S1x256x1, .i32⟩
  | .hbm, ⟨74, _⟩ => ⟨S3x256x768, .i32⟩
  | .hbm, ⟨75, _⟩ => ⟨S3x256x768, .i32⟩
  | .hbm, ⟨76, _⟩ => ⟨S3x256x768, .i1⟩
  | .hbm, ⟨77, _⟩ => ⟨S3x256x768, .i1⟩
  | .hbm, ⟨78, _⟩ => ⟨S1x1x3x256x768, .i1⟩
  | .hbm, ⟨79, _⟩ => ⟨S_, .f32⟩
  | .hbm, ⟨80, _⟩ => ⟨S_, .f32⟩
  | .hbm, ⟨81, _⟩ => ⟨S1x4x3x256x768, .i1⟩
  | .hbm, ⟨82, _⟩ => ⟨S1x4x3x256x768, .f32⟩
  | .hbm, ⟨83, _⟩ => ⟨S1x4x3x256x768, .f32⟩
  | .hbm, ⟨84, _⟩ => ⟨S4x3x256x768, .f32⟩
  | .hbm, ⟨85, _⟩ => ⟨S32x2048x256, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S2x2x128, .bf16⟩
  | .local _ .vmem, ⟨7, _⟩ => ⟨S4x3x256x768, .f32⟩
  | .local _ .vmem, ⟨8, _⟩ => ⟨S1x2048x256, .bf16⟩
  | .local _ .vmem, ⟨9, _⟩ => ⟨S1x2048x256, .bf16⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_c_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v23 : Ref sig .tc := ⟨.hbm, 49, rfl⟩
abbrev main_c_4 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_call1_v3 : Ref sig .tc := ⟨.hbm, 54, rfl⟩
abbrev main_call1_v4 : Ref sig .tc := ⟨.hbm, 55, rfl⟩
abbrev main_call1_v5 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_c : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_c_0 : Ref sig .tc := ⟨.hbm, 64, rfl⟩
abbrev main_call1_v12 : Ref sig .tc := ⟨.hbm, 65, rfl⟩
abbrev main_call1_v13 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_c_5 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_cst_6 : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32_13 : BitVec 32 := 0#32
  let c8_i32 : BitVec 32 := 8#32
  let v54 : BitVec 32 := Scalar.addi c0_i32_13 c8_i32
  let c1_i32_14 : BitVec 32 := 1#32
  ⟨c0_i32_13, v54, c1_i32_14⟩
def k0_mult1 (k0_t1 : Fin k0_t1_loop.trips) : BitVec 32 :=
  let c0_i32_13 : BitVec 32 := 0#32
  let c1_i32_14 : BitVec 32 := 1#32
  let arg7 : BitVec 32 := Scf.iv c0_i32_13 c1_i32_14 k0_t1
  let c256_i32 : BitVec 32 := 256#32
  let v55 : BitVec 32 := Scalar.muli arg7 c256_i32
  v55
def k0_mult2 (k0_t1 : Fin k0_t1_loop.trips) : BitVec 32 :=
  let c0_i32_13 : BitVec 32 := 0#32
  let c1_i32_14 : BitVec 32 := 1#32
  let arg7 : BitVec 32 := Scf.iv c0_i32_13 c1_i32_14 k0_t1
  let c256_i32 : BitVec 32 := 256#32
  let v55 : BitVec 32 := Scalar.muli arg7 c256_i32
  let v56 : BitVec 32 := v55
  let c512_i32 : BitVec 32 := 512#32
  let v57 : BitVec 32 := Scalar.subi v56 c512_i32
  let c0_i32_16 : BitVec 32 := 0#32
  let v58 : BitVec 32 := Scalar.maxsi v57 c0_i32_16
  v58
def k0_off1 (k0_t1 : Fin k0_t1_loop.trips) : Fin 3 → Nat :=
  let c0 : Index := 0#32
  let c0_i32_13 : BitVec 32 := 0#32
  let c1_i32_14 : BitVec 32 := 1#32
  let arg7 : BitVec 32 := Scf.iv c0_i32_13 c1_i32_14 k0_t1
  let c256_i32 : BitVec 32 := 256#32
  let v55 : BitVec 32 := Scalar.muli arg7 c256_i32
  let v56 : BitVec 32 := v55
  let c512_i32 : BitVec 32 := 512#32
  let v57 : BitVec 32 := Scalar.subi v56 c512_i32
  let c0_i32_16 : BitVec 32 := 0#32
  let v58 : BitVec 32 := Scalar.maxsi v57 c0_i32_16
  let v59 : BitVec 32 := v58
  let v61 : Index := Scalar.indexCast v59
  let c0_17 : Index := 0#32
  ![0, v61.toNat, 0]
def k0_off2 (k0_t1 : Fin k0_t1_loop.trips) : Fin 3 → Nat :=
  let c0_18 : Index := 0#32
  let c0_i32_13 : BitVec 32 := 0#32
  let c1_i32_14 : BitVec 32 := 1#32
  let arg7 : BitVec 32 := Scf.iv c0_i32_13 c1_i32_14 k0_t1
  let c256_i32 : BitVec 32 := 256#32
  let v55 : BitVec 32 := Scalar.muli arg7 c256_i32
  let v56 : BitVec 32 := v55
  let c512_i32 : BitVec 32 := 512#32
  let v57 : BitVec 32 := Scalar.subi v56 c512_i32
  let c0_i32_16 : BitVec 32 := 0#32
  let v58 : BitVec 32 := Scalar.maxsi v57 c0_i32_16
  let v59 : BitVec 32 := v58
  let v64 : Index := Scalar.indexCast v59
  let c128 : Index := 128#32
  ![0, v64.toNat, 128]
def k0_off3 (k0_t1 : Fin k0_t1_loop.trips) : Fin 3 → Nat :=
  let c0_23 : Index := 0#32
  let c0_i32_13 : BitVec 32 := 0#32
  let c1_i32_14 : BitVec 32 := 1#32
  let arg7 : BitVec 32 := Scf.iv c0_i32_13 c1_i32_14 k0_t1
  let c256_i32 : BitVec 32 := 256#32
  let v55 : BitVec 32 := Scalar.muli arg7 c256_i32
  let v56 : BitVec 32 := v55
  let v73 : Index := Scalar.indexCast v56
  let c0_24 : Index := 0#32
  ![0, v73.toNat, 0]
def k0_off4 (k0_t1 : Fin k0_t1_loop.trips) : Fin 3 → Nat :=
  let c0_25 : Index := 0#32
  let c0_i32_13 : BitVec 32 := 0#32
  let c1_i32_14 : BitVec 32 := 1#32
  let arg7 : BitVec 32 := Scf.iv c0_i32_13 c1_i32_14 k0_t1
  let c256_i32 : BitVec 32 := 256#32
  let v55 : BitVec 32 := Scalar.muli arg7 c256_i32
  let v56 : BitVec 32 := v55
  let v79 : Index := Scalar.indexCast v56
  let c128_26 : Index := 128#32
  ![0, v79.toNat, 128]
def k0_off5 (k0_t1 : Fin k0_t1_loop.trips) : Fin 4 → Nat :=
  let c0_32 : Index := 0#32
  let c0_i32_13 : BitVec 32 := 0#32
  let c1_i32_14 : BitVec 32 := 1#32
  let arg7 : BitVec 32 := Scf.iv c0_i32_13 c1_i32_14 k0_t1
  let c2_i32 : BitVec 32 := 2#32
  let v60 : BitVec 32 := Scalar.minsi arg7 c2_i32
  let v90 : Index := Scalar.indexCast v60
  let c0_33 : Index := 0#32
  let c0_34 : Index := 0#32
  ![0, v90.toNat, 0, 0]
def k0_off6 (k0_t1 : Fin k0_t1_loop.trips) : Fin 4 → Nat :=
  let c1_39 : Index := 1#32
  let c0_i32_13 : BitVec 32 := 0#32
  let c1_i32_14 : BitVec 32 := 1#32
  let arg7 : BitVec 32 := Scf.iv c0_i32_13 c1_i32_14 k0_t1
  let c2_i32 : BitVec 32 := 2#32
  let v60 : BitVec 32 := Scalar.minsi arg7 c2_i32
  let v101 : Index := Scalar.indexCast v60
  let c0_40 : Index := 0#32
  let c0_41 : Index := 0#32
  ![1, v101.toNat, 0, 0]
def k0_off7 (k0_t1 : Fin k0_t1_loop.trips) : Fin 4 → Nat :=
  let c2 : Index := 2#32
  let c0_i32_13 : BitVec 32 := 0#32
  let c1_i32_14 : BitVec 32 := 1#32
  let arg7 : BitVec 32 := Scf.iv c0_i32_13 c1_i32_14 k0_t1
  let c2_i32 : BitVec 32 := 2#32
  let v60 : BitVec 32 := Scalar.minsi arg7 c2_i32
  let v112 : Index := Scalar.indexCast v60
  let c0_47 : Index := 0#32
  let c0_48 : Index := 0#32
  ![2, v112.toNat, 0, 0]
def k0_off8 (k0_t1 : Fin k0_t1_loop.trips) : Fin 4 → Nat :=
  let c3 : Index := 3#32
  let c0_i32_13 : BitVec 32 := 0#32
  let c1_i32_14 : BitVec 32 := 1#32
  let arg7 : BitVec 32 := Scf.iv c0_i32_13 c1_i32_14 k0_t1
  let c2_i32 : BitVec 32 := 2#32
  let v60 : BitVec 32 := Scalar.minsi arg7 c2_i32
  let v123 : Index := Scalar.indexCast v60
  let c0_54 : Index := 0#32
  let c0_55 : Index := 0#32
  ![3, v123.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x2x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x3x256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e" => some (((Real.log 2)⁻¹ : ℝ) : EReal)
  | "qscale" => some ((8⁻¹ * (Real.log 2)⁻¹ : ℝ) : EReal)
  | _ => none
-- ==== ReferenceIdeal.lean ====
abbrev S32x2048x256 : Shape := ⟨3, ![32, 2048, 256]⟩
abbrev S4x257 : Shape := ⟨2, ![4, 257]⟩
abbrev S32x2048x4x64 : Shape := ⟨4, ![32, 2048, 4, 64]⟩
abbrev S_ : Shape := ⟨0, ![]⟩
abbrev S32x2560x4x64 : Shape := ⟨4, ![32, 2560, 4, 64]⟩
abbrev S32x40x64x4x64 : Shape := ⟨5, ![32, 40, 64, 4, 64]⟩
abbrev S32x32x64x4x64 : Shape := ⟨5, ![32, 32, 64, 4, 64]⟩
abbrev S32x32x576x4x64 : Shape := ⟨5, ![32, 32, 576, 4, 64]⟩
abbrev S32x32x4x64x576 : Shape := ⟨5, ![32, 32, 4, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S32 : Shape := ⟨1, ![32]⟩
abbrev S32x1 : Shape := ⟨2, ![32, 1]⟩
abbrev S32x576 : Shape := ⟨2, ![32, 576]⟩
abbrev S1x32x1x1x576 : Shape := ⟨5, ![1, 32, 1, 1, 576]⟩
abbrev S1x1x4x64x576 : Shape := ⟨5, ![1, 1, 4, 64, 576]⟩
abbrev S32x32x4x64 : Shape := ⟨4, ![32, 32, 4, 64]⟩
abbrev S32x32x4x64x1 : Shape := ⟨5, ![32, 32, 4, 64, 1]⟩
abbrev S32x32x4x64x64 : Shape := ⟨5, ![32, 32, 4, 64, 64]⟩

abbrev nBuf : Space → Nat
  | .hbm => 113
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048x256, .f32⟩
  | .hbm, ⟨3, _⟩ => ⟨S4x257, .f32⟩
  | .hbm, ⟨4, _⟩ => ⟨S32x2048x4x64, .f32⟩
  | .hbm, ⟨5, _⟩ => ⟨S32x2048x4x64, .f32⟩
  | .hbm, ⟨6, _⟩ => ⟨S32x2048x4x64, .f32⟩
  | .hbm, ⟨7, _⟩ => ⟨S_, .i32⟩
  | .hbm, ⟨8, _⟩ => ⟨S_, .f32⟩
  | .hbm, ⟨9, _⟩ => ⟨S32x2560x4x64, .f32⟩
  | .hbm, ⟨10, _⟩ => ⟨S32x40x64x4x64, .f32⟩
  | .hbm, ⟨11, _⟩ => ⟨S32x32x64x4x64, .f32⟩
  | .hbm, ⟨12, _⟩ => ⟨S32x32x64x4x64, .f32⟩
  | .hbm, ⟨13, _⟩ => ⟨S32x32x64x4x64, .f32⟩
  | .hbm, ⟨14, _⟩ => ⟨S32x32x64x4x64, .f32⟩
  | .hbm, ⟨15, _⟩ => ⟨S32x32x64x4x64, .f32⟩
  | .hbm, ⟨16, _⟩ => ⟨S32x32x64x4x64, .f32⟩
  | .hbm, ⟨17, _⟩ => ⟨S32x32x64x4x64, .f32⟩
  | .hbm, ⟨18, _⟩ => ⟨S32x32x64x4x64, .f32⟩
  | .hbm, ⟨19, _⟩ => ⟨S32x32x64x4x64, .f32⟩
  | .hbm, ⟨20, _⟩ => ⟨S32x32x576x4x64, .f32⟩
  | .hbm, ⟨21, _⟩ => ⟨S_, .i32⟩
  | .hbm, ⟨22, _⟩ => ⟨S_, .f32⟩
  | .hbm, ⟨23, _⟩ => ⟨S32x2560x4x64, .f32⟩
  | .hbm, ⟨24, _⟩ => ⟨S32x40x64x4x64, .f32⟩
  | .hbm, ⟨25, _⟩ => ⟨S32x32x64x4x64, .f32⟩
  | .hbm, ⟨26, _⟩ => ⟨S32x32x64x4x64, .f32⟩
  | .hbm, ⟨27, _⟩ => ⟨S32x32x64x4x64, .f32⟩
  | .hbm, ⟨28, _⟩ => ⟨S32x32x64x4x64, .f32⟩
  | .hbm, ⟨29, _⟩ => ⟨S32x32x64x4x64, .f32⟩
  | .hbm, ⟨30, _⟩ => ⟨S32x32x64x4x64, .f32⟩
  | .hbm, ⟨31, _⟩ => ⟨S32x32x64x4x64, .f32⟩
  | .hbm, ⟨32, _⟩ => ⟨S32x32x64x4x64, .f32⟩
  | .hbm, ⟨33, _⟩ => ⟨S32x32x64x4x64, .f32⟩
  | .hbm, ⟨34, _⟩ => ⟨S32x32x576x4x64, .f32⟩
  | .hbm, ⟨35, _⟩ => ⟨S32x32x64x4x64, .f32⟩
  | .hbm, ⟨36, _⟩ => ⟨S32x32x4x64x576, .f32⟩
  | .hbm, ⟨37, _⟩ => ⟨S_, .f32⟩
  | .hbm, ⟨38, _⟩ => ⟨S32x32x4x64x576, .f32⟩
  | .hbm, ⟨39, _⟩ => ⟨S32x32x4x64x576, .f32⟩
  | .hbm, ⟨40, _⟩ => ⟨S64, .i32⟩
  | .hbm, ⟨41, _⟩ => ⟨S64x1, .i32⟩
  | .hbm, ⟨42, _⟩ => ⟨S_, .i32⟩
  | .hbm, ⟨43, _⟩ => ⟨S64x1, .i32⟩
  | .hbm, ⟨44, _⟩ => ⟨S64x1, .i32⟩
  | .hbm, ⟨45, _⟩ => ⟨S576, .i32⟩
  | .hbm, ⟨46, _⟩ => ⟨S1x576, .i32⟩
  | .hbm, ⟨47, _⟩ => ⟨S64x576, .i32⟩
  | .hbm, ⟨48, _⟩ => ⟨S64x576, .i32⟩
  | .hbm, ⟨49, _⟩ => ⟨S64x576, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S_, .i32⟩
  | .hbm, ⟨59, _⟩ => ⟨S64x576, .i32⟩
  | .hbm, ⟨60, _⟩ => ⟨S64x576, .i32⟩
  | .hbm, ⟨61, _⟩ => ⟨S_, .i32⟩
  | .hbm, ⟨62, _⟩ => ⟨S64x576, .i32⟩
  | .hbm, ⟨63, _⟩ => ⟨S64x576, .i1⟩
  | .hbm, ⟨64, _⟩ => ⟨S_, .i32⟩
  | .hbm, ⟨65, _⟩ => ⟨S64x576, .i32⟩
  | .hbm, ⟨66, _⟩ => ⟨S64x576, .i32⟩
  | .hbm, ⟨67, _⟩ => ⟨S64x576, .i32⟩
  | .hbm, ⟨68, _⟩ => ⟨S64x576x1, .i32⟩
  | .hbm, ⟨69, _⟩ => ⟨S4x64x576, .f32⟩
  | .hbm, ⟨70, _⟩ => ⟨S32, .i32⟩
  | .hbm, ⟨71, _⟩ => ⟨S32x1, .i32⟩
  | .hbm, ⟨72, _⟩ => ⟨S_, .i32⟩
  | .hbm, ⟨73, _⟩ => ⟨S32x1, .i32⟩
  | .hbm, ⟨74, _⟩ => ⟨S32x1, .i32⟩
  | .hbm, ⟨75, _⟩ => ⟨S_, .i32⟩
  | .hbm, ⟨76, _⟩ => ⟨S32x1, .i32⟩
  | .hbm, ⟨77, _⟩ => ⟨S32x1, .i32⟩
  | .hbm, ⟨78, _⟩ => ⟨S576, .i32⟩
  | .hbm, ⟨79, _⟩ => ⟨S1x576, .i32⟩
  | .hbm, ⟨80, _⟩ => ⟨S32x576, .i32⟩
  | .hbm, ⟨81, _⟩ => ⟨S32x576, .i32⟩
  | .hbm, ⟨82, _⟩ => ⟨S32x576, .i32⟩
  | .hbm, ⟨83, _⟩ => ⟨S_, .i32⟩
  | .hbm, ⟨84, _⟩ => ⟨S32x576, .i32⟩
  | .hbm, ⟨85, _⟩ => ⟨S32x576, .i1⟩
  | .hbm, ⟨86, _⟩ => ⟨S1x32x1x1x576, .i1⟩
  | .hbm, ⟨87, _⟩ => ⟨S1x1x4x64x576, .f32⟩
  | .hbm, ⟨88, _⟩ => ⟨S32x32x4x64x576, .f32⟩
  | .hbm, ⟨89, _⟩ => ⟨S32x32x4x64x576, .f32⟩
  | .hbm, ⟨90, _⟩ => ⟨S_, .f32⟩
  | .hbm, ⟨91, _⟩ => ⟨S_, .f32⟩
  | .hbm, ⟨92, _⟩ => ⟨S32x32x4x64x576, .i1⟩
  | .hbm, ⟨93, _⟩ => ⟨S32x32x4x64x576, .f32⟩
  | .hbm, ⟨94, _⟩ => ⟨S32x32x4x64x576, .f32⟩
  | .hbm, ⟨95, _⟩ => ⟨S_, .f32⟩
  | .hbm, ⟨96, _⟩ => ⟨S32x32x4x64, .f32⟩
  | .hbm, ⟨97, _⟩ => ⟨S_, .f32⟩
  | .hbm, ⟨98, _⟩ => ⟨S32x32x4x64, .f32⟩
  | .hbm, ⟨99, _⟩ => ⟨S32x32x4x64, .f32⟩
  | .hbm, ⟨100, _⟩ => ⟨S32x32x4x64x1, .f32⟩
  | .hbm, ⟨101, _⟩ => ⟨S32x32x4x64x576, .f32⟩
  | .hbm, ⟨102, _⟩ => ⟨S32x32x4x64x576, .f32⟩
  | .hbm, ⟨103, _⟩ => ⟨S32x32x4x64x576, .f32⟩
  | .hbm, ⟨104, _⟩ => ⟨S_, .f32⟩
  | .hbm, ⟨105, _⟩ => ⟨S32x32x4x64, .f32⟩
  | .hbm, ⟨106, _⟩ => ⟨S32x32x4x64x1, .f32⟩
  | .hbm, ⟨107, _⟩ => ⟨S32x32x4x64x576, .f32⟩
  | .hbm, ⟨108, _⟩ => ⟨S32x32x4x64x576, .f32⟩
  | .hbm, ⟨109, _⟩ => ⟨S32x32x4x64x64, .f32⟩
  | .hbm, ⟨110, _⟩ => ⟨S32x32x64x4x64, .f32⟩
  | .hbm, ⟨111, _⟩ => ⟨S32x2048x256, .f32⟩
  | .hbm, ⟨112, _⟩ => ⟨S32x2048x256, .bf16⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_call1_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_c_1 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_2 : Ref sig .tc := ⟨.hbm, 50, rfl⟩
abbrev main_c_3 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v40 : Ref sig .tc := ⟨.hbm, 57, rfl⟩
abbrev main_c_4 : Ref sig .tc := ⟨.hbm, 58, rfl⟩
abbrev main_v41 : Ref sig .tc := ⟨.hbm, 59, rfl⟩
abbrev main_v42 : Ref sig .tc := ⟨.hbm, 60, rfl⟩
abbrev main_c_5 : Ref sig .tc := ⟨.hbm, 61, rfl⟩
abbrev main_v43 : Ref sig .tc := ⟨.hbm, 62, rfl⟩
abbrev main_v44 : Ref sig .tc := ⟨.hbm, 63, rfl⟩
abbrev main_c_6 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_7 : Ref sig .tc := ⟨.hbm, 72, rfl⟩
abbrev main_v52 : Ref sig .tc := ⟨.hbm, 73, rfl⟩
abbrev main_v53 : Ref sig .tc := ⟨.hbm, 74, rfl⟩
abbrev main_c_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_9 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x6144 : Shape := ⟨2, ![32, 6144]⟩
abbrev S1024 : Shape := ⟨1, ![1024]⟩
abbrev S32x2048x256 : Shape := ⟨3, ![32, 2048, 256]⟩
abbrev S1024x6820 : Shape := ⟨2, ![1024, 6820]⟩
abbrev S4x256x1024 : Shape := ⟨3, ![4, 256, 1024]⟩
abbrev S1024x1024 : Shape := ⟨2, ![1024, 1024]⟩
abbrev S1024x16 : Shape := ⟨2, ![1024, 16]⟩
abbrev S16 : Shape := ⟨1, ![16]⟩
abbrev S1024x4096 : Shape := ⟨2, ![1024, 4096]⟩
abbrev S_ : Shape := ⟨0, ![]⟩
abbrev S1024x128 : Shape := ⟨2, ![1024, 128]⟩
abbrev S16x1 : Shape := ⟨2, ![16, 1]⟩
abbrev S1x1024 : Shape := ⟨2, ![1, 1024]⟩
abbrev S32x6x1024 : Shape := ⟨3, ![32, 6, 1024]⟩
abbrev S32x2048x128 : Shape := ⟨3, ![32, 2048, 128]⟩
abbrev S32x1x2048 : Shape := ⟨3, ![32, 1, 2048]⟩
abbrev S1x512x1024 : Shape := ⟨3, ![1, 512, 1024]⟩
abbrev S1x6x1024 : Shape := ⟨3, ![1, 6, 1024]⟩
abbrev S1x512x256 : Shape := ⟨3, ![1, 512, 256]⟩
abbrev S1x512x128 : Shape := ⟨3, ![1, 512, 128]⟩
abbrev S1x1x512 : Shape := ⟨3, ![1, 1, 512]⟩
abbrev S1x1x1024 : Shape := ⟨3, ![1, 1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S256x128 : Shape := ⟨2, ![256, 128]⟩
abbrev S128x256 : Shape := ⟨2, ![128, 256]⟩
abbrev S16x256 : Shape := ⟨2, ![16, 256]⟩
abbrev S1x256 : Shape := ⟨2, ![1, 256]⟩
abbrev S1x1x256 : Shape := ⟨3, ![1, 1, 256]⟩
abbrev S112x256 : Shape := ⟨2, ![112, 256]⟩
abbrev S1x256x128 : Shape := ⟨3, ![1, 256, 128]⟩

abbrev nBuf : Space → Nat
  | .hbm => 33
  | .vmem => 27
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024, .f32⟩
  | .hbm, ⟨4, _⟩ => ⟨S32x2048x256, .f32⟩
  | .hbm, ⟨5, _⟩ => ⟨S32x2048x256, .f32⟩
  | .hbm, ⟨6, _⟩ => ⟨S32x2048x256, .f32⟩
  | .hbm, ⟨7, _⟩ => ⟨S32x2048x256, .f32⟩
  | .hbm, ⟨8, _⟩ => ⟨S1024x6820, .f32⟩
  | .hbm, ⟨9, _⟩ => ⟨S4x256x1024, .f32⟩
  | .hbm, ⟨10, _⟩ => ⟨S1024x1024, .f32⟩
  | .hbm, ⟨11, _⟩ => ⟨S1024x16, .f32⟩
  | .hbm, ⟨12, _⟩ => ⟨S16, .f32⟩
  | .hbm, ⟨13, _⟩ => ⟨S1024x4096, .f32⟩
  | .hbm, ⟨14, _⟩ => ⟨S1024x4096, .bf16⟩
  | .hbm, ⟨15, _⟩ => ⟨S4x256x1024, .bf16⟩
  | .hbm, ⟨16, _⟩ => ⟨S1024x1024, .bf16⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S16x1, .f32⟩
  | .hbm, ⟨22, _⟩ => ⟨S1x1024, .f32⟩
  | .hbm, ⟨23, _⟩ => ⟨S1x1024, .f32⟩
  | .hbm, ⟨24, _⟩ => ⟨S32x2048x256, .bf16⟩
  | .hbm, ⟨25, _⟩ => ⟨S32x2048x256, .bf16⟩
  | .hbm, ⟨26, _⟩ => ⟨S32x2048x256, .bf16⟩
  | .hbm, ⟨27, _⟩ => ⟨S32x2048x256, .bf16⟩
  | .hbm, ⟨28, _⟩ => ⟨S32x6x1024, .f32⟩
  | .hbm, ⟨29, _⟩ => ⟨S32x2048x1024, .f32⟩
  | .hbm, ⟨30, _⟩ => ⟨S32x2048x1024, .bf16⟩
  | .hbm, ⟨31, _⟩ => ⟨S32x2048x128, .bf16⟩
  | .hbm, ⟨32, _⟩ => ⟨S32x1x2048, .i32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1x1024, .f32⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S1x512x256, .bf16⟩
  | .local _ .vmem, ⟨14, _⟩ => ⟨S1024x4096, .bf16⟩
  | .local _ .vmem, ⟨15, _⟩ => ⟨S4x256x1024, .bf16⟩
  | .local _ .vmem, ⟨16, _⟩ => ⟨S1024x1024, .bf16⟩
  | .local _ .vmem, ⟨17, _⟩ => ⟨S1024x128, .bf16⟩
  | .local _ .vmem, ⟨18, _⟩ => ⟨S16x1, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .bf16⟩
  | .local _ .vmem, ⟨22, _⟩ => ⟨S1x512x1024, .bf16⟩
  | .local _ .vmem, ⟨23, _⟩ => ⟨S1x512x128, .bf16⟩
  | .local _ .vmem, ⟨24, _⟩ => ⟨S1x512x128, .bf16⟩
  | .local _ .vmem, ⟨25, _⟩ => ⟨S1x1x512, .i32⟩
  | .local _ .vmem, ⟨26, _⟩ => ⟨S1x1x512, .i32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1024x4096 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S16x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S32x2048x1024 : Shape := ⟨3, ![32, 2048, 1024]⟩
abbrev S32x6144 : Shape := ⟨2, ![32, 6144]⟩
abbrev S1024 : Shape := ⟨1, ![1024]⟩
abbrev S32x2048x256 : Shape := ⟨3, ![32, 2048, 256]⟩
abbrev S1024x6820 : Shape := ⟨2, ![1024, 6820]⟩
abbrev S4x256x1024 : Shape := ⟨3, ![4, 256, 1024]⟩
abbrev S1024x1024 : Shape := ⟨2, ![1024, 1024]⟩
abbrev S1024x16 : Shape := ⟨2, ![1024, 16]⟩
abbrev S16 : Shape := ⟨1, ![16]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4096 : Shape := ⟨2, ![1024, 4096]⟩
abbrev S32x2048x4096 : Shape := ⟨3, ![32, 2048, 4096]⟩
abbrev S32x2048x4x1024 : Shape := ⟨4, ![32, 2048, 4, 1024]⟩
abbrev S32x2048x1x1024 : Shape := ⟨4, ![32, 2048, 1, 1024]⟩
abbrev S1x256x1024 : Shape := ⟨3, ![1, 256, 1024]⟩
abbrev S256x1024 : Shape := ⟨2, ![256, 1024]⟩

abbrev nBuf : Space → Nat
  | .hbm => 109
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x6144, .f32⟩
  | .hbm, ⟨2, _⟩ => ⟨S1024, .f32⟩
  | .hbm, ⟨3, _⟩ => ⟨S1024, .f32⟩
  | .hbm, ⟨4, _⟩ => ⟨S32x2048x256, .f32⟩
  | .hbm, ⟨5, _⟩ => ⟨S32x2048x256, .f32⟩
  | .hbm, ⟨6, _⟩ => ⟨S32x2048x256, .f32⟩
  | .hbm, ⟨7, _⟩ => ⟨S32x2048x256, .f32⟩
  | .hbm, ⟨8, _⟩ => ⟨S1024x6820, .f32⟩
  | .hbm, ⟨9, _⟩ => ⟨S4x256x1024, .f32⟩
  | .hbm, ⟨10, _⟩ => ⟨S1024x1024, .f32⟩
  | .hbm, ⟨11, _⟩ => ⟨S1024x16, .f32⟩
  | .hbm, ⟨12, _⟩ => ⟨S16, .f32⟩
  | .hbm, ⟨13, _⟩ => ⟨S32x1x6144, .f32⟩
  | .hbm, ⟨14, _⟩ => ⟨S32x1x1024, .f32⟩
  | .hbm, ⟨15, _⟩ => ⟨S32x1x1024, .f32⟩
  | .hbm, ⟨16, _⟩ => ⟨S32x1x1024, .f32⟩
  | .hbm, ⟨17, _⟩ => ⟨S32x1x1024, .f32⟩
  | .hbm, ⟨18, _⟩ => ⟨S32x1x1024, .f32⟩
  | .hbm, ⟨19, _⟩ => ⟨S32x1x1024, .f32⟩
  | .hbm, ⟨20, _⟩ => ⟨S32x2048x1024, .f32⟩
  | .hbm, ⟨21, _⟩ => ⟨S_, .f32⟩
  | .hbm, ⟨22, _⟩ => ⟨S32x2048, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S_, .f32⟩
  | .hbm, ⟨28, _⟩ => ⟨S32x2048x1, .f32⟩
  | .hbm, ⟨29, _⟩ => ⟨S32x2048x1, .f32⟩
  | .hbm, ⟨30, _⟩ => ⟨S32x2048x1, .f32⟩
  | .hbm, ⟨31, _⟩ => ⟨S32x2048x1024, .f32⟩
  | .hbm, ⟨32, _⟩ => ⟨S32x2048x1024, .f32⟩
  | .hbm, ⟨33, _⟩ => ⟨S1x1x1024, .f32⟩
  | .hbm, ⟨34, _⟩ => ⟨S32x2048x1024, .f32⟩
  | .hbm, ⟨35, _⟩ => ⟨S32x2048x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S32x2048x1024, .f32⟩
  | .hbm, ⟨40, _⟩ => ⟨S32x2048x1024, .f32⟩
  | .hbm, ⟨41, _⟩ => ⟨S32x2048x1024, .f32⟩
  | .hbm, ⟨42, _⟩ => ⟨S32x2048x1024, .f32⟩
  | .hbm, ⟨43, _⟩ => ⟨S1024x4096, .f32⟩
  | .hbm, ⟨44, _⟩ => ⟨S32x2048x4096, .f32⟩
  | .hbm, ⟨45, _⟩ => ⟨S32x2048x4096, .f32⟩
  | .hbm, ⟨46, _⟩ => ⟨S32x2048x4096, .f32⟩
  | .hbm, ⟨47, _⟩ => ⟨S_, .f32⟩
  | .hbm, ⟨48, _⟩ => ⟨S32x2048x4096, .f32⟩
  | .hbm, ⟨49, _⟩ => ⟨S32x2048x4096, .f32⟩
  | .hbm, ⟨50, _⟩ => ⟨S_, .f32⟩
  | .hbm, ⟨51, _⟩ => ⟨S32x2048x4096, .f32⟩
  | .hbm, ⟨52, _⟩ => ⟨S32x2048x4096, .f32⟩
  | .hbm, ⟨53, _⟩ => ⟨S32x2048x4x1024, .f32⟩
  | .hbm, ⟨54, _⟩ => ⟨S32x2048x1x1024, .f32⟩
  | .hbm, ⟨55, _⟩ => ⟨S32x2048x1024, .f32⟩
  | .hbm, ⟨56, _⟩ => ⟨S1x256x1024, .f32⟩
  | .hbm, ⟨57, _⟩ => ⟨S256x1024, .f32⟩
  | .hbm, ⟨58, _⟩ => ⟨S32x2048x1024, .f32⟩
  | .hbm, ⟨59, _⟩ => ⟨S32x2048x1024, .f32⟩
  | .hbm, ⟨60, _⟩ => ⟨S32x2048x1x1024, .f32⟩
  | .hbm, ⟨61, _⟩ => ⟨S32x2048x1024, .f32⟩
  | .hbm, ⟨62, _⟩ => ⟨S1x256x1024, .f32⟩
  | .hbm, ⟨63, _⟩ => ⟨S256x1024, .f32⟩
  | .hbm, ⟨64, _⟩ => ⟨S32x2048x1024, .f32⟩
  | .hbm, ⟨65, _⟩ => ⟨S32x2048x1024, .f32⟩
  | .hbm, ⟨66, _⟩ => ⟨S32x2048x1024, .f32⟩
  | .hbm, ⟨67, _⟩ => ⟨S32x2048x1x1024, .f32⟩
  | .hbm, ⟨68, _⟩ => ⟨S32x2048x1024, .f32⟩
  | .hbm, ⟨69, _⟩ => ⟨S1x256x1024, .f32⟩
  | .hbm, ⟨70, _⟩ => ⟨S256x1024, .f32⟩
  | .hbm, ⟨71, _⟩ => ⟨S32x2048x1024, .f32⟩
  | .hbm, ⟨72, _⟩ => ⟨S32x2048x1024, .f32⟩
  | .hbm, ⟨73, _⟩ => ⟨S32x2048x1024, .f32⟩
  | .hbm, ⟨74, _⟩ => ⟨S32x2048x1x1024, .f32⟩
  | .hbm, ⟨75, _⟩ => ⟨S32x2048x1024, .f32⟩
  | .hbm, ⟨76, _⟩ => ⟨S1x256x1024, .f32⟩
  | .hbm, ⟨77, _⟩ => ⟨S256x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S32x2048x1024, .f32⟩
  | .hbm, ⟨82, _⟩ => ⟨S32x2048x1024, .f32⟩
  | .hbm, ⟨83, _⟩ => ⟨S32x2048x1024, .f32⟩
  | .hbm, ⟨84, _⟩ => ⟨S32x2048x1024, .f32⟩
  | .hbm, ⟨85, _⟩ => ⟨S32x2048x1024, .f32⟩
  | .hbm, ⟨86, _⟩ => ⟨S_, .f32⟩
  | .hbm, ⟨87, _⟩ => ⟨S32x2048, .f32⟩
  | .hbm, ⟨88, _⟩ => ⟨S32x2048x1, .f32⟩
  | .hbm, ⟨89, _⟩ => ⟨S_, .f32⟩
  | .hbm, ⟨90, _⟩ => ⟨S32x2048x1, .f32⟩
  | .hbm, ⟨91, _⟩ => ⟨S32x2048x1, .f32⟩
  | .hbm, ⟨92, _⟩ => ⟨S_, .f32⟩
  | .hbm, ⟨93, _⟩ => ⟨S32x2048x1, .f32⟩
  | .hbm, ⟨94, _⟩ => ⟨S32x2048x1, .f32⟩
  | .hbm, ⟨95, _⟩ => ⟨S32x2048x1, .f32⟩
  | .hbm, ⟨96, _⟩ => ⟨S32x2048x1024, .f32⟩
  | .hbm, ⟨97, _⟩ => ⟨S32x2048x1024, .f32⟩
  | .hbm, ⟨98, _⟩ => ⟨S1x1x1024, .f32⟩
  | .hbm, ⟨99, _⟩ => ⟨S32x2048x1024, .f32⟩
  | .hbm, ⟨100, _⟩ => ⟨S32x2048x1024, .f32⟩
  | .hbm, ⟨101, _⟩ => ⟨S_, .f32⟩
  | .hbm, ⟨102, _⟩ => ⟨S32x1x1024, .f32⟩
  | .hbm, ⟨103, _⟩ => ⟨S32x1x1024, .f32⟩
  | .hbm, ⟨104, _⟩ => ⟨S32x2048x1024, .f32⟩
  | .hbm, ⟨105, _⟩ => ⟨S32x2048x1024, .f32⟩
  | .hbm, ⟨106, _⟩ => ⟨S32x2048x1024, .f32⟩
  | .hbm, ⟨107, _⟩ => ⟨S32x2048x1024, .f32⟩
  | .hbm, ⟨108, _⟩ => ⟨S32x2048x1024, .bf16⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_cst_4 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_5 : Ref sig .tc := ⟨.hbm, 86, rfl⟩
abbrev main_v67 : Ref sig .tc := ⟨.hbm, 87, rfl⟩
abbrev main_v68 : Ref sig .tc := ⟨.hbm, 88, rfl⟩
abbrev main_cst_6 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_8 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Kernel3.lean ====
abbrev S83456x1152 : Shape := ⟨2, ![83456, 1152]⟩
abbrev S163 : Shape := ⟨1, ![163]⟩
abbrev S16x1024x256 : Shape := ⟨3, ![16, 1024, 256]⟩
abbrev S16x256x1024 : Shape := ⟨3, ![16, 256, 1024]⟩
abbrev S16x1024x512 : Shape := ⟨3, ![16, 1024, 512]⟩
abbrev S4x4x1024x512 : Shape := ⟨4, ![4, 4, 1024, 512]⟩
abbrev S4x1024x1024 : Shape := ⟨3, ![4, 1024, 1024]⟩
abbrev S83456x1024 : Shape := ⟨2, ![83456, 1024]⟩
abbrev S512x1152 : Shape := ⟨2, ![512, 1152]⟩
abbrev S1x4x1024x512 : Shape := ⟨4, ![1, 4, 1024, 512]⟩
abbrev S1 : Shape := ⟨1, ![1]⟩
abbrev S1x1024x1024 : Shape := ⟨3, ![1, 1024, 1024]⟩
abbrev S512x1024 : Shape := ⟨2, ![512, 1024]⟩
abbrev S256x128 : Shape := ⟨2, ![256, 128]⟩
abbrev S1x1x1024x512 : Shape := ⟨4, ![1, 1, 1024, 512]⟩
abbrev S1024x512 : Shape := ⟨2, ![1024, 512]⟩
abbrev S1024x1024 : Shape := ⟨2, ![1024, 1024]⟩
abbrev S256x1024 : Shape := ⟨2, ![256, 1024]⟩
abbrev S256x512 : Shape := ⟨2, ![256, 512]⟩
abbrev S256x256 : Shape := ⟨2, ![256, 256]⟩
abbrev S256 : Shape := ⟨1, ![256]⟩
abbrev S256x1 : Shape := ⟨2, ![256, 1]⟩

abbrev nBuf : Space → Nat
  | .hbm => 10
  | .vmem => 8
  | .smem => 2
  | _ => 0

abbrev bufTy : (tb : Table) → Fin (tcTables nBuf tb) → BufTy
  | .hbm, ⟨0, _⟩ => ⟨S83456x1152, .bf16⟩
  | .hbm, ⟨1, _⟩ => ⟨S16x1024x256, .f32⟩
  | .hbm, ⟨2, _⟩ => ⟨S16x1024x256, .f32⟩
  | .hbm, ⟨3, _⟩ => ⟨S16x256x1024, .f32⟩
  | .hbm, ⟨4, _⟩ => ⟨S16x1024x512, .f32⟩
  | .hbm, ⟨5, _⟩ => ⟨S16x1024x512, .bf16⟩
  | .hbm, ⟨6, _⟩ => ⟨S4x4x1024x512, .bf16⟩
  | .hbm, ⟨7, _⟩ => ⟨S16x256x1024, .bf16⟩
  | .hbm, ⟨8, _⟩ => ⟨S4x1024x1024, .bf16⟩
  | .hbm, ⟨9, _⟩ => ⟨S83456x1024, .bf16⟩
  | .local _ .vmem, ⟨0, _⟩ => ⟨S512x1152, .bf16⟩
  | .local _ .vmem, ⟨1, _⟩ => ⟨S512x1152, .bf16⟩
  | .local _ .vmem, ⟨2, _⟩ => ⟨S1x4x1024x512, .bf16⟩
  | .local _ .vmem, ⟨3, _⟩ => ⟨S1x4x1024x512, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .bf16⟩
  | .local _ .vmem, ⟨7, _⟩ => ⟨S512x1024, .bf16⟩
  | .local _ .smem, ⟨0, _⟩ => ⟨S163, .i32⟩
  | .local _ .smem, ⟨1, _⟩ => ⟨S163, .i32⟩
  | _, _ => ⟨S83456x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![163], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v6 : Index := Scalar.indexCast arg0
  ![v6.toNat]
def k0_cond1 (v2 : BitVec 32) : BitVec 1 :=
  let c0_i32 : BitVec 32 := 0#32
  let v3 : BitVec 1 := Scalar.cmpi .ne v2 c0_i32
  let v4 : BitVec 32 := Scalar.extui v3
  let c0_i32_0 : BitVec 32 := 0#32
  let v5 : BitVec 1 := Scalar.cmpi .ne v4 c0_i32_0
  v5

def k0_cond2 (v7 : BitVec 32) : BitVec 1 :=
  let c0_i32_1 : BitVec 32 := 0#32
  let v8 : BitVec 1 := Scalar.cmpi .eq v7 c0_i32_1
  let v9 : BitVec 32 := Scalar.extui v8
  let c0_i32_2 : BitVec 32 := 0#32
  let v10 : BitVec 1 := Scalar.cmpi .ne v9 c0_i32_2
  v10

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S163.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (k0_off1_inb : ∀ i : grid0.Coords, ∀ a, (k0_off1 i) a + S1.size a ≤ S163.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S163) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S83456x1152 : Shape := ⟨2, ![83456, 1152]⟩
abbrev S163 : Shape := ⟨1, ![163]⟩
abbrev S16x1024x256 : Shape := ⟨3, ![16, 1024, 256]⟩
abbrev S16x256x1024 : Shape := ⟨3, ![16, 256, 1024]⟩
abbrev S83456x1024 : Shape := ⟨2, ![83456, 1024]⟩
abbrev S83456x12 : Shape := ⟨2, ![83456, 12]⟩
abbrev S83456x3x4 : Shape := ⟨3, ![83456, 3, 4]⟩
abbrev S_ : Shape := ⟨0, ![]⟩
abbrev S83456x4 : Shape := ⟨2, ![83456, 4]⟩
abbrev S163x512 : Shape := ⟨2, ![163, 512]⟩
abbrev S83456 : Shape := ⟨1, ![83456]⟩
abbrev S83456x1 : Shape := ⟨2, ![83456, 1]⟩
abbrev S4 : Shape := ⟨1, ![4]⟩
abbrev S1x4 : Shape := ⟨2, ![1, 4]⟩
abbrev S83456x4x1 : Shape := ⟨3, ![83456, 4, 1]⟩
abbrev S83456x1x4 : Shape := ⟨3, ![83456, 1, 4]⟩
abbrev S83456x4x4 : Shape := ⟨3, ![83456, 4, 4]⟩
abbrev S83456x16 : Shape := ⟨2, ![83456, 16]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S83456x256 : Shape := ⟨2, ![83456, 256]⟩

abbrev nBuf : Space → Nat
  | .hbm => 405
  | .vmem => 0
  | .smem => 0
  | _ => 0

abbrev hbmTy0_0 (i : Nat) : BufTy := match i % 128 with
  | 0 => ⟨S83456x1152, .bf16⟩
  | 1 => ⟨S163, .i32⟩
  | 2 => ⟨S163, .i32⟩
  | 3 => ⟨S16x1024x256, .f32⟩
  | 4 => ⟨S16x1024x256, .f32⟩
  | 5 => ⟨S16x256x1024, .f32⟩
  | 6 => ⟨S83456x1024, .bf16⟩
  | 7 => ⟨S83456x1024, .f32⟩
  | 8 => ⟨S83456x12, .bf16⟩
  | 9 => ⟨S83456x12, .f32⟩
  | 10 => ⟨S83456x3x4, .f32⟩
  | 11 => ⟨S_, .f32⟩
  | 12 => ⟨S83456x4, .f32⟩
  | 13 => ⟨S_, .i32⟩
  | 14 => ⟨S163, .i32⟩
  | 15 => ⟨S163, .i1⟩
  | 16 => ⟨S_, .i32⟩
  | 17 => ⟨S_, .i32⟩
  | 18 => ⟨S163, .i32⟩
  | 19 => ⟨S163, .i32⟩
  | 20 => ⟨S163x512, .i32⟩
  | 21 => ⟨S83456, .i32⟩
  | 22 => ⟨S83456x1, .i32⟩
  | 23 => ⟨S4, .i32⟩
  | 24 => ⟨S1x4, .i32⟩
  | 25 => ⟨S83456x4, .i32⟩
  | 26 => ⟨S83456x4, .i32⟩
  | 27 => ⟨S83456x4, .i1⟩
  | 28 => ⟨S83456x4x1, .i1⟩
  | 29 => ⟨S83456x1x4, .f32⟩
  | 30 => ⟨S_, .f32⟩
  | 31 => ⟨S_, .f32⟩
  | 32 => ⟨S83456x4x4, .i1⟩
  | 33 => ⟨S83456x4x4, .f32⟩
  | 34 => ⟨S83456x4x4, .f32⟩
  | 35 => ⟨S83456x4x4, .f32⟩
  | 36 => ⟨S83456x16, .f32⟩
  | 37 => ⟨S83456x1, .f32⟩
  | 38 => ⟨S1x1024x256, .f32⟩
  | 39 => ⟨S1024x256, .f32⟩
  | 40 => ⟨S1x1024x256, .f32⟩
  | 41 => ⟨S1024x256, .f32⟩
  | 42 => ⟨S1x256x1024, .f32⟩
  | 43 => ⟨S256x1024, .f32⟩
  | 44 => ⟨S83456x256, .f32⟩
  | 45 => ⟨S83456x256, .f32⟩
  | 46 => ⟨S83456x256, .f32⟩
  | 47 => ⟨S_, .f32⟩
  | 48 => ⟨S83456x256, .f32⟩
  | 49 => ⟨S83456x256, .f32⟩
  | 50 => ⟨S_, .f32⟩
  | 51 => ⟨S83456x256, .f32⟩
  | 52 => ⟨S83456x256, .f32⟩
  | 53 => ⟨S83456x256, .f32⟩
  | 54 => ⟨S83456x256, .f32⟩
  | 55 => ⟨S83456x256, .f32⟩
  | 56 => ⟨S83456x1024, .f32⟩
  | 57 => ⟨S83456x1024, .f32⟩
  | 58 => ⟨S83456x1024, .f32⟩
  | 59 => ⟨S83456x1, .f32⟩
  | 60 => ⟨S1x1024x256, .f32⟩
  | 61 => ⟨S1024x256, .f32⟩
  | 62 => ⟨S1x1024x256, .f32⟩
  | 63 => ⟨S1024x256, .f32⟩
  | 64 => ⟨S1x256x1024, .f32⟩
  | 65 => ⟨S256x1024, .f32⟩
  | 66 => ⟨S83456x256, .f32⟩
  | 67 => ⟨S83456x256, .f32⟩
  | 68 => ⟨S83456x256, .f32⟩
  | 69 => ⟨S_, .f32⟩
  | 70 => ⟨S83456x256, .f32⟩
  | 71 => ⟨S83456x256, .f32⟩
  | 72 => ⟨S_, .f32⟩
  | 73 => ⟨S83456x256, .f32⟩
  | 74 => ⟨S83456x256, .f32⟩
  | 75 => ⟨S83456x256, .f32⟩
  | 76 => ⟨S83456x256, .f32⟩
  | 77 => ⟨S83456x256, .f32⟩
  | 78 => ⟨S83456x1024, .f32⟩
  | 79 => ⟨S83456x1024, .f32⟩
  | 80 => ⟨S83456x1024, .f32⟩
  | 81 => ⟨S83456x1024, .f32⟩
  | 82 => ⟨S83456x1, .f32⟩
  | 83 => ⟨S1x1024x256, .f32⟩
  | 84 => ⟨S1024x256, .f32⟩
  | 85 => ⟨S1x1024x256, .f32⟩
  | 86 => ⟨S1024x256, .f32⟩
  | 87 => ⟨S1x256x1024, .f32⟩
  | 88 => ⟨S256x1024, .f32⟩
  | 89 => ⟨S83456x256, .f32⟩
  | 90 => ⟨S83456x256, .f32⟩
  | 91 => ⟨S83456x256, .f32⟩
  | 92 => ⟨S_, .f32⟩
  | 93 => ⟨S83456x256, .f32⟩
  | 94 => ⟨S83456x256, .f32⟩
  | 95 => ⟨S_, .f32⟩
  | 96 => ⟨S83456x256, .f32⟩
  | 97 => ⟨S83456x256, .f32⟩
  | 98 => ⟨S83456x256, .f32⟩
  | 99 => ⟨S83456x256, .f32⟩
  | 100 => ⟨S83456x256, .f32⟩
  | 101 => ⟨S83456x1024, .f32⟩
  | 102 => ⟨S83456x1024, .f32⟩
  | 103 => ⟨S83456x1024, .f32⟩
  | 104 => ⟨S83456x1024, .f32⟩
  | 105 => ⟨S83456x1, .f32⟩
  | 106 => ⟨S1x1024x256, .f32⟩
  | 107 => ⟨S1024x256, .f32⟩
  | 108 => ⟨S1x1024x256, .f32⟩
  | 109 => ⟨S1024x256, .f32⟩
  | 110 => ⟨S1x256x1024, .f32⟩
  | 111 => ⟨S256x1024, .f32⟩
  | 112 => ⟨S83456x256, .f32⟩
  | 113 => ⟨S83456x256, .f32⟩
  | 114 => ⟨S83456x256, .f32⟩
  | 115 => ⟨S_, .f32⟩
  | 116 => ⟨S83456x256, .f32⟩
  | 117 => ⟨S83456x256, .f32⟩
  | 118 => ⟨S_, .f32⟩
  | 119 => ⟨S83456x256, .f32⟩
  | 120 => ⟨S83456x256, .f32⟩
  | 121 => ⟨S83456x256, .f32⟩
  | 122 => ⟨S83456x256, .f32⟩
  | 123 => ⟨S83456x256, .f32⟩
  | 124 => ⟨S83456x1024, .f32⟩
  | 125 => ⟨S83456x1024, .f32⟩
  | 126 => ⟨S83456x1024, .f32⟩
  | 127 => ⟨S83456x1024, .f32⟩
  | _ => ⟨S83456x1152, .bf16⟩

abbrev hbmTy0_1 (i : Nat) : BufTy := match i % 128 with
  | 0 => ⟨S83456x1, .f32⟩
  | 1 => ⟨S1x1024x256, .f32⟩
  | 2 => ⟨S1024x256, .f32⟩
  | 3 => ⟨S1x1024x256, .f32⟩
  | 4 => ⟨S1024x256, .f32⟩
  | 5 => ⟨S1x256x1024, .f32⟩
  | 6 => ⟨S256x1024, .f32⟩
  | 7 => ⟨S83456x256, .f32⟩
  | 8 => ⟨S83456x256, .f32⟩
  | 9 => ⟨S83456x256, .f32⟩
  | 10 => ⟨S_, .f32⟩
  | 11 => ⟨S83456x256, .f32⟩
  | 12 => ⟨S83456x256, .f32⟩
  | 13 => ⟨S_, .f32⟩
  | 14 => ⟨S83456x256, .f32⟩
  | 15 => ⟨S83456x256, .f32⟩
  | 16 => ⟨S83456x256, .f32⟩
  | 17 => ⟨S83456x256, .f32⟩
  | 18 => ⟨S83456x256, .f32⟩
  | 19 => ⟨S83456x1024, .f32⟩
  | 20 => ⟨S83456x1024, .f32⟩
  | 21 => ⟨S83456x1024, .f32⟩
  | 22 => ⟨S83456x1024, .f32⟩
  | 23 => ⟨S83456x1, .f32⟩
  | 24 => ⟨S1x1024x256, .f32⟩
  | 25 => ⟨S1024x256, .f32⟩
  | 26 => ⟨S1x1024x256, .f32⟩
  | 27 => ⟨S1024x256, .f32⟩
  | 28 => ⟨S1x256x1024, .f32⟩
  | 29 => ⟨S256x1024, .f32⟩
  | 30 => ⟨S83456x256, .f32⟩
  | 31 => ⟨S83456x256, .f32⟩
  | 32 => ⟨S83456x256, .f32⟩
  | 33 => ⟨S_, .f32⟩
  | 34 => ⟨S83456x256, .f32⟩
  | 35 => ⟨S83456x256, .f32⟩
  | 36 => ⟨S_, .f32⟩
  | 37 => ⟨S83456x256, .f32⟩
  | 38 => ⟨S83456x256, .f32⟩
  | 39 => ⟨S83456x256, .f32⟩
  | 40 => ⟨S83456x256, .f32⟩
  | 41 => ⟨S83456x256, .f32⟩
  | 42 => ⟨S83456x1024, .f32⟩
  | 43 => ⟨S83456x1024, .f32⟩
  | 44 => ⟨S83456x1024, .f32⟩
  | 45 => ⟨S83456x1024, .f32⟩
  | 46 => ⟨S83456x1, .f32⟩
  | 47 => ⟨S1x1024x256, .f32⟩
  | 48 => ⟨S1024x256, .f32⟩
  | 49 => ⟨S1x1024x256, .f32⟩
  | 50 => ⟨S1024x256, .f32⟩
  | 51 => ⟨S1x256x1024, .f32⟩
  | 52 => ⟨S256x1024, .f32⟩
  | 53 => ⟨S83456x256, .f32⟩
  | 54 => ⟨S83456x256, .f32⟩
  | 55 => ⟨S83456x256, .f32⟩
  | 56 => ⟨S_, .f32⟩
  | 57 => ⟨S83456x256, .f32⟩
  | 58 => ⟨S83456x256, .f32⟩
  | 59 => ⟨S_, .f32⟩
  | 60 => ⟨S83456x256, .f32⟩
  | 61 => ⟨S83456x256, .f32⟩
  | 62 => ⟨S83456x256, .f32⟩
  | 63 => ⟨S83456x256, .f32⟩
  | 64 => ⟨S83456x256, .f32⟩
  | 65 => ⟨S83456x1024, .f32⟩
  | 66 => ⟨S83456x1024, .f32⟩
  | 67 => ⟨S83456x1024, .f32⟩
  | 68 => ⟨S83456x1024, .f32⟩
  | 69 => ⟨S83456x1, .f32⟩
  | 70 => ⟨S1x1024x256, .f32⟩
  | 71 => ⟨S1024x256, .f32⟩
  | 72 => ⟨S1x1024x256, .f32⟩
  | 73 => ⟨S1024x256, .f32⟩
  | 74 => ⟨S1x256x1024, .f32⟩
  | 75 => ⟨S256x1024, .f32⟩
  | 76 => ⟨S83456x256, .f32⟩
  | 77 => ⟨S83456x256, .f32⟩
  | 78 => ⟨S83456x256, .f32⟩
  | 79 => ⟨S_, .f32⟩
  | 80 => ⟨S83456x256, .f32⟩
  | 81 => ⟨S83456x256, .f32⟩
  | 82 => ⟨S_, .f32⟩
  | 83 => ⟨S83456x256, .f32⟩
  | 84 => ⟨S83456x256, .f32⟩
  | 85 => ⟨S83456x256, .f32⟩
  | 86 => ⟨S83456x256, .f32⟩
  | 87 => ⟨S83456x256, .f32⟩
  | 88 => ⟨S83456x1024, .f32⟩
  | 89 => ⟨S83456x1024, .f32⟩
  | 90 => ⟨S83456x1024, .f32⟩
  | 91 => ⟨S83456x1024, .f32⟩
  | 92 => ⟨S83456x1, .f32⟩
  | 93 => ⟨S1x1024x256, .f32⟩
  | 94 => ⟨S1024x256, .f32⟩
  | 95 => ⟨S1x1024x256, .f32⟩
  | 96 => ⟨S1024x256, .f32⟩
  | 97 => ⟨S1x256x1024, .f32⟩
  | 98 => ⟨S256x1024, .f32⟩
  | 99 => ⟨S83456x256, .f32⟩
  | 100 => ⟨S83456x256, .f32⟩
  | 101 => ⟨S83456x256, .f32⟩
  | 102 => ⟨S_, .f32⟩
  | 103 => ⟨S83456x256, .f32⟩
  | 104 => ⟨S83456x256, .f32⟩
  | 105 => ⟨S_, .f32⟩
  | 106 => ⟨S83456x256, .f32⟩
  | 107 => ⟨S83456x256, .f32⟩
  | 108 => ⟨S83456x256, .f32⟩
  | 109 => ⟨S83456x256, .f32⟩
  | 110 => ⟨S83456x256, .f32⟩
  | 111 => ⟨S83456x1024, .f32⟩
  | 112 => ⟨S83456x1024, .f32⟩
  | 113 => ⟨S83456x1024, .f32⟩
  | 114 => ⟨S83456x1024, .f32⟩
  | 115 => ⟨S83456x1, .f32⟩
  | 116 => ⟨S1x1024x256, .f32⟩
  | 117 => ⟨S1024x256, .f32⟩
  | 118 => ⟨S1x1024x256, .f32⟩
  | 119 => ⟨S1024x256, .f32⟩
  | 120 => ⟨S1x256x1024, .f32⟩
  | 121 => ⟨S256x1024, .f32⟩
  | 122 => ⟨S83456x256, .f32⟩
  | 123 => ⟨S83456x256, .f32⟩
  | 124 => ⟨S83456x256, .f32⟩
  | 125 => ⟨S_, .f32⟩
  | 126 => ⟨S83456x256, .f32⟩
  | 127 => ⟨S83456x256, .f32⟩
  | _ => ⟨S83456x1152, .bf16⟩

abbrev hbmTy0_2 (i : Nat) : BufTy := match i % 128 with
  | 0 => ⟨S_, .f32⟩
  | 1 => ⟨S83456x256, .f32⟩
  | 2 => ⟨S83456x256, .f32⟩
  | 3 => ⟨S83456x256, .f32⟩
  | 4 => ⟨S83456x256, .f32⟩
  | 5 => ⟨S83456x256, .f32⟩
  | 6 => ⟨S83456x1024, .f32⟩
  | 7 => ⟨S83456x1024, .f32⟩
  | 8 => ⟨S83456x1024, .f32⟩
  | 9 => ⟨S83456x1024, .f32⟩
  | 10 => ⟨S83456x1, .f32⟩
  | 11 => ⟨S1x1024x256, .f32⟩
  | 12 => ⟨S1024x256, .f32⟩
  | 13 => ⟨S1x1024x256, .f32⟩
  | 14 => ⟨S1024x256, .f32⟩
  | 15 => ⟨S1x256x1024, .f32⟩
  | 16 => ⟨S256x1024, .f32⟩
  | 17 => ⟨S83456x256, .f32⟩
  | 18 => ⟨S83456x256, .f32⟩
  | 19 => ⟨S83456x256, .f32⟩
  | 20 => ⟨S_, .f32⟩
  | 21 => ⟨S83456x256, .f32⟩
  | 22 => ⟨S83456x256, .f32⟩
  | 23 => ⟨S_, .f32⟩
  | 24 => ⟨S83456x256, .f32⟩
  | 25 => ⟨S83456x256, .f32⟩
  | 26 => ⟨S83456x256, .f32⟩
  | 27 => ⟨S83456x256, .f32⟩
  | 28 => ⟨S83456x256, .f32⟩
  | 29 => ⟨S83456x1024, .f32⟩
  | 30 => ⟨S83456x1024, .f32⟩
  | 31 => ⟨S83456x1024, .f32⟩
  | 32 => ⟨S83456x1024, .f32⟩
  | 33 => ⟨S83456x1, .f32⟩
  | 34 => ⟨S1x1024x256, .f32⟩
  | 35 => ⟨S1024x256, .f32⟩
  | 36 => ⟨S1x1024x256, .f32⟩
  | 37 => ⟨S1024x256, .f32⟩
  | 38 => ⟨S1x256x1024, .f32⟩
  | 39 => ⟨S256x1024, .f32⟩
  | 40 => ⟨S83456x256, .f32⟩
  | 41 => ⟨S83456x256, .f32⟩
  | 42 => ⟨S83456x256, .f32⟩
  | 43 => ⟨S_, .f32⟩
  | 44 => ⟨S83456x256, .f32⟩
  | 45 => ⟨S83456x256, .f32⟩
  | 46 => ⟨S_, .f32⟩
  | 47 => ⟨S83456x256, .f32⟩
  | 48 => ⟨S83456x256, .f32⟩
  | 49 => ⟨S83456x256, .f32⟩
  | 50 => ⟨S83456x256, .f32⟩
  | 51 => ⟨S83456x256, .f32⟩
  | 52 => ⟨S83456x1024, .f32⟩
  | 53 => ⟨S83456x1024, .f32⟩
  | 54 => ⟨S83456x1024, .f32⟩
  | 55 => ⟨S83456x1024, .f32⟩
  | 56 => ⟨S83456x1, .f32⟩
  | 57 => ⟨S1x1024x256, .f32⟩
  | 58 => ⟨S1024x256, .f32⟩
  | 59 => ⟨S1x1024x256, .f32⟩
  | 60 => ⟨S1024x256, .f32⟩
  | 61 => ⟨S1x256x1024, .f32⟩
  | 62 => ⟨S256x1024, .f32⟩
  | 63 => ⟨S83456x256, .f32⟩
  | 64 => ⟨S83456x256, .f32⟩
  | 65 => ⟨S83456x256, .f32⟩
  | 66 => ⟨S_, .f32⟩
  | 67 => ⟨S83456x256, .f32⟩
  | 68 => ⟨S83456x256, .f32⟩
  | 69 => ⟨S_, .f32⟩
  | 70 => ⟨S83456x256, .f32⟩
  | 71 => ⟨S83456x256, .f32⟩
  | 72 => ⟨S83456x256, .f32⟩
  | 73 => ⟨S83456x256, .f32⟩
  | 74 => ⟨S83456x256, .f32⟩
  | 75 => ⟨S83456x1024, .f32⟩
  | 76 => ⟨S83456x1024, .f32⟩
  | 77 => ⟨S83456x1024, .f32⟩
  | 78 => ⟨S83456x1024, .f32⟩
  | 79 => ⟨S83456x1, .f32⟩
  | 80 => ⟨S1x1024x256, .f32⟩
  | 81 => ⟨S1024x256, .f32⟩
  | 82 => ⟨S1x1024x256, .f32⟩
  | 83 => ⟨S1024x256, .f32⟩
  | 84 => ⟨S1x256x1024, .f32⟩
  | 85 => ⟨S256x1024, .f32⟩
  | 86 => ⟨S83456x256, .f32⟩
  | 87 => ⟨S83456x256, .f32⟩
  | 88 => ⟨S83456x256, .f32⟩
  | 89 => ⟨S_, .f32⟩
  | 90 => ⟨S83456x256, .f32⟩
  | 91 => ⟨S83456x256, .f32⟩
  | 92 => ⟨S_, .f32⟩
  | 93 => ⟨S83456x256, .f32⟩
  | 94 => ⟨S83456x256, .f32⟩
  | 95 => ⟨S83456x256, .f32⟩
  | 96 => ⟨S83456x256, .f32⟩
  | 97 => ⟨S83456x256, .f32⟩
  | 98 => ⟨S83456x1024, .f32⟩
  | 99 => ⟨S83456x1024, .f32⟩
  | 100 => ⟨S83456x1024, .f32⟩
  | 101 => ⟨S83456x1024, .f32⟩
  | 102 => ⟨S83456x1, .f32⟩
  | 103 => ⟨S1x1024x256, .f32⟩
  | 104 => ⟨S1024x256, .f32⟩
  | 105 => ⟨S1x1024x256, .f32⟩
  | 106 => ⟨S1024x256, .f32⟩
  | 107 => ⟨S1x256x1024, .f32⟩
  | 108 => ⟨S256x1024, .f32⟩
  | 109 => ⟨S83456x256, .f32⟩
  | 110 => ⟨S83456x256, .f32⟩
  | 111 => ⟨S83456x256, .f32⟩
  | 112 => ⟨S_, .f32⟩
  | 113 => ⟨S83456x256, .f32⟩
  | 114 => ⟨S83456x256, .f32⟩
  | 115 => ⟨S_, .f32⟩
  | 116 => ⟨S83456x256, .f32⟩
  | 117 => ⟨S83456x256, .f32⟩
  | 118 => ⟨S83456x256, .f32⟩
  | 119 => ⟨S83456x256, .f32⟩
  | 120 => ⟨S83456x256, .f32⟩
  | 121 => ⟨S83456x1024, .f32⟩
  | 122 => ⟨S83456x1024, .f32⟩
  | 123 => ⟨S83456x1024, .f32⟩
  | 124 => ⟨S83456x1024, .f32⟩
  | 125 => ⟨S83456x1, .f32⟩
  | 126 => ⟨S1x1024x256, .f32⟩
  | 127 => ⟨S1024x256, .f32⟩
  | _ => ⟨S83456x1152, .bf16⟩

abbrev hbmTy0_3 (i : Nat) : BufTy := match i % 128 with
  | 0 => ⟨S1x1024x256, .f32⟩
  | 1 => ⟨S1024x256, .f32⟩
  | 2 => ⟨S1x256x1024, .f32⟩
  | 3 => ⟨S256x1024, .f32⟩
  | 4 => ⟨S83456x256, .f32⟩
  | 5 => ⟨S83456x256, .f32⟩
  | 6 => ⟨S83456x256, .f32⟩
  | 7 => ⟨S_, .f32⟩
  | 8 => ⟨S83456x256, .f32⟩
  | 9 => ⟨S83456x256, .f32⟩
  | 10 => ⟨S_, .f32⟩
  | 11 => ⟨S83456x256, .f32⟩
  | 12 => ⟨S83456x256, .f32⟩
  | 13 => ⟨S83456x256, .f32⟩
  | 14 => ⟨S83456x256, .f32⟩
  | 15 => ⟨S83456x256, .f32⟩
  | 16 => ⟨S83456x1024, .f32⟩
  | 17 => ⟨S83456x1024, .f32⟩
  | 18 => ⟨S83456x1024, .f32⟩
  | 19 => ⟨S83456x1024, .f32⟩
  | 20 => ⟨S83456x1024, .bf16⟩
  | _ => ⟨S83456x1152, .bf16⟩

abbrev hbmTy (i : Nat) : BufTy := match i / 128 with
  | 0 => hbmTy0_0 i
  | 1 => hbmTy0_1 i
  | 2 => hbmTy0_2 i
  | 3 => hbmTy0_3 i
  | _ => ⟨S83456x1152, .bf16⟩

abbrev bufTy : (tb : Table) → Fin (tcTables nBuf tb) → BufTy
  | .hbm, ⟨i, _⟩ => hbmTy i
  | _, _ => ⟨S83456x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call2_v0 : Ref sig .tc := ⟨.hbm, 45, rfl⟩
abbrev main_call2_v1 : Ref sig .tc := ⟨.hbm, 46, rfl⟩
abbrev main_call2_cst : Ref sig .tc := ⟨.hbm, 47, rfl⟩
abbrev main_call2_v2 : Ref sig .tc := ⟨.hbm, 48, rfl⟩
abbrev main_call2_v3 : Ref sig .tc := ⟨.hbm, 49, rfl⟩
abbrev main_call2_cst_0 : Ref sig .tc := ⟨.hbm, 50, rfl⟩
abbrev main_call2_v4 : Ref sig .tc := ⟨.hbm, 51, rfl⟩
abbrev main_call2_v5 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_call3_v0 : Ref sig .tc := ⟨.hbm, 67, rfl⟩
abbrev main_call3_v1 : Ref sig .tc := ⟨.hbm, 68, rfl⟩
abbrev main_call3_cst : Ref sig .tc := ⟨.hbm, 69, rfl⟩
abbrev main_call3_v2 : Ref sig .tc := ⟨.hbm, 70, rfl⟩
abbrev main_call3_v3 : Ref sig .tc := ⟨.hbm, 71, rfl⟩
abbrev main_call3_cst_0 : Ref sig .tc := ⟨.hbm, 72, rfl⟩
abbrev main_call3_v4 : Ref sig .tc := ⟨.hbm, 73, rfl⟩
abbrev main_call3_v5 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_call4_v0 : Ref sig .tc := ⟨.hbm, 90, rfl⟩
abbrev main_call4_v1 : Ref sig .tc := ⟨.hbm, 91, rfl⟩
abbrev main_call4_cst : Ref sig .tc := ⟨.hbm, 92, rfl⟩
abbrev main_call4_v2 : Ref sig .tc := ⟨.hbm, 93, rfl⟩
abbrev main_call4_v3 : Ref sig .tc := ⟨.hbm, 94, rfl⟩
abbrev main_call4_cst_0 : Ref sig .tc := ⟨.hbm, 95, rfl⟩
abbrev main_call4_v4 : Ref sig .tc := ⟨.hbm, 96, rfl⟩
abbrev main_call4_v5 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_call5_v0 : Ref sig .tc := ⟨.hbm, 113, rfl⟩
abbrev main_call5_v1 : Ref sig .tc := ⟨.hbm, 114, rfl⟩
abbrev main_call5_cst : Ref sig .tc := ⟨.hbm, 115, rfl⟩
abbrev main_call5_v2 : Ref sig .tc := ⟨.hbm, 116, rfl⟩
abbrev main_call5_v3 : Ref sig .tc := ⟨.hbm, 117, rfl⟩
abbrev main_call5_cst_0 : Ref sig .tc := ⟨.hbm, 118, rfl⟩
abbrev main_call5_v4 : Ref sig .tc := ⟨.hbm, 119, rfl⟩
abbrev main_call5_v5 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_call6_v0 : Ref sig .tc := ⟨.hbm, 136, rfl⟩
abbrev main_call6_v1 : Ref sig .tc := ⟨.hbm, 137, rfl⟩
abbrev main_call6_cst : Ref sig .tc := ⟨.hbm, 138, rfl⟩
abbrev main_call6_v2 : Ref sig .tc := ⟨.hbm, 139, rfl⟩
abbrev main_call6_v3 : Ref sig .tc := ⟨.hbm, 140, rfl⟩
abbrev main_call6_cst_0 : Ref sig .tc := ⟨.hbm, 141, rfl⟩
abbrev main_call6_v4 : Ref sig .tc := ⟨.hbm, 142, rfl⟩
abbrev main_call6_v5 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_call7_v0 : Ref sig .tc := ⟨.hbm, 159, rfl⟩
abbrev main_call7_v1 : Ref sig .tc := ⟨.hbm, 160, rfl⟩
abbrev main_call7_cst : Ref sig .tc := ⟨.hbm, 161, rfl⟩
abbrev main_call7_v2 : Ref sig .tc := ⟨.hbm, 162, rfl⟩
abbrev main_call7_v3 : Ref sig .tc := ⟨.hbm, 163, rfl⟩
abbrev main_call7_cst_0 : Ref sig .tc := ⟨.hbm, 164, rfl⟩
abbrev main_call7_v4 : Ref sig .tc := ⟨.hbm, 165, rfl⟩
abbrev main_call7_v5 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_call8_v0 : Ref sig .tc := ⟨.hbm, 182, rfl⟩
abbrev main_call8_v1 : Ref sig .tc := ⟨.hbm, 183, rfl⟩
abbrev main_call8_cst : Ref sig .tc := ⟨.hbm, 184, rfl⟩
abbrev main_call8_v2 : Ref sig .tc := ⟨.hbm, 185, rfl⟩
abbrev main_call8_v3 : Ref sig .tc := ⟨.hbm, 186, rfl⟩
abbrev main_call8_cst_0 : Ref sig .tc := ⟨.hbm, 187, rfl⟩
abbrev main_call8_v4 : Ref sig .tc := ⟨.hbm, 188, rfl⟩
abbrev main_call8_v5 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_call9_v0 : Ref sig .tc := ⟨.hbm, 205, rfl⟩
abbrev main_call9_v1 : Ref sig .tc := ⟨.hbm, 206, rfl⟩
abbrev main_call9_cst : Ref sig .tc := ⟨.hbm, 207, rfl⟩
abbrev main_call9_v2 : Ref sig .tc := ⟨.hbm, 208, rfl⟩
abbrev main_call9_v3 : Ref sig .tc := ⟨.hbm, 209, rfl⟩
abbrev main_call9_cst_0 : Ref sig .tc := ⟨.hbm, 210, rfl⟩
abbrev main_call9_v4 : Ref sig .tc := ⟨.hbm, 211, rfl⟩
abbrev main_call9_v5 : Ref sig .tc := ⟨.hbm, 212, rfl⟩
abbrev main_v133 : Ref sig .tc := ⟨.hbm, 213, rfl⟩
abbrev main_v134 : Ref sig .tc := ⟨.hbm, 214, rfl⟩
abbrev main_v135 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_v139 : Ref sig .tc := ⟨.hbm, 219, rfl⟩
abbrev main_v140 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_v146 : Ref sig .tc := ⟨.hbm, 226, rfl⟩
abbrev main_v147 : Ref sig .tc := ⟨.hbm, 227, rfl⟩
abbrev main_call10_v0 : Ref sig .tc := ⟨.hbm, 228, rfl⟩
abbrev main_call10_v1 : Ref sig .tc := ⟨.hbm, 229, rfl⟩
abbrev main_call10_cst : Ref sig .tc := ⟨.hbm, 230, rfl⟩
abbrev main_call10_v2 : Ref sig .tc := ⟨.hbm, 231, rfl⟩
abbrev main_call10_v3 : Ref sig .tc := ⟨.hbm, 232, rfl⟩
abbrev main_call10_cst_0 : Ref sig .tc := ⟨.hbm, 233, rfl⟩
abbrev main_call10_v4 : Ref sig .tc := ⟨.hbm, 234, rfl⟩
abbrev main_call10_v5 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_call11_v0 : Ref sig .tc := ⟨.hbm, 251, rfl⟩
abbrev main_call11_v1 : Ref sig .tc := ⟨.hbm, 252, rfl⟩
abbrev main_call11_cst : Ref sig .tc := ⟨.hbm, 253, rfl⟩
abbrev main_call11_v2 : Ref sig .tc := ⟨.hbm, 254, rfl⟩
abbrev main_call11_v3 : Ref sig .tc := ⟨.hbm, 255, rfl⟩
abbrev main_call11_cst_0 : Ref sig .tc := ⟨.hbm, 256, rfl⟩
abbrev main_call11_v4 : Ref sig .tc := ⟨.hbm, 257, rfl⟩
abbrev main_call11_v5 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_v172 : Ref sig .tc := ⟨.hbm, 268, rfl⟩
abbrev main_v173 : Ref sig .tc := ⟨.hbm, 269, rfl⟩
abbrev main_v174 : Ref sig .tc := ⟨.hbm, 270, rfl⟩
abbrev main_v175 : Ref sig .tc := ⟨.hbm, 271, rfl⟩
abbrev main_v176 : Ref sig .tc := ⟨.hbm, 272, rfl⟩
abbrev main_v177 : Ref sig .tc := ⟨.hbm, 273, rfl⟩
abbrev main_call12_v0 : Ref sig .tc := ⟨.hbm, 274, rfl⟩
abbrev main_call12_v1 : Ref sig .tc := ⟨.hbm, 275, rfl⟩
abbrev main_call12_cst : Ref sig .tc := ⟨.hbm, 276, rfl⟩
abbrev main_call12_v2 : Ref sig .tc := ⟨.hbm, 277, rfl⟩
abbrev main_call12_v3 : Ref sig .tc := ⟨.hbm, 278, rfl⟩
abbrev main_call12_cst_0 : Ref sig .tc := ⟨.hbm, 279, rfl⟩
abbrev main_call12_v4 : Ref sig .tc := ⟨.hbm, 280, rfl⟩
abbrev main_call12_v5 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_v185 : Ref sig .tc := ⟨.hbm, 289, rfl⟩
abbrev main_v186 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_call13_v0 : Ref sig .tc := ⟨.hbm, 297, rfl⟩
abbrev main_call13_v1 : Ref sig .tc := ⟨.hbm, 298, rfl⟩
abbrev main_call13_cst : Ref sig .tc := ⟨.hbm, 299, rfl⟩
abbrev main_call13_v2 : Ref sig .tc := ⟨.hbm, 300, rfl⟩
abbrev main_call13_v3 : Ref sig .tc := ⟨.hbm, 301, rfl⟩
abbrev main_call13_cst_0 : Ref sig .tc := ⟨.hbm, 302, rfl⟩
abbrev main_call13_v4 : Ref sig .tc := ⟨.hbm, 303, rfl⟩
abbrev main_call13_v5 : Ref sig .tc := ⟨.hbm, 304, rfl⟩
abbrev main_v193 : Ref sig .tc := ⟨.hbm, 305, rfl⟩
abbrev main_v194 : Ref sig .tc := ⟨.hbm, 306, rfl⟩
abbrev main_v195 : Ref sig .tc := ⟨.hbm, 307, rfl⟩
abbrev main_v196 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_v205 : Ref sig .tc := ⟨.hbm, 317, rfl⟩
abbrev main_v206 : Ref sig .tc := ⟨.hbm, 318, rfl⟩
abbrev main_v207 : Ref sig .tc := ⟨.hbm, 319, rfl⟩
abbrev main_call14_v0 : Ref sig .tc := ⟨.hbm, 320, rfl⟩
abbrev main_call14_v1 : Ref sig .tc := ⟨.hbm, 321, rfl⟩
abbrev main_call14_cst : Ref sig .tc := ⟨.hbm, 322, rfl⟩
abbrev main_call14_v2 : Ref sig .tc := ⟨.hbm, 323, rfl⟩
abbrev main_call14_v3 : Ref sig .tc := ⟨.hbm, 324, rfl⟩
abbrev main_call14_cst_0 : Ref sig .tc := ⟨.hbm, 325, rfl⟩
abbrev main_call14_v4 : Ref sig .tc := ⟨.hbm, 326, rfl⟩
abbrev main_call14_v5 : Ref sig .tc := ⟨.hbm, 327, rfl⟩
abbrev main_v208 : Ref sig .tc := ⟨.hbm, 328, rfl⟩
abbrev main_v209 : Ref sig .tc := ⟨.hbm, 329, rfl⟩
abbrev main_v210 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_v215 : Ref sig .tc := ⟨.hbm, 335, rfl⟩
abbrev main_v216 : Ref sig .tc := ⟨.hbm, 336, rfl⟩
abbrev main_v217 : Ref sig .tc := ⟨.hbm, 337, rfl⟩
abbrev main_v218 : Ref sig .tc := ⟨.hbm, 338, rfl⟩
abbrev main_v219 : Ref sig .tc := ⟨.hbm, 339, rfl⟩
abbrev main_v220 : Ref sig .tc := ⟨.hbm, 340, rfl⟩
abbrev main_v221 : Ref sig .tc := ⟨.hbm, 341, rfl⟩
abbrev main_v222 : Ref sig .tc := ⟨.hbm, 342, rfl⟩
abbrev main_call15_v0 : Ref sig .tc := ⟨.hbm, 343, rfl⟩
abbrev main_call15_v1 : Ref sig .tc := ⟨.hbm, 344, rfl⟩
abbrev main_call15_cst : Ref sig .tc := ⟨.hbm, 345, rfl⟩
abbrev main_call15_v2 : Ref sig .tc := ⟨.hbm, 346, rfl⟩
abbrev main_call15_v3 : Ref sig .tc := ⟨.hbm, 347, rfl⟩
abbrev main_call15_cst_0 : Ref sig .tc := ⟨.hbm, 348, rfl⟩
abbrev main_call15_v4 : Ref sig .tc := ⟨.hbm, 349, rfl⟩
abbrev main_call15_v5 : Ref sig .tc := ⟨.hbm, 350, rfl⟩
abbrev main_v223 : Ref sig .tc := ⟨.hbm, 351, rfl⟩
abbrev main_v224 : Ref sig .tc := ⟨.hbm, 352, rfl⟩
abbrev main_v225 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_v230 : Ref sig .tc := ⟨.hbm, 358, rfl⟩
abbrev main_v231 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_v235 : Ref sig .tc := ⟨.hbm, 363, rfl⟩
abbrev main_v236 : Ref sig .tc := ⟨.hbm, 364, rfl⟩
abbrev main_v237 : Ref sig .tc := ⟨.hbm, 365, rfl⟩
abbrev main_call16_v0 : Ref sig .tc := ⟨.hbm, 366, rfl⟩
abbrev main_call16_v1 : Ref sig .tc := ⟨.hbm, 367, rfl⟩
abbrev main_call16_cst : Ref sig .tc := ⟨.hbm, 368, rfl⟩
abbrev main_call16_v2 : Ref sig .tc := ⟨.hbm, 369, rfl⟩
abbrev main_call16_v3 : Ref sig .tc := ⟨.hbm, 370, rfl⟩
abbrev main_call16_cst_0 : Ref sig .tc := ⟨.hbm, 371, rfl⟩
abbrev main_call16_v4 : Ref sig .tc := ⟨.hbm, 372, rfl⟩
abbrev main_call16_v5 : Ref sig .tc := ⟨.hbm, 373, rfl⟩
abbrev main_v238 : Ref sig .tc := ⟨.hbm, 374, rfl⟩
abbrev main_v239 : Ref sig .tc := ⟨.hbm, 375, rfl⟩
abbrev main_v240 : Ref sig .tc := ⟨.hbm, 376, rfl⟩
abbrev main_v241 : Ref sig .tc := ⟨.hbm, 377, rfl⟩
abbrev main_v242 : Ref sig .tc := ⟨.hbm, 378, rfl⟩
abbrev main_v243 : Ref sig .tc := ⟨.hbm, 379, rfl⟩
abbrev main_v244 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_v248 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_v252 : Ref sig .tc := ⟨.hbm, 388, rfl⟩
abbrev main_call17_v0 : Ref sig .tc := ⟨.hbm, 389, rfl⟩
abbrev main_call17_v1 : Ref sig .tc := ⟨.hbm, 390, rfl⟩
abbrev main_call17_cst : Ref sig .tc := ⟨.hbm, 391, rfl⟩
abbrev main_call17_v2 : Ref sig .tc := ⟨.hbm, 392, rfl⟩
abbrev main_call17_v3 : Ref sig .tc := ⟨.hbm, 393, rfl⟩
abbrev main_call17_cst_0 : Ref sig .tc := ⟨.hbm, 394, rfl⟩
abbrev main_call17_v4 : Ref sig .tc := ⟨.hbm, 395, rfl⟩
abbrev main_call17_v5 : Ref sig .tc := ⟨.hbm, 396, rfl⟩
abbrev main_v253 : Ref sig .tc := ⟨.hbm, 397, rfl⟩
abbrev main_v254 : Ref sig .tc := ⟨.hbm, 398, rfl⟩
abbrev main_v255 : Ref sig .tc := ⟨.hbm, 399, rfl⟩
abbrev main_v256 : Ref sig .tc := ⟨.hbm, 400, rfl⟩
abbrev main_v257 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩

abbrev nD : Nat := 1
abbrev τ : Topo := Topo.v7x

variable {F : FTy → Type} [FloatOps F]
-- ==== Proof.BandPay.lean ====
/-
  One trip of the band attention's loop, at the ideal reading: what its payloads are at an index.

  A trip takes 256 query rows, the 768 keys of their window, two pairs of heads. Each pair's two heads share 128 lanes:
  a head's scores are a product over all 128 lanes with the other head's lanes of the query set to zero, its weights are
  multiplied with the pair's value lanes where the other head's lanes are replaced by ones, so those lanes come out as
  the sum of the weights, and a rotation by 64 lanes brings that sum under the head's own lanes.
-/
module

public import proofs.«01_k».proof.Proof.Gen.KernelIdeal.Skeleton
public import Idealize.ShloMosaic.Lib.Pointwise

@[expose] public section

set_option maxRecDepth 16384

noncomputable section

namespace Cert.KernelIdeal.Band

open Cert.KernelIdeal Cert.KernelIdeal.Gen Idealize.ShloMosaic Idealize.ShloMosaic.TcCoe Idealize.SL.Sem

/-- The largest of the 768 scores of a row. -/
def top (s : Fin 768 → EReal) : EReal := Finset.univ.fold max ⊥ s

/-- The sum of `w` over a row's window, weighted by the powers of two of the scores under the largest. -/
def att (s w : Fin 768 → EReal) : EReal := ∑ c, Ideal.exp2 (s c - top s) * w c

/-- The pattern of minus infinity is the least extended real. -/
theorem ofBits_negInf : Ideal.ofBits .f32 0xFF800000#32 = ⊥ := by
  simp [Ideal.ofBits, Ideal.ieee]

/-- The scale of the scores, one eighth over the natural logarithm of two. -/
def qscale : EReal := ((8⁻¹ * (Real.log 2)⁻¹ : ℝ) : EReal)
/-- The logarithm of `e` to the base two. -/
def log2e : EReal := (((Real.log 2)⁻¹ : ℝ) : EReal)

theorem named_qscale : (Named.named κ "qscale" 0x3E38AA3B#32 : Ideal .f32) = qscale :=
  IdealRules.named_const.ideal_named_scalar _ _ _ _ rfl
theorem named_log2e : (Named.named κ "log2e" 0x3FB8AA3B#32 : Ideal .f32) = log2e :=
  IdealRules.named_const.ideal_named_scalar _ _ _ _ rfl

/-- The lanes of the first head of a pair. -/
theorem own0 (c : Fin 768) (l : Fin 128) : k0_pay19 (ix2 c l) = BitVec.ofBool (decide (l.val < 64)) := by
  pointwise [k0_pay19]
  revert l; decide +kernel

/-- The lanes of the second head of a pair. -/
theorem own1 (c : Fin 768) (l : Fin 128) :
    k0_pay1 k0_pay20 k0_pay21 k0_pay22 (ix2 c l) = BitVec.ofBool (decide (64 ≤ l.val)) := by
  pointwise [k0_pay1, k0_pay20, k0_pay21, k0_pay22]
  revert l; decide +kernel

/-- The test of a lane against 64, as a bit. -/
theorem lane_lt (l : Fin 128) : IntOp.cmpi .slt (BitVec.ofNat 32 l.val) 64#32 = BitVec.ofBool (decide (l.val < 64)) := by
  revert l; decide +kernel

theorem select_ofBool {α : Type} (p : Prop) [Decidable p] (a b : α) :
    Scalar.select (BitVec.ofBool (decide p)) a b = if p then a else b := by
  by_cases h : p <;> simp [Scalar.select, h]

/-- A head's scores: the product over the pair's 128 lanes of the scaled queries and the keys, plus the scaled bias. -/
theorem score0 (k : Vec Ideal S1x768x128 .bf16) (q : Vec Ideal S1x256x128 .f32) (m : Vec Ideal S1x1x128 .bf16)
    (b : Vec Ideal S1x1x256x768 .f32) (r : Fin 256) (c : Fin 768) : k0_pay11 (k0_pay10 k q m) b (ix2 r c)
      = ∑ x, q (ix3 0 r x) * qscale * m (ix3 0 0 x) * k (ix3 0 c x) + b (ix4 0 0 r c) * log2e := by
  pointwise [k0_pay11, k0_pay10, k0_pay8, k0_pay4]
  simp only [named_qscale, named_log2e]
theorem score1 (k : Vec Ideal S1x768x128 .bf16) (q : Vec Ideal S1x256x128 .f32) (m : Vec Ideal S1x1x128 .bf16)
    (b : Vec Ideal S1x1x256x768 .f32) (r : Fin 256) (c : Fin 768) : k0_pay12 (k0_pay4 k) (k0_pay8 q) m b (ix2 r c)
      = ∑ x, q (ix3 0 r x) * qscale * m (ix3 0 0 x) * k (ix3 0 c x) + b (ix4 0 0 r c) * log2e := by
  pointwise [k0_pay12, k0_pay8, k0_pay4]
  simp only [named_qscale, named_log2e]
theorem score2 (k : Vec Ideal S1x768x128 .bf16) (q : Vec Ideal S1x256x128 .f32) (m : Vec Ideal S1x1x128 .bf16)
    (b : Vec Ideal S1x1x256x768 .f32) (r : Fin 256) (c : Fin 768) : k0_pay13 (k0_pay5 k) (k0_pay9 q) m b (ix2 r c)
      = ∑ x, q (ix3 0 r x) * qscale * m (ix3 0 0 x) * k (ix3 0 c x) + b (ix4 0 0 r c) * log2e := by
  pointwise [k0_pay13, k0_pay9, k0_pay5]
  simp only [named_qscale, named_log2e]
/-- The last head's scores, whose bias is added where the weights are taken. -/
def s3 (k : Vec Ideal S1x768x128 .bf16) (q : Vec Ideal S1x256x128 .f32) (m : Vec Ideal S1x1x128 .bf16)
    (b : Vec Ideal S1x1x256x768 .f32) (r : Fin 256) (c : Fin 768) : EReal :=
  k0_pay14 (k0_pay5 k) (k0_pay9 q) m (ix2 r c) + b (ix4 0 0 r c) * log2e
theorem score3 (k : Vec Ideal S1x768x128 .bf16) (q : Vec Ideal S1x256x128 .f32) (m : Vec Ideal S1x1x128 .bf16)
    (b : Vec Ideal S1x1x256x768 .f32) (r : Fin 256) (c : Fin 768) : s3 k q m b r c
      = ∑ x, q (ix3 0 r x) * qscale * m (ix3 0 0 x) * k (ix3 0 c x) + b (ix4 0 0 r c) * log2e := by
  unfold s3
  pointwise [k0_pay14, k0_pay9, k0_pay5]
  simp only [named_qscale]

/-- The first pair's output at a row and lane: the head of the lane, its weighted values over its sum of weights. -/
theorem pair0 (v : Vec Ideal S1x768x128 .bf16) (s0 s1 : FVec Ideal S256x768 .f32) (r : Fin 256) (l : Fin 128) :
    k0_pay2 (iota .tc S256x128 32 [1] iota_S256x128_d1_w32) (k0_pay17 k0_pay19 (k0_pay6 v) s0)
        (k0_pay18 (k0_pay1 k0_pay20 k0_pay21 k0_pay22) (k0_pay6 v) s1) 64#32 (ix3 0 r l)
      = if l.val < 64 then Ideal.div (att (fun c => s0 (ix2 r c)) fun c => v (ix3 0 c l)) (att (fun c => s0 (ix2 r c)) fun _ => 1)
        else Ideal.div (att (fun c => s1 (ix2 r c)) fun c => v (ix3 0 c l)) (att (fun c => s1 (ix2 r c)) fun _ => 1) := by
  pointwise [k0_pay2, k0_pay17, k0_pay18, k0_pay6]
  simp only [own0, own1, lane_lt, select_ofBool, ofBits_negInf]
  unfold att top
  by_cases h : l.val < 64
  · have h2 : ¬ (l.val + 128 - 64) % 128 < 64 := by omega
    simp only [h, h2, if_true, if_false]; rfl
  · have h2 : ¬ 64 ≤ (l.val + 128 - 64) % 128 := by omega
    have h3 : 64 ≤ l.val := by omega
    simp only [h, h2, h3, if_true, if_false]; rfl

/-- The second pair's. -/
theorem pair1 (v : Vec Ideal S1x768x128 .bf16) (s0 : FVec Ideal S256x768 .f32)
    (k : Vec Ideal S1x768x128 .bf16) (q : Vec Ideal S1x256x128 .f32) (m : Vec Ideal S1x1x128 .bf16)
    (b : Vec Ideal S1x1x256x768 .f32) (r : Fin 256) (l : Fin 128) :
    k0_pay3 (iota .tc S256x128 32 [1] iota_S256x128_d1_w32) (k0_pay15 k0_pay19 (k0_pay7 v) s0)
        (k0_pay16 (k0_pay1 k0_pay20 k0_pay21 k0_pay22) (k0_pay7 v) (k0_pay14 (k0_pay5 k) (k0_pay9 q) m) b) (ix3 0 r l)
      = if l.val < 64 then Ideal.div (att (fun c => s0 (ix2 r c)) fun c => v (ix3 0 c l)) (att (fun c => s0 (ix2 r c)) fun _ => 1)
        else Ideal.div (att (s3 k q m b r) fun c => v (ix3 0 c l)) (att (s3 k q m b r) fun _ => 1) := by
  pointwise [k0_pay3, k0_pay15, k0_pay16, k0_pay7]
  simp only [own0, own1, lane_lt, select_ofBool, ofBits_negInf, named_log2e]
  unfold att top
  by_cases h : l.val < 64
  · have h2 : ¬ (l.val + 128 - 64) % 128 < 64 := by omega
    simp only [h, h2, if_true, if_false]; rfl
  · have h2 : ¬ 64 ≤ (l.val + 128 - 64) % 128 := by omega
    have h3 : 64 ≤ l.val := by omega
    simp only [h, h2, h3, if_true, if_false]; rfl

end Cert.KernelIdeal.Band
-- ==== Proof.BandBlock.lean ====
/-
  What the band attention's body leaves in its block of the output, at the ideal reading.

  The body's loop runs eight trips; trip `k` stores the output rows `256 k … 256 k + 255`, one pair of heads at a time.
  `blockOut` is that block as one function of the five input blocks; every stored piece agrees with it (`piece_hi`,
  `piece_lo`), the pieces cover the block, so the block is it (`out_eq`).
-/
module

public import proofs.«01_k».proof.Proof.BandPay
public import proofs.«01_k».proof.Proof.Gen.KernelIdeal.Frame
public import Idealize.ShloMosaic.Lib.Pipeline.ValueKit

@[expose] public section

set_option maxRecDepth 16384

noncomputable section

namespace Cert.KernelIdeal.Band

open Cert.KernelIdeal Cert.KernelIdeal.Gen Idealize.ShloMosaic Idealize.ShloMosaic.TcCoe Idealize.SL.Sem

/-- The first key of the window of query block `t`. -/
def win0 (t : ℕ) : ℕ := 256 * t - 512

theorem win0_lt {t c : ℕ} (ht : t < 8) (hc : c < 768) : win0 t + c < 2048 := by unfold win0; omega

/-- Head `h`'s score of row `r` of query block `t` against key `c` of the block's window. -/
def score (q : Vec Ideal S1x2048x256 .f32) (k : Vec Ideal S1x2048x256 .bf16) (hm : Vec Ideal S2x2x128 .bf16) (b : Vec Ideal S4x3x256x768 .f32)
    (h : Fin 4) (t : Fin 8) (r : Fin 256) (c : Fin 768) : EReal :=
  ∑ x : Fin 128, q (ix3 0 ⟨256 * t.val + r.val, by omega⟩ ⟨128 * (h.val / 2) + x.val, by omega⟩) * qscale
      * hm (ix3 ⟨h.val / 2, by omega⟩ ⟨h.val % 2, by omega⟩ x)
      * k (ix3 0 ⟨win0 t.val + c.val, win0_lt t.isLt c.isLt⟩ ⟨128 * (h.val / 2) + x.val, by omega⟩)
    + b (ix4 h ⟨min t.val 2, by omega⟩ r c) * log2e

/-- The output block at row `s` and lane `w`: head `w / 64`, query block `s / 256`. -/
def blockOut (q : Vec Ideal S1x2048x256 .f32) (k v : Vec Ideal S1x2048x256 .bf16) (hm : Vec Ideal S2x2x128 .bf16) (b : Vec Ideal S4x3x256x768 .f32)
    (s : Fin 2048) (w : Fin 256) : EReal :=
  Ideal.div
    (att (score q k hm b ⟨w.val / 64, by omega⟩ ⟨s.val / 256, by omega⟩ ⟨s.val % 256, by omega⟩)
      fun c => v (ix3 0 ⟨win0 (s.val / 256) + c.val, win0_lt (by omega) c.isLt⟩ w))
    (att (score q k hm b ⟨w.val / 64, by omega⟩ ⟨s.val / 256, by omega⟩ ⟨s.val % 256, by omega⟩) fun _ => 1)

/-- `blockOut` in the coordinates of one trip: row `r` of query block `t`, lane `l` of pair `p`. -/
theorem blockOut_at (q : Vec Ideal S1x2048x256 .f32) (k v : Vec Ideal S1x2048x256 .bf16) (hm : Vec Ideal S2x2x128 .bf16) (b : Vec Ideal S4x3x256x768 .f32)
    (t : Fin 8) (r : Fin 256) (p : Fin 2) (l : Fin 128) (s : Fin 2048) (w : Fin 256)
    (hs : s.val = 256 * t.val + r.val) (hw : w.val = 128 * p.val + l.val) :
    blockOut q k v hm b s w
      = if l.val < 64 then
          Ideal.div (att (score q k hm b ⟨2 * p.val, by omega⟩ t r)
              fun c => v (ix3 0 ⟨win0 t.val + c.val, win0_lt t.isLt c.isLt⟩ w))
            (att (score q k hm b ⟨2 * p.val, by omega⟩ t r) fun _ => 1)
        else
          Ideal.div (att (score q k hm b ⟨2 * p.val + 1, by omega⟩ t r)
              fun c => v (ix3 0 ⟨win0 t.val + c.val, win0_lt t.isLt c.isLt⟩ w))
            (att (score q k hm b ⟨2 * p.val + 1, by omega⟩ t r) fun _ => 1) := by
  have e1 : (⟨s.val / 256, by omega⟩ : Fin 8) = t := Fin.ext (by show s.val / 256 = t.val; omega)
  have e2 : (⟨s.val % 256, by omega⟩ : Fin 256) = r := Fin.ext (by show s.val % 256 = r.val; omega)
  have e3 : s.val / 256 = t.val := by omega
  unfold blockOut
  simp only [e1, e2, e3]
  by_cases h : l.val < 64
  · have e4 : (⟨w.val / 64, by omega⟩ : Fin 4) = ⟨2 * p.val, by omega⟩ := Fin.ext (by show w.val / 64 = 2 * p.val; omega)
    simp only [e4, h, if_true]
  · have e4 : (⟨w.val / 64, by omega⟩ : Fin 4) = ⟨2 * p.val + 1, by omega⟩ :=
      Fin.ext (by show w.val / 64 = 2 * p.val + 1; omega)
    simp only [e4, h, if_false]

/-- A load of part of a whole buffer, at an index. -/
theorem ld_at {s : Shape} {e : EltTy} (m : Memref sig .tc .vmem s e) (h : m.IsWhole) (X : Vec Ideal s e)
    (off size : Fin s.rank → ℕ) (inb : ∀ a, off a + size a ≤ s.size a) (y : (Rect.unit off size inb).shape.Idx)
    (i : s.Idx) (hi : ∀ a, (i a : ℕ) = off a + y a) :
    View.readAt (Elt Ideal) m.view (Rect.unit off size inb).toLoadRect (h.unread X) y = X i := by
  rw [View.readAt_eq_ld, h.read_unread]
  exact View.ld_unit_apply_of X off size inb y i hi

theorem trips_eq : k0_t1_loop.trips = 8 := by decide +kernel
theorem off1 : ∀ k : Fin k0_t1_loop.trips, k0_off1 k = ![0, win0 k.val, 0] := by decide +kernel
theorem off2 : ∀ k : Fin k0_t1_loop.trips, k0_off2 k = ![0, win0 k.val, 128] := by decide +kernel
theorem off3 : ∀ k : Fin k0_t1_loop.trips, k0_off3 k = ![0, 256 * k.val, 0] := by decide +kernel
theorem off4 : ∀ k : Fin k0_t1_loop.trips, k0_off4 k = ![0, 256 * k.val, 128] := by decide +kernel
theorem off5 : ∀ k : Fin k0_t1_loop.trips, k0_off5 k = ![0, min k.val 2, 0, 0] := by decide +kernel
theorem off6 : ∀ k : Fin k0_t1_loop.trips, k0_off6 k = ![1, min k.val 2, 0, 0] := by decide +kernel
theorem off7 : ∀ k : Fin k0_t1_loop.trips, k0_off7 k = ![2, min k.val 2, 0, 0] := by decide +kernel
theorem off8 : ∀ k : Fin k0_t1_loop.trips, k0_off8 k = ![3, min k.val 2, 0, 0] := by decide +kernel

/-- The lane numbers of a block of 256 rows. -/
abbrev lanes : IVec S256x128 32 := iota .tc S256x128 32 [1] iota_S256x128_d1_w32

/-- A load of 256 query rows of a pair of heads. -/
abbrev ldq (m : Memref sig .tc .vmem S1x2048x256 .f32) (h : m.IsWhole) (X : Vec Ideal S1x2048x256 .f32)
    (off : Fin 3 → ℕ) (inb : ∀ a, off a + S1x256x128.size a ≤ S1x2048x256.size a) : Vec Ideal S1x256x128 .f32 :=
  View.readAt (Elt Ideal) m.view (Rect.unit (s := S1x2048x256) off S1x256x128.size inb).toLoadRect (h.unread X)
/-- A load of a window of 768 keys, or of their values, of a pair of heads. -/
abbrev ldk (m : Memref sig .tc .vmem S1x2048x256 .bf16) (h : m.IsWhole) (X : Vec Ideal S1x2048x256 .bf16)
    (off : Fin 3 → ℕ) (inb : ∀ a, off a + S1x768x128.size a ≤ S1x2048x256.size a) : Vec Ideal S1x768x128 .bf16 :=
  View.readAt (Elt Ideal) m.view (Rect.unit (s := S1x2048x256) off S1x768x128.size inb).toLoadRect (h.unread X)
/-- A load of a head's lane mask. -/
abbrev ldh (m : Memref sig .tc .vmem S2x2x128 .bf16) (h : m.IsWhole) (X : Vec Ideal S2x2x128 .bf16)
    (off : Fin 3 → ℕ) (inb : ∀ a, off a + S1x1x128.size a ≤ S2x2x128.size a) : Vec Ideal S1x1x128 .bf16 :=
  View.readAt (Elt Ideal) m.view (Rect.unit (s := S2x2x128) off S1x1x128.size inb).toLoadRect (h.unread X)
/-- A load of a head's bias for one kind of query block. -/
abbrev ldb (m : Memref sig .tc .vmem S4x3x256x768 .f32) (h : m.IsWhole) (X : Vec Ideal S4x3x256x768 .f32)
    (off : Fin 4 → ℕ) (inb : ∀ a, off a + S1x1x256x768.size a ≤ S4x3x256x768.size a) : Vec Ideal S1x1x256x768 .f32 :=
  View.readAt (Elt Ideal) m.view (Rect.unit (s := S4x3x256x768) off S1x1x256x768.size inb).toLoadRect (h.unread X)

section trip

variable (𝒱 : Variants) (c : Dev nD) (bd : Option 𝒱.V) (i : grid0.Coords)
  (arg1 : Memref sig .tc .vmem S1x2048x256 .f32) (harg1 : arg1.IsWhole) (arg2 : Memref sig .tc .vmem S1x2048x256 .bf16) (harg2 : arg2.IsWhole)
  (arg3 : Memref sig .tc .vmem S1x2048x256 .bf16) (harg3 : arg3.IsWhole) (arg4 : Memref sig .tc .vmem S2x2x128 .bf16) (harg4 : arg4.IsWhole)
  (arg5 : Memref sig .tc .vmem S4x3x256x768 .f32) (harg5 : arg5.IsWhole) (arg6 : Memref sig .tc .vmem S1x2048x256 .bf16) (harg6 : arg6.IsWhole)
  (x0 : Vec Ideal S1x2048x256 .f32) (x1 x2 : Vec Ideal S1x2048x256 .bf16) (x3 : Vec Ideal S2x2x128 .bf16) (x4 : Vec Ideal S4x3x256x768 .f32)

/-- What trip `k` stores: first the pair of lanes 0 to 127, then the pair of lanes 128 to 255. -/
theorem trip_eq (k : Fin k0_t1_loop.trips) :
    tripL_k0_t1 (F := Ideal) 𝒱 c bd i arg1 harg1 arg2 harg2 arg3 harg3 arg4 harg4 arg5 harg5 arg6 harg6 lanes k0_pay19 k0_pay20 k0_pay21 k0_pay22
        (harg1.unread x0) (harg2.unread x1) (harg3.unread x2) (harg4.unread x3) (harg5.unread x4) k
      = [⟨Rect.unit (k0_off4 k) S1x256x128.size (k0_off4_inb k),
            k0_pay3 lanes
              (k0_pay15 k0_pay19 (k0_pay7 (ldk arg3 harg3 x2 (k0_off2 k) (k0_off2_inb k)))
                (k0_pay13 (k0_pay5 (ldk arg2 harg2 x1 (k0_off2 k) (k0_off2_inb k))) (k0_pay9 (ldq arg1 harg1 x0 (k0_off4 k) (k0_off4_inb k)))
                  (ldh arg4 harg4 x3 ![1, 0, 0] inb_S2x2x128_S1x1x128_1_0_0) (ldb arg5 harg5 x4 (k0_off7 k) (k0_off7_inb k))))
              (k0_pay16 (k0_pay1 k0_pay20 k0_pay21 k0_pay22) (k0_pay7 (ldk arg3 harg3 x2 (k0_off2 k) (k0_off2_inb k)))
                (k0_pay14 (k0_pay5 (ldk arg2 harg2 x1 (k0_off2 k) (k0_off2_inb k))) (k0_pay9 (ldq arg1 harg1 x0 (k0_off4 k) (k0_off4_inb k)))
                  (ldh arg4 harg4 x3 ![1, 1, 0] inb_S2x2x128_S1x1x128_1_1_0)) (ldb arg5 harg5 x4 (k0_off8 k) (k0_off8_inb k)))⟩,
         ⟨Rect.unit (k0_off3 k) S1x256x128.size (k0_off3_inb k),
            k0_pay2 lanes
              (k0_pay17 k0_pay19 (k0_pay6 (ldk arg3 harg3 x2 (k0_off1 k) (k0_off1_inb k)))
                (k0_pay11 (k0_pay10 (ldk arg2 harg2 x1 (k0_off1 k) (k0_off1_inb k)) (ldq arg1 harg1 x0 (k0_off3 k) (k0_off3_inb k))
                  (ldh arg4 harg4 x3 ![0, 0, 0] inb_S2x2x128_S1x1x128_0_0_0)) (ldb arg5 harg5 x4 (k0_off5 k) (k0_off5_inb k))))
              (k0_pay18 (k0_pay1 k0_pay20 k0_pay21 k0_pay22) (k0_pay6 (ldk arg3 harg3 x2 (k0_off1 k) (k0_off1_inb k)))
                (k0_pay12 (k0_pay4 (ldk arg2 harg2 x1 (k0_off1 k) (k0_off1_inb k))) (k0_pay8 (ldq arg1 harg1 x0 (k0_off3 k) (k0_off3_inb k)))
                  (ldh arg4 harg4 x3 ![0, 1, 0] inb_S2x2x128_S1x1x128_0_1_0) (ldb arg5 harg5 x4 (k0_off6 k) (k0_off6_inb k)))) 64#32⟩] := by
  unfold tripL_k0_t1 trip_k0_t1
  rfl

/-- A head's products and bias over the loaded parts are its `score`. -/
theorem score_ld (k : Fin k0_t1_loop.trips) (h : Fin 4) (r : Fin 256) (c : Fin 768)
    (oq : Fin 3 → ℕ) (iq) (ok : Fin 3 → ℕ) (ik) (oh : Fin 3 → ℕ) (ih) (ob : Fin 4 → ℕ) (ib)
    (hq : oq = ![0, 256 * k.val, 128 * (h.val / 2)]) (hk : ok = ![0, win0 k.val, 128 * (h.val / 2)])
    (hh : oh = ![h.val / 2, h.val % 2, 0]) (hb : ob = ![h.val, min k.val 2, 0, 0]) :
    ∑ x : Fin 128, ldq arg1 harg1 x0 oq iq (ix3 0 r x) * qscale * ldh arg4 harg4 x3 oh ih (ix3 0 0 x) * ldk arg2 harg2 x1 ok ik (ix3 0 c x)
        + ldb arg5 harg5 x4 ob ib (ix4 0 0 r c) * log2e
      = score x0 x1 x3 x4 h ⟨k.val, Nat.lt_of_lt_of_eq k.isLt trips_eq⟩ r c := by
  subst hq hk hh hb
  have hk8 := Nat.lt_of_lt_of_eq k.isLt trips_eq
  unfold score
  refine congrArg₂ (fun a b : EReal => a + b) (Finset.sum_congr rfl fun x _ => ?_) ?_
  · refine congrArg₂ (fun a b : EReal => a * b) (congrArg₂ (fun a b : EReal => a * b) (congrArg (fun a : EReal => a * qscale) ?_) ?_) ?_
    · refine ld_at arg1 harg1 x0 _ _ iq (ix3 0 r x) (ix3 0 _ _) fun (a : Fin 3) => ?_
      fin_cases a <;> rfl
    · refine ld_at arg4 harg4 x3 _ _ ih (ix3 0 0 x) (ix3 _ _ x) fun (a : Fin 3) => ?_
      fin_cases a <;> first | rfl | exact (Nat.zero_add _).symm
    · refine ld_at arg2 harg2 x1 _ _ ik (ix3 0 c x) (ix3 0 _ _) fun (a : Fin 3) => ?_
      fin_cases a <;> rfl
  · refine congrArg (fun a : EReal => a * log2e) ?_
    refine ld_at arg5 harg5 x4 _ _ ib (ix4 0 0 r c) (ix4 h _ r c) fun (a : Fin 4) => ?_
    fin_cases a <;> first | rfl | exact (Nat.zero_add _).symm

theorem val_ld (k : Fin k0_t1_loop.trips) (p : Fin 2) (l : Fin 128) (w : Fin 256) (hw : w.val = 128 * p.val + l.val) (c : Fin 768)
    (ok : Fin 3 → ℕ) (ik) (hk : ok = ![0, win0 k.val, 128 * p.val]) :
    ldk arg3 harg3 x2 ok ik (ix3 0 c l)
      = x2 (ix3 0 ⟨win0 k.val + c.val, win0_lt (Nat.lt_of_lt_of_eq k.isLt trips_eq) c.isLt⟩ w) := by
  subst hk
  refine ld_at arg3 harg3 x2 _ _ ik (ix3 0 c l) (ix3 0 _ w) fun (a : Fin 3) => ?_
  fin_cases a <;> first | rfl | exact hw

/-- Every piece a trip stores agrees with `blockOut`. -/
theorem trip_agrees (k : Fin k0_t1_loop.trips) :
    ∀ p ∈ tripL_k0_t1 (F := Ideal) 𝒱 c bd i arg1 harg1 arg2 harg2 arg3 harg3 arg4 harg4 arg5 harg5 arg6 harg6 lanes k0_pay19 k0_pay20 k0_pay21 k0_pay22
        (harg1.unread x0) (harg2.unread x1) (harg3.unread x2) (harg4.unread x3) (harg5.unread x4) k,
      ∀ x : p.1.shape.Idx, p.2 x = blockOut x0 x1 x2 x3 x4 (p.1.emb x 1) (p.1.emb x 2) := by
  have hk8 := Nat.lt_of_lt_of_eq k.isLt trips_eq
  rw [trip_eq]
  intro p hp
  simp only [List.mem_cons, List.not_mem_nil, or_false] at hp
  rcases hp with rfl | rfl
  · intro (y : S1x256x128.Idx)
    obtain ⟨z, r, l, rfl⟩ : ∃ (z : Fin 1) (r : Fin 256) (l : Fin 128), y = ix3 z r l := ⟨y 0, y 1, y 2, eq_ix3 y⟩
    obtain rfl : z = 0 := Subsingleton.elim _ _
    have hs : ((Rect.unit (s := S1x2048x256) (k0_off4 k) S1x256x128.size (k0_off4_inb k)).emb (ix3 (0 : Fin 1) r l) 1).val = 256 * k.val + r.val := by
      show k0_off4 k 1 + 1 * r.val = _; rw [off4]; show 256 * k.val + 1 * r.val = _; omega
    have hw : ((Rect.unit (s := S1x2048x256) (k0_off4 k) S1x256x128.size (k0_off4_inb k)).emb (ix3 (0 : Fin 1) r l) 2).val = 128 * 1 + l.val := by
      show k0_off4 k 2 + 1 * l.val = _; rw [off4]; show 128 + 1 * l.val = _; omega
    refine (pair1 _ _ _ _ _ _ r l).trans ?_
    refine Eq.trans ?_ (blockOut_at x0 x1 x2 x3 x4 ⟨k.val, hk8⟩ r 1 l _ _ hs hw).symm
    have eA := funext fun c => (score2 _ _ _ _ r c).trans (score_ld arg1 harg1 arg2 harg2 arg4 harg4 arg5 harg5 x0 x1 x3 x4 k 2 r c
      _ (k0_off4_inb k) _ (k0_off2_inb k) _ inb_S2x2x128_S1x1x128_1_0_0 _ (k0_off7_inb k) (off4 k) (off2 k) rfl (off7 k))
    have eB := funext fun c => (score3 _ _ _ _ r c).trans (score_ld arg1 harg1 arg2 harg2 arg4 harg4 arg5 harg5 x0 x1 x3 x4 k 3 r c
      _ (k0_off4_inb k) _ (k0_off2_inb k) _ inb_S2x2x128_S1x1x128_1_1_0 _ (k0_off8_inb k) (off4 k) (off2 k) rfl (off8 k))
    have eV := funext fun c => val_ld arg3 harg3 x2 k 1 l _ hw c _ (k0_off2_inb k) (off2 k)
    exact if_congr Iff.rfl (congrArg₂ Ideal.div (congrArg₂ att eA eV) (congrArg (att · _) eA))
      (congrArg₂ Ideal.div (congrArg₂ att eB eV) (congrArg (att · _) eB))
  · intro (y : S1x256x128.Idx)
    obtain ⟨z, r, l, rfl⟩ : ∃ (z : Fin 1) (r : Fin 256) (l : Fin 128), y = ix3 z r l := ⟨y 0, y 1, y 2, eq_ix3 y⟩
    obtain rfl : z = 0 := Subsingleton.elim _ _
    have hs : ((Rect.unit (s := S1x2048x256) (k0_off3 k) S1x256x128.size (k0_off3_inb k)).emb (ix3 (0 : Fin 1) r l) 1).val = 256 * k.val + r.val := by
      show k0_off3 k 1 + 1 * r.val = _; rw [off3]; show 256 * k.val + 1 * r.val = _; omega
    have hw : ((Rect.unit (s := S1x2048x256) (k0_off3 k) S1x256x128.size (k0_off3_inb k)).emb (ix3 (0 : Fin 1) r l) 2).val = 128 * 0 + l.val := by
      show k0_off3 k 2 + 1 * l.val = _; rw [off3]; show 0 + 1 * l.val = _; omega
    refine (pair0 _ _ _ r l).trans ?_
    refine Eq.trans ?_ (blockOut_at x0 x1 x2 x3 x4 ⟨k.val, hk8⟩ r 0 l _ _ hs hw).symm
    have eA := funext fun c => (score0 _ _ _ _ r c).trans (score_ld arg1 harg1 arg2 harg2 arg4 harg4 arg5 harg5 x0 x1 x3 x4 k 0 r c
      _ (k0_off3_inb k) _ (k0_off1_inb k) _ inb_S2x2x128_S1x1x128_0_0_0 _ (k0_off5_inb k) (off3 k) (off1 k) rfl (off5 k))
    have eB := funext fun c => (score1 _ _ _ _ r c).trans (score_ld arg1 harg1 arg2 harg2 arg4 harg4 arg5 harg5 x0 x1 x3 x4 k 1 r c
      _ (k0_off3_inb k) _ (k0_off1_inb k) _ inb_S2x2x128_S1x1x128_0_1_0 _ (k0_off6_inb k) (off3 k) (off1 k) rfl (off6 k))
    have eV := funext fun c => val_ld arg3 harg3 x2 k 0 l _ hw c _ (k0_off1_inb k) (off1 k)
    exact if_congr Iff.rfl (congrArg₂ Ideal.div (congrArg₂ att eA eV) (congrArg (att · _) eA))
      (congrArg₂ Ideal.div (congrArg₂ att eB eV) (congrArg (att · _) eB))

/-- So does every piece of the trips before any trip. -/
theorem pieces_agree (n : ℕ) (hn : n ≤ k0_t1_loop.trips) :
    ∀ p ∈ pb_k0_t1 (F := Ideal) 𝒱 c bd i arg1 harg1 arg2 harg2 arg3 harg3 arg4 harg4 arg5 harg5 arg6 harg6 lanes k0_pay19 k0_pay20 k0_pay21 k0_pay22
        (harg1.unread x0) (harg2.unread x1) (harg3.unread x2) (harg4.unread x3) (harg5.unread x4) n,
      ∀ x : p.1.shape.Idx, p.2 x = blockOut x0 x1 x2 x3 x4 (p.1.emb x 1) (p.1.emb x 2) := by
  induction n with
  | zero => intro p hp; exact absurd hp List.not_mem_nil
  | succ n ih =>
    intro p hp
    rw [pb_k0_t1_succ (F := Ideal) 𝒱 c bd i arg1 harg1 arg2 harg2 arg3 harg3 arg4 harg4 arg5 harg5 arg6 harg6 _ _ _ _ _ _ _ _ _ _ ⟨n, hn⟩] at hp
    rcases List.mem_append.mp hp with h | h
    · exact trip_agrees 𝒱 c bd i arg1 harg1 arg2 harg2 arg3 harg3 arg4 harg4 arg5 harg5 arg6 harg6 x0 x1 x2 x3 x4 ⟨n, hn⟩ p h
    · exact ih (Nat.le_of_succ_le hn) p h

/-- The block the body leaves is `blockOut` of its input blocks. -/
theorem out_eq (y : S1x2048x256.Idx) :
    out0_A_5 (F := Ideal) c i arg1 harg1 arg2 harg2 arg3 harg3 arg4 harg4 arg5 harg5 arg6 harg6 x0 x1 x2 x3 x4 y
      = blockOut x0 x1 x2 x3 x4 (y 1) (y 2) := by
  unfold out0_A_5
  refine View.read_writes_apply_of_pieces (Val := Elt Ideal) VO0_5 VO0_5.junk (fun y => blockOut x0 x1 x2 x3 x4 (y 1) (y 2)) _ ?_ y
    (cover0_A_5 c i arg1 harg1 arg2 harg2 arg3 harg3 arg4 harg4 arg5 harg5 arg6 harg6 x0 x1 x2 x3 x4 y)
  unfold kernelRun0_A
  exact pieces_agree Variants.none c none i arg1 harg1 arg2 harg2 arg3 harg3 arg4 harg4 arg5 harg5 arg6 harg6 x0 x1 x2 x3 x4 _ le_rfl

end trip

end Cert.KernelIdeal.Band
-- ==== Proof.BandPlace.lean ====
/-
  The output array of the band attention's call: at batch `n`, row `s` and lane `w` it holds `blockOut` of the
  batch's queries, keys and values.
-/
module

public import proofs.«01_k».proof.Proof.BandBlock
public import proofs.«01_k».proof.Proof.Gen.KernelIdeal.Value
public import Idealize.ShloMosaic.Lib.Pipeline.ValueKit

@[expose] public section

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)

/-- Batch `n` of an array, as a block. -/
def batch {e : EltTy} (X : Vec Ideal S32x2048x256 e) (n : Fin 32) : Vec Ideal S1x2048x256 e := fun y => X (ix3 n (y 1) (y 2))

/-- The whole output as a function of the arrays the call takes. -/
def arrayOut (Q : Vec Ideal S32x2048x256 .f32) (K W : Vec Ideal S32x2048x256 .bf16) (hm : Vec Ideal S2x2x128 .bf16)
    (b : Vec Ideal S4x3x256x768 .f32) : Vec Ideal S32x2048x256 .bf16 :=
  fun j => blockOut (batch Q (j 0)) (batch K (j 0)) (batch W (j 0)) hm b (j 1) (j 2)

variable (m : (ℓ : Loc nD τ sig) → Buf (Elt Ideal) ℓ) (c : Dev nD)

/-- Every window's block of each grid point: the batch of the point, or the whole table. -/
theorem idx : ∀ t : Fin cfg0.N, win0_0.index t = ![t.val, 0, 0] ∧ win0_1.index t = ![t.val, 0, 0] ∧ win0_2.index t = ![t.val, 0, 0]
    ∧ win0_3.index t = ![0, 0, 0] ∧ win0_4.index t = ![0, 0, 0, 0] ∧ win0_5.index t = ![t.val, 0, 0] :=
  (by decide +kernel : ∀ t : Fin grid0.N, _)

theorem iblk0 (t : Fin cfg0.N) : (iblk m c 0 t : Vec Ideal S1x2048x256 .f32) = batch (V m c main_arg0) t := by
  funext y; unfold batch; blk_ext [iblk, idx t]
theorem iblk1 (t : Fin cfg0.N) : (iblk m c 1 t : Vec Ideal S1x2048x256 .bf16) = batch (V m c main_v0) t := by
  funext y; unfold batch; blk_ext [iblk, idx t]
theorem iblk2 (t : Fin cfg0.N) : (iblk m c 2 t : Vec Ideal S1x2048x256 .bf16) = batch (V m c main_v1) t := by
  funext y; unfold batch; blk_ext [iblk, idx t]
theorem iblk3 (t : Fin cfg0.N) : (iblk m c 3 t : Vec Ideal S2x2x128 .bf16) = V m c main_cst := by
  funext y; blk_ext [iblk, idx t]
theorem iblk4 (t : Fin cfg0.N) : (iblk m c 4 t : Vec Ideal S4x3x256x768 .f32) = V m c main_v36 := by
  funext y; blk_ext [iblk, idx t]

/-- Where the block of grid point `t` stands in the output array. -/
theorem place (t : Fin cfg0.N) (y : S1x2048x256.Idx) : (((cfg0.win 5).blk t).view.emb y : S32x2048x256.Idx) = ix3 (⟨t.val, t.isLt⟩ : Fin 32) (y 1) (y 2) := by
  funext a
  refine Fin.ext ?_
  idx_bounds y
  fin_cases a <;> blk_simp [idx t] <;> simp <;> omega

end Cert.KernelIdeal.Band
-- ==== Proof.BandArray.lean ====
/-
  The output array of the band attention's call: at batch `n`, row `s` and lane `w` it holds `blockOut` of the
  batch's queries, keys and values.
-/
module

public import proofs.«01_k».proof.Proof.BandPlace
public import proofs.«01_k».proof.Proof.Gen.KernelIdeal.Value
public import Idealize.ShloMosaic.Lib.Pipeline.ValueKit

@[expose] public section

set_option maxRecDepth 16384

noncomputable section

namespace Cert.KernelIdeal.Band

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

set_option maxHeartbeats 1000000 in
/-- The array the run leaves. -/
theorem final : (dats m 0 c).arrAt 5 cfg0.N
    = arrayOut (V m c main_arg0) (V m c main_v0) (V m c main_v1) (V m c main_cst) (V m c main_v36) := by
  refine (dats m 0 c).arrAt_eq_of_covers 5 _ (by decide +kernel) fun t hf y => ?_
  blk_simp
  rw [after0_5]
  unfold outsAt0
  rw [iblk0, iblk1, iblk2, iblk3, iblk4]
  refine (out_eq c _ _ _ _ _ _ _ _ _ _ _ _ _ _ _ _ _ _ y).trans ?_
  exact (congrArg (arrayOut (V m c main_arg0) (V m c main_v0) (V m c main_v1) (V m c main_cst) (V m c main_v36)) (place t y)).symm

end Cert.KernelIdeal.Band
-- ==== Proof.BandHost.lean ====
/-
  What the host code hands the band attention's call: the keys and values unchanged (casts are the identity on the
  extended reals), the table of lanes that picks one of two heads, and the table of biases — for the query block's
  place in the band (first, second, later), row and window column, the relative bias of their distance, or `⊥`
  outside the band.
-/
module

public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.KernelIdeal.Band

open Cert.KernelIdeal Cert.KernelIdeal.Gen Idealize.ShloMosaic Idealize.ShloMosaic.TcCoe Idealize.SL.Sem

/-- The table of lanes. -/
def ownLanes : Vec Ideal S2x2x128 .bf16 := fun i => FloatOps.ofBits (F := Ideal) .bf16 (lit0 (S2x2x128.rowMajor i))

/-- The index words of the bias table's rows. -/
def rowWord : IVec S3x1024 32 :=
  select (cmpi .slt (fun i => lit1 (S3x1024.rowMajor i)) (broadcastInDim S3x1024 ![] bcast_S_S3x1024 (constantI S_ 32 0#32)))
    (addi (fun i => lit1 (S3x1024.rowMajor i)) (broadcastInDim S3x1024 ![] bcast_S_S3x1024 (constantI S_ 32 257#32)))
    (fun i => lit1 (S3x1024.rowMajor i))

/-- The biases gathered by those words. -/
def rowBias (rb : Vec Ideal S4x257 .f32) : Vec Ideal S1x4x3x1024 .f32 :=
  Host.gather gather_S1x4x257_S3x1024x1_S1x4x3x1024_01_2_n_n_2_2_141 (broadcastInDim S1x4x257 ![1, 2] bcast_S4x257_S1x4x257_1_2 rb)
    (broadcastInDim S3x1024x1 ![0, 1] bcast_S3x1024_S3x1024x1_0_1 rowWord)

/-- The rows repeated and read with one column fewer, which shifts each row by one against the row before. -/
def shifted (u : Vec Ideal S1x4x3x1024 .f32) : Vec Ideal S1x4x3x256x768 .f32 :=
  extractStridedSlice S1x4x3x256x768 ![0, 0, 0, 0, 0]
    (shapeCast S1x4x3x256x1023
      (extractStridedSlice S1x4x3x261888 ![0, 0, 0, 0]
        (shapeCast S1x4x3x262144
          (broadcastInDim S1x1x1x4x1x3x256x1024 ![0, 1, 2, 3, 4, 5, 6, 7] bcast_S1x1x1x4x1x3x1x1024_S1x1x1x4x1x3x256x1024_0_1_2_3_4_5_6_7
            (shapeCast S1x1x1x4x1x3x1x1024 u shapeCasts_S1x4x3x1024_S1x1x1x4x1x3x1x1024))
          shapeCasts_S1x1x1x4x1x3x256x1024_S1x4x3x262144)
        slices_S1x4x3x262144_S1x4x3x261888_0_0_0_0)
      shapeCasts_S1x4x3x261888_S1x4x3x256x1023)
    slices_S1x4x3x256x1023_S1x4x3x256x768_0_0_0_0_0

/-- A window column's place relative to the query block's first row. -/
def colWord : IVec S3x1x768 32 :=
  subi (broadcastInDim S3x1x768 ![0, 1, 2] bcast_S1x1x768_S3x1x768_0_1_2 (broadcastInDim S1x1x768 ![2] bcast_S768_S1x1x768_2 (iotaInDim S768 32 0)))
    (broadcastInDim S3x1x768 ![0, 1, 2] bcast_S3x1x1_S3x1x768_0_1_2 (fun i => lit2 (S3x1x1.rowMajor i)))

/-- That place's chunk. -/
def colChunk : IVec S3x1x768 32 :=
  let w : IVec S_ 32 := constantI S_ 32 64#32
  let q := Host.divsi colWord (broadcastInDim S3x1x768 ![] bcast_S_S3x1x768 w)
  select (andi (cmpi .ne (signi colWord) (broadcastInDim S3x1x768 ![] bcast_S_S3x1x768 (signi w)))
      (cmpi .ne (Host.remsi colWord (broadcastInDim S3x1x768 ![] bcast_S_S3x1x768 w)) (broadcastInDim S3x1x768 ![] bcast_S_S3x1x768 (constantI S_ 32 0#32))))
    (subi q (broadcastInDim S3x1x768 ![] bcast_S_S3x1x768 (constantI S_ 32 1#32))) q

/-- A row's chunk. -/
def rowChunk : IVec S1x256x1 32 :=
  let x : IVec S1x256x1 32 := broadcastInDim S1x256x1 ![1] bcast_S256_S1x256x1_1 (iotaInDim S256 32 0)
  let w : IVec S_ 32 := constantI S_ 32 64#32
  let q := Host.divsi x (broadcastInDim S1x256x1 ![] bcast_S_S1x256x1 w)
  select (andi (cmpi .ne (signi x) (broadcastInDim S1x256x1 ![] bcast_S_S1x256x1 (signi w)))
      (cmpi .ne (Host.remsi x (broadcastInDim S1x256x1 ![] bcast_S_S1x256x1 w)) (broadcastInDim S1x256x1 ![] bcast_S_S1x256x1 (constantI S_ 32 0#32))))
    (subi q (broadcastInDim S1x256x1 ![] bcast_S_S1x256x1 (constantI S_ 32 1#32))) q

/-- Whether a row sees a window column. -/
def sees : IVec S3x256x768 1 :=
  andi (cmpi .sle (broadcastInDim S3x256x768 ![0, 1, 2] bcast_S3x1x768_S3x256x768_0_1_2 colChunk)
      (broadcastInDim S3x256x768 ![0, 1, 2] bcast_S1x256x1_S3x256x768_0_1_2 rowChunk))
    (cmpi .sge (broadcastInDim S3x256x768 ![0, 1, 2] bcast_S3x1x768_S3x256x768_0_1_2 colChunk)
      (broadcastInDim S3x256x768 ![0, 1, 2] bcast_S1x256x1_S3x256x768_0_1_2
        (subi rowChunk (broadcastInDim S1x256x1 ![] bcast_S_S1x256x1 (constantI S_ 32 8#32)))))

/-- The bias table. -/
def biasTable (rb : Vec Ideal S4x257 .f32) : Vec Ideal S4x3x256x768 .f32 :=
  shapeCast S4x3x256x768
    (select (broadcastInDim S1x4x3x256x768 ![0, 1, 2, 3, 4] bcast_S1x1x3x256x768_S1x4x3x256x768_0_1_2_3_4
        (broadcastInDim S1x1x3x256x768 ![2, 3, 4] bcast_S3x256x768_S1x1x3x256x768_2_3_4 sees))
      (shifted (rowBias rb))
      (broadcastInDim S1x4x3x256x768 ![] bcast_S_S1x4x3x256x768 (constant (F := Ideal) S_ .f32 0xFF800000#32)))
    shapeCasts_S1x4x3x256x768_S4x3x256x768

section Contents

variable (m : (ℓ : Loc nD τ sig) → Buf (Elt Ideal) ℓ) (c : Dev nD)

theorem keys : V m c main_v0 = (truncf (F := Ideal) .bf16 (m ((c : Thread nD τ).loc main_arg1) : Vec Ideal S32x2048x256 .f32) bitsLt_bf16_f32 : Vec Ideal S32x2048x256 .bf16) := by
  simp only [V, hostOps0, hostOps0_1, hostOps0_2, hostOps0_3, hostOps0_4, hostOps0_5, hostOps0_6, List.flatten_cons, List.flatten_nil,
    List.append_nil, List.cons_append, List.nil_append]
  after_results

theorem values : V m c main_v1 = (truncf (F := Ideal) .bf16 (m ((c : Thread nD τ).loc main_arg2) : Vec Ideal S32x2048x256 .f32) bitsLt_bf16_f32 : Vec Ideal S32x2048x256 .bf16) := by
  simp only [V, hostOps0, hostOps0_1, hostOps0_2, hostOps0_3, hostOps0_4, hostOps0_5, hostOps0_6, List.flatten_cons, List.flatten_nil,
    List.append_nil, List.cons_append, List.nil_append]
  after_results

theorem mask : V m c main_cst = ownLanes := by
  simp only [V, hostOps0, hostOps0_1, hostOps0_2, hostOps0_3, hostOps0_4, hostOps0_5, hostOps0_6, List.flatten_cons, List.flatten_nil,
    List.append_nil, List.cons_append, List.nil_append]
  after_results
  try rfl

set_option backward.isDefEq.respectTransparency.types false in
theorem bias : V m c main_v36 = biasTable (m ((c : Thread nD τ).loc main_arg3)) := by
  simp only [V, hostOps0, hostOps0_1, hostOps0_2, hostOps0_3, hostOps0_4, hostOps0_5, hostOps0_6, List.flatten_cons, List.flatten_nil,
    List.append_nil, List.cons_append, List.nil_append]
  after_results
  simp -implicitDefEqProofs only [StableHlo.TRef.toBuf, StableHlo.TRef.ofBuf, cast_cast, cast_eq, id_eq]
  rfl

end Contents

end Cert.KernelIdeal.Band
-- ==== Proof.BandSum.lean ====
/-
  A row's softmax over a window of keys, some of them masked, as one over the finite set of the visible keys: the
  masked places add nothing to the sums and do not raise the largest score.
-/
module

public import Idealize.ShloMosaic.Lib.Pointwise

@[expose] public section

noncomputable section

namespace Cert.Band

open Idealize.ShloMosaic

variable {n : ℕ}

/-- The largest of finitely many scores, some of them minus infinity, is a real number where one of them is. -/
theorem fold_real (p : Fin n → Prop) [DecidablePred p] (f : Fin n → ℝ) (hp : ∃ c, p c) :
    ∃ M : ℝ, Finset.univ.fold max (⊥ : EReal) (fun c => if p c then ((f c : ℝ) : EReal) else ⊥) = (M : EReal)
      ∧ (∀ c, p c → f c ≤ M) ∧ ∃ c, p c ∧ f c = M := by
  classical
  obtain ⟨c0, hc0⟩ := hp
  obtain ⟨b, hb, hmax⟩ := Finset.exists_max_image (Finset.univ.filter p) f ⟨c0, by simpa using hc0⟩
  have hpb : p b := by simpa using hb
  have hle : ∀ c, p c → f c ≤ f b := fun c hc => hmax c (by simpa using hc)
  refine ⟨f b, le_antisymm ?_ ?_, hle, b, hpb, rfl⟩
  · refine Finset.fold_max_le _ |>.2 ⟨bot_le, fun c _ => ?_⟩
    split_ifs with h
    · exact_mod_cast hle c h
    · exact bot_le
  · refine Finset.le_fold_max _ |>.2 (Or.inr ⟨b, Finset.mem_univ _, ?_⟩)
    rw [if_pos hpb]

/-- The visible places of a window carry a sum over a set `T` of keys. -/
theorem sum_window {N : ℕ} (T : Finset (Fin N)) (p : Fin n → Prop) [DecidablePred p] (key : Fin n → Fin N)
    (hin : ∀ c, p c → key c ∈ T) (hinj : ∀ c d, p c → p d → key c = key d → c = d) (hon : ∀ k ∈ T, ∃ c, p c ∧ key c = k)
    {α : Type} [AddCommMonoid α] (g : Fin N → α) : ∑ c, (if p c then g (key c) else 0) = ∑ k ∈ T, g k := by
  classical
  rw [← Finset.sum_filter]
  refine Finset.sum_bij (fun c _ => key c) (fun c hc => hin c (by simpa using hc)) (fun c hc d hd => hinj c d (by simpa using hc) (by simpa using hd)) (fun k hk => ?_) (fun c _ => rfl)
  obtain ⟨c, hc, e⟩ := hon k hk
  exact ⟨c, by simpa using hc, e⟩

/-- The largest score of a window is the largest over the visible keys, scaled by what scales the scores. -/
theorem fold_window {N : ℕ} (T : Finset (Fin N)) (hT : T.Nonempty) (L : Fin N → ℝ) (a : ℝ) (ha : 0 < a) (p : Fin n → Prop) [DecidablePred p] (key : Fin n → Fin N)
    (hin : ∀ c, p c → key c ∈ T) (hon : ∀ k ∈ T, ∃ c, p c ∧ key c = k) :
    Finset.univ.fold max (⊥ : EReal) (fun c => if p c then ((L (key c) * a : ℝ) : EReal) else ⊥) = ((T.sup' hT L * a : ℝ) : EReal) := by
  obtain ⟨k0, hk0⟩ := hT
  obtain ⟨c0, hc0, _⟩ := hon k0 hk0
  obtain ⟨M, e, hle, b, hb, eb⟩ := fold_real p (fun c => L (key c) * a) ⟨c0, hc0⟩
  rw [e]
  norm_cast
  rw [← eb]
  refine congrArg (· * a) (le_antisymm (Finset.le_sup' L (hin b hb)) (Finset.sup'_le _ _ fun k hk => ?_))
  obtain ⟨c, hc, ek⟩ := hon k hk
  have := hle c hc
  rw [← ek]
  rw [← eb] at this
  exact le_of_mul_le_mul_right this ha

/-- The weight of key `k` before it is divided by the sum of the weights. -/
def raw {N : ℕ} (T : Finset (Fin N)) (hT : T.Nonempty) (L : Fin N → ℝ) (k : Fin N) : ℝ := Real.exp (L k - T.sup' hT L)

/-- The sum of the weights. -/
def mass {N : ℕ} (T : Finset (Fin N)) (hT : T.Nonempty) (L : Fin N → ℝ) : ℝ := ∑ k ∈ T, raw T hT L k

theorem mass_pos {N : ℕ} (T : Finset (Fin N)) (hT : T.Nonempty) (L : Fin N → ℝ) : 0 < mass T hT L :=
  Finset.sum_pos (fun k _ => Real.exp_pos _) hT

theorem coe_sum {ι : Type} (T : Finset ι) (f : ι → ℝ) : ((∑ k ∈ T, f k : ℝ) : EReal) = ∑ k ∈ T, (f k : EReal) := by
  classical
  induction T using Finset.induction_on with
  | empty => simp
  | insert a s h ih => rw [Finset.sum_insert h, Finset.sum_insert h, EReal.coe_add, ih]

theorem div_pos (x : EReal) (z : ℝ) (hz : 0 < z) : Ideal.div x (z : EReal) = x * ((z⁻¹ : ℝ) : EReal) := by
  unfold Ideal.div
  rw [if_neg (by exact_mod_cast hz.ne'), EReal.coe_inv]

theorem sum_mul_pos {ι : Type} (T : Finset ι) (f : ι → EReal) (z : ℝ) (hz : 0 < z) :
    (∑ k ∈ T, f k) * (z : EReal) = ∑ k ∈ T, f k * (z : EReal) := by
  classical
  induction T using Finset.induction_on with
  | empty => simp
  | insert a s h ih =>
    rw [Finset.sum_insert h, Finset.sum_insert h, ← ih]
    exact EReal.right_distrib_of_nonneg_of_ne_top (by exact_mod_cast hz.le) (EReal.coe_ne_top _) _ _

/-- A masked weight to the base two: scores scaled by the logarithm of `e` to the base two. -/
theorem exp2_masked (P : Prop) [Decidable P] (x M : ℝ) :
    Ideal.exp2 ((if P then ((x * (Real.log 2)⁻¹ : ℝ) : EReal) else ⊥) - ((M * (Real.log 2)⁻¹ : ℝ) : EReal))
      = if P then ((Real.exp (x - M) : ℝ) : EReal) else 0 := by
  split_ifs with h
  · rw [← EReal.coe_sub, Ideal.exp2_coe]
    have hl : Real.log 2 ≠ 0 := (Real.log_pos (by norm_num)).ne'
    have e : Real.rpow 2 (x * (Real.log 2)⁻¹ - M * (Real.log 2)⁻¹) = Real.exp (x - M) := by
      show (2 : ℝ) ^ (x * (Real.log 2)⁻¹ - M * (Real.log 2)⁻¹) = _
      rw [Real.rpow_def_of_pos (by norm_num)]
      congr 1
      field_simp
    rw [e]
  · rw [EReal.bot_sub, Ideal.exp2_bot]

/-- A masked weight to the natural base. -/
theorem exp_masked (P : Prop) [Decidable P] (x M : ℝ) :
    Ideal.exp ((if P then ((x : ℝ) : EReal) else ⊥) - ((M : ℝ) : EReal)) = if P then ((Real.exp (x - M) : ℝ) : EReal) else 0 := by
  split_ifs with h
  · rw [← EReal.coe_sub, Ideal.exp_coe]
  · rw [EReal.bot_sub, Ideal.exp_bot]

/-- The softmax over `T` of the scores `L`, applied to `g`. -/
def soft {N : ℕ} (T : Finset (Fin N)) (hT : T.Nonempty) (L : Fin N → ℝ) (g : Fin N → EReal) : EReal :=
  ∑ k ∈ T, g k * ((raw T hT L k * (mass T hT L)⁻¹ : ℝ) : EReal)

/-- A window to the base two, divided once at the end. -/
theorem soft_base2 {N : ℕ} (T : Finset (Fin N)) (hT : T.Nonempty) (L : Fin N → ℝ) (g : Fin N → EReal) (p : Fin n → Prop) [DecidablePred p] (key : Fin n → Fin N)
    (hin : ∀ c, p c → key c ∈ T) (hinj : ∀ c d, p c → p d → key c = key d → c = d) (hon : ∀ k ∈ T, ∃ c, p c ∧ key c = k)
    (s w : Fin n → EReal) (hs : ∀ c, s c = if p c then ((L (key c) * (Real.log 2)⁻¹ : ℝ) : EReal) else ⊥) (hw : ∀ c, p c → w c = g (key c)) :
    Ideal.div (∑ c, Ideal.exp2 (s c - Finset.univ.fold max ⊥ s) * w c) (∑ c, Ideal.exp2 (s c - Finset.univ.fold max ⊥ s) * 1) = soft T hT L g := by
  have hl : 0 < (Real.log 2)⁻¹ := inv_pos.mpr (Real.log_pos (by norm_num))
  have hM : Finset.univ.fold max (⊥ : EReal) s = ((T.sup' hT L * (Real.log 2)⁻¹ : ℝ) : EReal) := by
    rw [show s = fun c => if p c then ((L (key c) * (Real.log 2)⁻¹ : ℝ) : EReal) else ⊥ from funext hs]
    exact fold_window T hT L _ hl p key hin hon
  have hE : ∀ c, Ideal.exp2 (s c - Finset.univ.fold max ⊥ s) = if p c then ((raw T hT L (key c) : ℝ) : EReal) else 0 := fun c => by
    rw [hM, hs]; exact exp2_masked _ _ _
  have h1 : ∑ c, Ideal.exp2 (s c - Finset.univ.fold max ⊥ s) * w c = ∑ k ∈ T, ((raw T hT L k : ℝ) : EReal) * g k := by
    rw [← sum_window T p key hin hinj hon]
    refine Finset.sum_congr rfl fun c _ => ?_
    rw [hE]
    split_ifs with hc
    · rw [hw c hc]
    · rw [zero_mul]
  have h2 : ∑ c, Ideal.exp2 (s c - Finset.univ.fold max ⊥ s) * 1 = ((mass T hT L : ℝ) : EReal) := by
    unfold mass
    rw [coe_sum, ← sum_window T p key hin hinj hon]
    refine Finset.sum_congr rfl fun c _ => ?_
    rw [hE, mul_one]
  rw [h1, h2, div_pos _ _ (mass_pos T hT L), sum_mul_pos _ _ _ (inv_pos.mpr (mass_pos T hT L))]
  unfold soft
  refine Finset.sum_congr rfl fun k _ => ?_
  rw [EReal.coe_mul, ← mul_assoc, mul_comm (g k)]

/-- A window to the natural base, each weight divided before it meets its value. -/
theorem soft_natural {N : ℕ} (T : Finset (Fin N)) (hT : T.Nonempty) (L : Fin N → ℝ) (g : Fin N → EReal) (p : Fin n → Prop) [DecidablePred p] (key : Fin n → Fin N)
    (hin : ∀ c, p c → key c ∈ T) (hinj : ∀ c d, p c → p d → key c = key d → c = d) (hon : ∀ k ∈ T, ∃ c, p c ∧ key c = k)
    (s w : Fin n → EReal) (hs : ∀ c, s c = if p c then ((L (key c) : ℝ) : EReal) else ⊥) (hw : ∀ c, p c → w c = g (key c)) :
    ∑ c, w c * Ideal.div (Ideal.exp (s c - Finset.univ.fold max ⊥ s)) (∑ d, Ideal.exp (s d - Finset.univ.fold max ⊥ s)) = soft T hT L g := by
  have hM : Finset.univ.fold max (⊥ : EReal) s = ((T.sup' hT L : ℝ) : EReal) := by
    rw [show s = fun c => if p c then ((L (key c) * 1 : ℝ) : EReal) else ⊥ from funext fun c => by rw [hs, mul_one]]
    rw [fold_window T hT L 1 one_pos p key hin hon, mul_one]
  have hE : ∀ c, Ideal.exp (s c - Finset.univ.fold max ⊥ s) = if p c then ((raw T hT L (key c) : ℝ) : EReal) else 0 := fun c => by
    rw [hM, hs]; exact exp_masked _ _ _
  have h2 : ∑ c, Ideal.exp (s c - Finset.univ.fold max ⊥ s) = ((mass T hT L : ℝ) : EReal) := by
    unfold mass
    rw [coe_sum, ← sum_window T p key hin hinj hon]
    exact Finset.sum_congr rfl fun c _ => hE c
  rw [h2]
  unfold soft
  rw [← sum_window T p key hin hinj hon]
  refine Finset.sum_congr rfl fun c _ => ?_
  rw [hE, div_pos _ _ (mass_pos T hT L)]
  split_ifs with hc
  · rw [hw c hc, EReal.coe_mul]
  · rw [zero_mul, mul_zero]

end Cert.Band
-- ==== Proof.BandMath.lean ====
/-
  The band's index arithmetic, stated once for the kernel and the reference: the place of a distance in the table of
  relative biases, and the keys a frame sees.
-/
module

public import proofs.«01_k».proof.Proof.BandSum

@[expose] public section

noncomputable section

namespace Cert.Band

/-- The place of distance `d` in the table of relative biases: `d` clipped to ± 128, moved to `0 … 256`. -/
def relIdx (d : ℤ) : Fin 257 := ⟨(max (min d 128) (-128) + 128).toNat, by omega⟩

/-- Frame `s` sees key `k`: `k`'s chunk is `s`'s or one of the eight before. -/
def Sees (s k : ℕ) : Prop := k / 64 ≤ s / 64 ∧ s / 64 ≤ k / 64 + 8

instance (s k : ℕ) : Decidable (Sees s k) := by unfold Sees; infer_instance

/-- The keys frame `s` sees. -/
def visible (s : Fin 2048) : Finset (Fin 2048) := Finset.univ.filter fun k => Sees s.val k.val

theorem mem_visible {s k : Fin 2048} : k ∈ visible s ↔ Sees s.val k.val := by simp [visible]

theorem visible_nonempty (s : Fin 2048) : (visible s).Nonempty :=
  ⟨s, mem_visible.mpr ⟨le_rfl, Nat.le_add_right _ _⟩⟩

/-- Head `h`'s score of frame `s` against key `k`. -/
def logit (Q K : Fin 2048 → Fin 256 → ℝ) (B : Fin 4 → Fin 257 → ℝ) (h : Fin 4) (s k : Fin 2048) : ℝ :=
  (∑ x : Fin 64, Q s ⟨64 * h.val + x.val, by omega⟩ * K k ⟨64 * h.val + x.val, by omega⟩) * 8⁻¹ + B h (relIdx ((s.val : ℤ) - k.val))

/-- The chunked band attention of one batch at frame `s` and lane `l`: head `l / 64`. -/
def attend (Q K : Fin 2048 → Fin 256 → ℝ) (B : Fin 4 → Fin 257 → ℝ) (v : Fin 2048 → Fin 256 → EReal) (s : Fin 2048) (l : Fin 256) : EReal :=
  soft (visible s) (visible_nonempty s) (logit Q K B ⟨l.val / 64, by omega⟩ s) fun k => v k l

end Cert.Band
-- ==== Proof.BandTable.lean ====
/-
  The two tables read at an index: the table of lanes is 1 on its own head's 64 lanes and 0 on the other's; the
  table of biases holds the relative bias of the distance of row and key where the row sees the key, and `⊥` elsewhere.
-/
module

public import proofs.«01_k».proof.Proof.BandHost
public import proofs.«01_k».proof.Proof.BandMath

@[expose] public section

set_option maxRecDepth 16384

noncomputable section

namespace Cert.KernelIdeal.Band

open Cert.KernelIdeal Cert.KernelIdeal.Gen Idealize.ShloMosaic Idealize.ShloMosaic.TcCoe Idealize.SL.Sem
open Cert.Band (relIdx)

theorem lane_words : ∀ (p a : Fin 2) (l : Fin 128), lit0 (S2x2x128.rowMajor (ix3 p a l)) = if l.val / 64 = a.val then 0x3F80#16 else 0#16 := by
  decide +kernel

theorem lanes_at (p a : Fin 2) (l : Fin 128) : (ownLanes (ix3 p a l) : EReal) = if l.val / 64 = a.val then 1 else 0 := by
  pointwise [ownLanes]
  rw [lane_words]
  split
  · simp [Ideal.ofBits, Ideal.ieee]
    rw [← EReal.coe_mul, ← EReal.coe_one]
    norm_num
  · simp [Ideal.ofBits, Ideal.ieee]

/-- The distance at place `e` of row 0 of the repeated table. -/
def rowDist (t : Fin 3) (e : Fin 1024) : ℤ := if e.val ≤ 768 then 256 * t.val - e.val else 256 * t.val + 1024 - e.val

theorem row_words : ∀ (t : Fin 3) (e : Fin 1024), min (rowWord (ix2 t e)).toInt.toNat 256 = (relIdx (rowDist t e)).val := by
  have h : ∀ (t : Fin 3) (e : Fin 1024), min (Scalar.select (IntOp.cmpi .slt (lit1 (S3x1024.rowMajor (ix2 t e))) 0#32)
      (IntOp.addi (lit1 (S3x1024.rowMajor (ix2 t e))) 257#32) (lit1 (S3x1024.rowMajor (ix2 t e)))).toInt.toNat 256
        = (relIdx (rowDist t e)).val := by decide +kernel
  intro t e
  rw [← h]
  congr 3

theorem rowBias_at (rb : Vec Ideal S4x257 .f32) (h : Fin 4) (t : Fin 3) (e : Fin 1024) :
    (rowBias rb (ix4 0 h t e) : EReal) = rb (ix2 h (relIdx (rowDist t e))) := by
  have hg : ∀ (x : Vec Ideal S1x4x257 .f32) (w : IVec S3x1024x1 32), Host.gather gather_S1x4x257_S3x1024x1_S1x4x3x1024_01_2_n_n_2_2_141 x w (ix4 0 h t e)
      = x (ix3 0 h ⟨min (w (ix3 t e 0)).toInt.toNat 256, by omega⟩) := by
    intro x w
    unfold Host.gather
    congr 1
    funext a
    refine Fin.ext ?_
    show gather_S1x4x257_S3x1024x1_S1x4x3x1024_01_2_n_n_2_2_141.start (ix4 0 h t e) w a
      + gather_S1x4x257_S3x1024x1_S1x4x3x1024_01_2_n_n_2_2_141.batchCoord (ix4 0 h t e) a
      + gather_S1x4x257_S3x1024x1_S1x4x3x1024_01_2_n_n_2_2_141.offCoord (ix4 0 h t e) a = _
    rw [GatherDims.batchCoord_eq_zero _ _ _ List.not_mem_nil]
    unfold GatherDims.start
    have ha : a = 0 ∨ a = 1 ∨ a = 2 := by
      match a with
      | ⟨0, _⟩ => exact Or.inl rfl
      | ⟨1, _⟩ => exact Or.inr (Or.inl rfl)
      | ⟨2, _⟩ => exact Or.inr (Or.inr rfl)
    rcases ha with rfl | rfl | rfl
    · rw [dif_neg (by decide)]
      unfold GatherDims.offCoord
      rw [dif_pos (by decide)]
      rfl
    · rw [dif_neg (by decide)]
      unfold GatherDims.offCoord
      rw [dif_pos (by decide)]
      simp only [Nat.zero_add]
      rfl
    · rw [dif_pos (by decide), GatherDims.offCoord_eq_zero _ _ _ (by decide)]
      simp only [Nat.add_zero]
      have hsi : gather_S1x4x257_S3x1024x1_S1x4x3x1024_01_2_n_n_2_2_141.siIdx (ix4 0 h t e)
          ⟨List.idxOf (2 : Fin 3) gather_S1x4x257_S3x1024x1_S1x4x3x1024_01_2_n_n_2_2_141.startIndexMap,
            List.idxOf_lt_length_iff.2 (List.mem_singleton.mpr rfl)⟩ = ix3 t e 0 := by
        funext b; refine Fin.ext ?_
        match b with
        | ⟨0, _⟩ => rfl
        | ⟨1, _⟩ => rfl
        | ⟨2, _⟩ => rfl
      exact congrArg (fun i => min (w i).toInt.toNat 256) hsi
  unfold rowBias
  rw [hg]
  have e1 : (⟨min ((broadcastInDim S3x1024x1 ![0, 1] bcast_S3x1024_S3x1024x1_0_1 rowWord) (ix3 t e 0)).toInt.toNat 256, by omega⟩ : Fin 257) = relIdx (rowDist t e) := by
    refine Fin.ext ?_
    show min _ _ = _
    rw [← row_words]
    congr 3
  rw [e1]
  pointwise

theorem shifted_at (u : Vec Ideal S1x4x3x1024 .f32) (h : Fin 4) (t : Fin 3) (r : Fin 256) (x : Fin 768) :
    (shifted u (ix5 0 h t r x) : EReal) = u (ix4 0 h t ⟨(r.val * 1023 + x.val) % 1024, Nat.mod_lt _ (by norm_num)⟩) := by
  pointwise [shifted]

theorem rowDist_shift (t : Fin 3) (r : Fin 256) (x : Fin 768) :
    rowDist t ⟨(r.val * 1023 + x.val) % 1024, Nat.mod_lt _ (by norm_num)⟩ = 256 * t.val + r.val - x.val := by
  unfold rowDist
  have := r.isLt; have := x.isLt
  dsimp only
  split <;> omega

/-- The floor division of a word by 64, as the host code spells it. -/
def floorWord (w : BitVec 32) : BitVec 32 :=
  Scalar.select
    (IntOp.andi
      (IntOp.cmpi .ne ((if w = 0 then 0 else if w.msb = true then -1 else 1 : BitVec 32)) ((if 64#32 = 0 then 0 else if (64#32).msb = true then -1 else 1 : BitVec 32)))
      (IntOp.cmpi .ne (IntOp.remsi ArithUnit.host w 64#32) 0#32))
    (IntOp.subi (IntOp.divsi ArithUnit.host w 64#32) 1#32) (IntOp.divsi ArithUnit.host w 64#32)

theorem colChunk_at (t : Fin 3) (x : Fin 768) : (colChunk (ix3 t 0 x)).toInt = ((x.val : ℤ) - 256 * t.val) / 64 := by
  have h : ∀ (t : Fin 3) (x : Fin 768), (floorWord (IntOp.subi (BitVec.ofNat 32 x.val) (lit2 (S3x1x1.rowMajor (ix3 t 0 0))))).toInt
        = ((x.val : ℤ) - 256 * t.val) / 64 := by decide +kernel
  rw [← h]
  unfold floorWord
  pointwise [colChunk, colWord]

theorem rowChunk_at (x : Fin 256) : (rowChunk (ix3 0 x 0)).toInt = (x.val : ℤ) / 64 ∧ (IntOp.subi (rowChunk (ix3 0 x 0)) 8#32).toInt = (x.val : ℤ) / 64 - 8 := by
  have h : ∀ (x : Fin 256), (floorWord (BitVec.ofNat 32 x.val)).toInt = (x.val : ℤ) / 64
      ∧ (IntOp.subi (floorWord (BitVec.ofNat 32 x.val)) 8#32).toInt = (x.val : ℤ) / 64 - 8 := by decide +kernel
  have e : rowChunk (ix3 0 x 0) = floorWord (BitVec.ofNat 32 x.val) := by
    unfold floorWord
    pointwise [rowChunk]
  rw [e]
  exact h x

theorem sees_at (t : Fin 3) (r : Fin 256) (x : Fin 768) :
    sees (ix3 t r x) = BitVec.ofBool (decide (((x.val : ℤ) - 256 * t.val) / 64 ≤ (r.val : ℤ) / 64 ∧ (r.val : ℤ) / 64 - 8 ≤ ((x.val : ℤ) - 256 * t.val) / 64)) := by
  pointwise [sees]
  rw [← colChunk_at, ← (rowChunk_at r).2, ← (rowChunk_at r).1]
  generalize colChunk (ix3 t 0 x) = a
  generalize rowChunk (ix3 0 r 0) = b
  generalize IntOp.subi b 8#32 = d
  have e1 : IntOp.cmpi .sle a b = BitVec.ofBool (decide (a.toInt ≤ b.toInt)) := rfl
  have e2 : IntOp.cmpi .sge a d = BitVec.ofBool (decide (d.toInt ≤ a.toInt)) := rfl
  rw [e1, e2]
  by_cases h1 : a.toInt ≤ b.toInt <;> by_cases h2 : d.toInt ≤ a.toInt <;> simp [h1, h2, IntOp.andi]

/-- The bias table at head `h`, case `t`, row `r` and window column `x`. -/
theorem biasTable_at (rb : Vec Ideal S4x257 .f32) (h : Fin 4) (t : Fin 3) (r : Fin 256) (x : Fin 768) :
    (biasTable rb (ix4 h t r x) : EReal)
      = if ((x.val : ℤ) - 256 * t.val) / 64 ≤ (r.val : ℤ) / 64 ∧ (r.val : ℤ) / 64 - 8 ≤ ((x.val : ℤ) - 256 * t.val) / 64
        then rb (ix2 h (relIdx (256 * t.val + r.val - x.val))) else ⊥ := by
  pointwise [biasTable]
  rw [sees_at, shifted_at, rowBias_at, rowDist_shift]
  have eb : Ideal.ofBits .f32 0xFF800000#32 = ⊥ := by simp [Ideal.ofBits, Ideal.ieee]
  rw [eb]
  by_cases hp : ((x.val : ℤ) - 256 * t.val) / 64 ≤ (r.val : ℤ) / 64 ∧ (r.val : ℤ) / 64 - 8 ≤ ((x.val : ℤ) - 256 * t.val) / 64
  · rw [if_pos hp, decide_eq_true hp]; rfl
  · rw [if_neg hp, decide_eq_false hp]; rfl

end Cert.KernelIdeal.Band
-- ==== Proof.BandEq.lean ====
/-
  The kernel's output array, at finite queries, keys and biases, is the chunked band attention of `BandMath`.
-/
module

public import proofs.«01_k».proof.Proof.BandTable
public import proofs.«01_k».proof.Proof.BandPlace

@[expose] public section

set_option maxRecDepth 16384

noncomputable section

namespace Cert.KernelIdeal.Band

open Cert.KernelIdeal Cert.KernelIdeal.Gen Idealize.ShloMosaic Idealize.ShloMosaic.TcCoe Idealize.SL.Sem
open Cert.Band

/-- A head's product over its pair's 128 lanes, the other head's lanes set to zero, is the product over its own 64. -/
theorem lanes_sum (u v : Fin 256 → ℝ) (h : Fin 4) (q k : Fin 128 → EReal)
    (hq : ∀ x : Fin 128, q x = (u ⟨128 * (h.val / 2) + x.val, by omega⟩ : EReal)) (hk : ∀ x : Fin 128, k x = (v ⟨128 * (h.val / 2) + x.val, by omega⟩ : EReal)) :
    ∑ x : Fin 128, q x * qscale * (ownLanes (ix3 ⟨h.val / 2, by omega⟩ ⟨h.val % 2, by omega⟩ x) : EReal) * k x
      = (((∑ x : Fin 64, u ⟨64 * h.val + x.val, by omega⟩ * v ⟨64 * h.val + x.val, by omega⟩) * 8⁻¹ * (Real.log 2)⁻¹ : ℝ) : EReal) := by
  have hh := h.isLt
  have e : ∀ x : Fin 128, q x * qscale * (ownLanes (ix3 ⟨h.val / 2, by omega⟩ ⟨h.val % 2, by omega⟩ x) : EReal) * k x
      = ((if x.val / 64 = h.val % 2 then (fun y : Fin 64 => u ⟨64 * h.val + y.val, by omega⟩ * v ⟨64 * h.val + y.val, by omega⟩ * 8⁻¹ * (Real.log 2)⁻¹) ⟨x.val % 64, by omega⟩ else 0 : ℝ) : EReal) := by
    intro x
    have hx := x.isLt
    rw [hq, hk, lanes_at]
    dsimp only
    split_ifs with hc
    · have e1 : (⟨128 * (h.val / 2) + x.val, by omega⟩ : Fin 256) = ⟨64 * h.val + x.val % 64, by omega⟩ := Fin.ext (by dsimp only; omega)
      rw [e1, mul_one]
      unfold qscale
      norm_cast
      ring
    · rw [mul_zero, zero_mul, EReal.coe_zero]
  rw [Finset.sum_congr rfl fun x _ => e x, ← coe_sum]
  refine congrArg _ ?_
  rw [sum_window (Finset.univ : Finset (Fin 64)) (fun x : Fin 128 => x.val / 64 = h.val % 2) (fun x => ⟨x.val % 64, by omega⟩)
    (fun c _ => Finset.mem_univ _) (fun c d hc hd hcd => ?_) (fun k _ => ⟨⟨64 * (h.val % 2) + k.val, by omega⟩, by dsimp only; omega, Fin.ext (by dsimp only; omega)⟩)
    (fun y : Fin 64 => u ⟨64 * h.val + y.val, by omega⟩ * v ⟨64 * h.val + y.val, by omega⟩ * 8⁻¹ * (Real.log 2)⁻¹)]
  · rw [Finset.sum_mul, Finset.sum_mul]
  · have := congrArg Fin.val hcd
    dsimp only at this hc hd
    exact Fin.ext (by omega)

/-- A window's score: the scaled score of the key where the frame sees it, minus infinity elsewhere. -/
theorem score_eq (q : Vec Ideal S1x2048x256 .f32) (k : Vec Ideal S1x2048x256 .bf16) (rb : Vec Ideal S4x257 .f32)
    (Q K : Fin 2048 → Fin 256 → ℝ) (B : Fin 4 → Fin 257 → ℝ) (hq : ∀ s l, (q (ix3 0 s l) : EReal) = (Q s l : EReal))
    (hk : ∀ s l, (k (ix3 0 s l) : EReal) = (K s l : EReal)) (hb : ∀ h i, (rb (ix2 h i) : EReal) = (B h i : EReal))
    (h : Fin 4) (s : Fin 2048) (c : Fin 768) :
    score q k ownLanes (biasTable rb) h ⟨s.val / 256, by omega⟩ ⟨s.val % 256, by omega⟩ c
      = if Sees s.val (win0 (s.val / 256) + c.val) then
          ((logit Q K B h s ⟨win0 (s.val / 256) + c.val, win0_lt (by omega) c.isLt⟩ * (Real.log 2)⁻¹ : ℝ) : EReal)
        else ⊥ := by
  have hs := s.isLt
  have hc := c.isLt
  unfold score
  have e0 : (⟨256 * (s.val / 256) + s.val % 256, by omega⟩ : Fin 2048) = s := Fin.ext (by dsimp only; omega)
  have e1 := lanes_sum (Q s) (K ⟨win0 (s.val / 256) + c.val, win0_lt (by omega) c.isLt⟩) h
    (fun x => q (ix3 0 ⟨256 * (s.val / 256) + s.val % 256, by omega⟩ ⟨128 * (h.val / 2) + x.val, by omega⟩))
    (fun x => k (ix3 0 ⟨win0 (s.val / 256) + c.val, win0_lt (by omega) c.isLt⟩ ⟨128 * (h.val / 2) + x.val, by omega⟩))
    (fun x => by rw [hq, e0]) (fun x => hk _ _)
  refine (congrArg (· + _) e1).trans ?_
  rw [biasTable_at]
  have hcase : (((c.val : ℤ) - 256 * ((min (s.val / 256) 2 : ℕ) : ℤ)) / 64 ≤ ((s.val % 256 : ℕ) : ℤ) / 64
      ∧ ((s.val % 256 : ℕ) : ℤ) / 64 - 8 ≤ ((c.val : ℤ) - 256 * ((min (s.val / 256) 2 : ℕ) : ℤ)) / 64) ↔ Sees s.val (win0 (s.val / 256) + c.val) := by
    unfold Sees win0
    omega
  by_cases hv : Sees s.val (win0 (s.val / 256) + c.val)
  · rw [if_pos hv, if_pos (hcase.mpr hv), hb]
    unfold log2e logit
    have e2 : relIdx (256 * ((min (s.val / 256) 2 : ℕ) : ℤ) + ((s.val % 256 : ℕ) : ℤ) - (c.val : ℤ)) = relIdx ((s.val : ℤ) - ((win0 (s.val / 256) + c.val : ℕ) : ℤ)) := by
      congr 1
      unfold win0
      omega
    rw [e2, ← EReal.coe_mul, ← EReal.coe_add]
    dsimp only
    refine congrArg _ ?_
    ring
  · rw [if_neg hv, if_neg (fun hh => hv (hcase.mp hh))]
    unfold log2e
    rw [EReal.bot_mul_coe_of_pos (inv_pos.mpr (Real.log_pos (by norm_num))), EReal.add_bot]

/-- The block of one batch is its chunked band attention. -/
theorem blockOut_eq (q : Vec Ideal S1x2048x256 .f32) (k v : Vec Ideal S1x2048x256 .bf16) (rb : Vec Ideal S4x257 .f32)
    (Q K : Fin 2048 → Fin 256 → ℝ) (B : Fin 4 → Fin 257 → ℝ) (hq : ∀ s l, (q (ix3 0 s l) : EReal) = (Q s l : EReal))
    (hk : ∀ s l, (k (ix3 0 s l) : EReal) = (K s l : EReal)) (hb : ∀ h i, (rb (ix2 h i) : EReal) = (B h i : EReal))
    (s : Fin 2048) (l : Fin 256) :
    blockOut q k v ownLanes (biasTable rb) s l = attend Q K B (fun s l => v (ix3 0 s l)) s l := by
  have hs := s.isLt
  unfold blockOut attend att top
  refine soft_base2 (visible s) (visible_nonempty s) (logit Q K B ⟨l.val / 64, by omega⟩ s) (fun k => v (ix3 0 k l))
    (fun c : Fin 768 => Sees s.val (win0 (s.val / 256) + c.val)) (fun c => ⟨win0 (s.val / 256) + c.val, win0_lt (by omega) c.isLt⟩)
    (fun c hc => mem_visible.mpr hc) (fun c d _ _ hcd => ?_) (fun k hk => ?_) _ _ (fun c => score_eq q k rb Q K B hq hk hb _ s c) (fun c _ => rfl)
  · have := congrArg Fin.val hcd
    dsimp only at this
    exact Fin.ext (by omega)
  · have hk' := mem_visible.mp hk
    have hk2 := k.isLt
    have h1 : win0 (s.val / 256) ≤ k.val ∧ k.val < win0 (s.val / 256) + 768 := by unfold Sees at hk'; unfold win0; omega
    have e : win0 (s.val / 256) + (k.val - win0 (s.val / 256)) = k.val := by omega
    refine ⟨⟨k.val - win0 (s.val / 256), by omega⟩, ?_, Fin.ext e⟩
    dsimp only
    rw [e]; exact hk'

/-- The kernel's output array. -/
theorem arrayOut_eq (q k v : Vec Ideal S32x2048x256 .f32) (rb : Vec Ideal S4x257 .f32) (Q K : Fin 32 → Fin 2048 → Fin 256 → ℝ) (B : Fin 4 → Fin 257 → ℝ)
    (hq : ∀ n s l, (q (ix3 n s l) : EReal) = (Q n s l : EReal)) (hk : ∀ n s l, (k (ix3 n s l) : EReal) = (K n s l : EReal))
    (hb : ∀ h i, (rb (ix2 h i) : EReal) = (B h i : EReal)) (n : Fin 32) (s : Fin 2048) (l : Fin 256) :
    (arrayOut q (truncf (F := Ideal) .bf16 k bitsLt_bf16_f32) (truncf (F := Ideal) .bf16 v bitsLt_bf16_f32) ownLanes (biasTable rb) (ix3 n s l) : EReal)
      = attend (Q n) (K n) B (fun s l => v (ix3 n s l)) s l :=
  blockOut_eq _ _ _ rb (Q n) (K n) B (fun s l => hq n s l) (fun s l => hk n s l) hb s l

end Cert.KernelIdeal.Band
-- ==== Proof.RefStages.lean ====
/-
  The reference read at an index, in stages: the padded keys, the band of nine chunks, the masked scores, the
  weights, the result.
-/
module

public import proofs.«01_k».proof.Proof.Gen.ReferenceIdeal.Run
public import proofs.«01_k».proof.Proof.BandMath
public import Idealize.ShloMosaic.Lib.Pointwise

@[expose] public section

set_option maxRecDepth 16384

noncomputable section

namespace Cert.ReferenceIdeal.Band

open Cert.ReferenceIdeal Cert.ReferenceIdeal.Gen Idealize.ShloMosaic Idealize.ShloMosaic.TcCoe Idealize.SL.Sem
open Cert.Band (relIdx)

/-- The heads of an array, with 512 rows of zeros before, in chunks of 64 rows. -/
def padded (x : Vec Ideal S32x2048x256 .f32) : Vec Ideal S32x40x64x4x64 .f32 :=
  shapeCast S32x40x64x4x64
    (pad S32x2560x4x64 ![0, 512, 0, 0] ![0, 0, 0, 0] ![0, 0, 0, 0] (shapeCast S32x2048x4x64 x shapeCasts_S32x2048x256_S32x2048x4x64)
      (sitofp (F := Ideal) .f32 (constantI S_ 32 0#32)) pads_S32x2048x4x64_S32x2560x4x64_000_51200_000_000 h_S_)
    shapeCasts_S32x2560x4x64_S32x40x64x4x64

/-- Nine chunks side by side. -/
def band (p : Vec Ideal S32x40x64x4x64 .f32) : Vec Ideal S32x32x576x4x64 .f32 :=
  concatenate S32x32x576x4x64 2
    [⟨S32x32x64x4x64, (extractStridedSlice S32x32x64x4x64 ![0, 0, 0, 0, 0] p slices_S32x40x64x4x64_S32x32x64x4x64_0_0_0_0_0)⟩,
     ⟨S32x32x64x4x64, (extractStridedSlice S32x32x64x4x64 ![0, 1, 0, 0, 0] p slices_S32x40x64x4x64_S32x32x64x4x64_0_1_0_0_0)⟩,
     ⟨S32x32x64x4x64, (extractStridedSlice S32x32x64x4x64 ![0, 2, 0, 0, 0] p slices_S32x40x64x4x64_S32x32x64x4x64_0_2_0_0_0)⟩,
     ⟨S32x32x64x4x64, (extractStridedSlice S32x32x64x4x64 ![0, 3, 0, 0, 0] p slices_S32x40x64x4x64_S32x32x64x4x64_0_3_0_0_0)⟩,
     ⟨S32x32x64x4x64, (extractStridedSlice S32x32x64x4x64 ![0, 4, 0, 0, 0] p slices_S32x40x64x4x64_S32x32x64x4x64_0_4_0_0_0)⟩,
     ⟨S32x32x64x4x64, (extractStridedSlice S32x32x64x4x64 ![0, 5, 0, 0, 0] p slices_S32x40x64x4x64_S32x32x64x4x64_0_5_0_0_0)⟩,
     ⟨S32x32x64x4x64, (extractStridedSlice S32x32x64x4x64 ![0, 6, 0, 0, 0] p slices_S32x40x64x4x64_S32x32x64x4x64_0_6_0_0_0)⟩,
     ⟨S32x32x64x4x64, (extractStridedSlice S32x32x64x4x64 ![0, 7, 0, 0, 0] p slices_S32x40x64x4x64_S32x32x64x4x64_0_7_0_0_0)⟩,
     ⟨S32x32x64x4x64, (extractStridedSlice S32x32x64x4x64 ![0, 8, 0, 0, 0] p slices_S32x40x64x4x64_S32x32x64x4x64_0_8_0_0_0)⟩]
    concatenates_S32x32x64x4x64_S32x32x64x4x64_S32x32x64x4x64_S32x32x64x4x64_S32x32x64x4x64_S32x32x64x4x64_S32x32x64x4x64_S32x32x64x4x64_S32x32x64x4x64_S32x32x576x4x64_d2

/-- The words that index the relative biases. -/
def distWord : IVec S64x576 32 :=
  let d : IVec S64x576 32 := subi
    (broadcastInDim S64x576 ![0, 1] bcast_S64x1_S64x576_0_1
      (addi (broadcastInDim S64x1 ![0] bcast_S64_S64x1_0 (iotaInDim S64 32 0)) (broadcastInDim S64x1 ![] bcast_S_S64x1 (constantI S_ 32 512#32))))
    (broadcastInDim S64x576 ![0, 1] bcast_S1x576_S64x576_0_1 (broadcastInDim S1x576 ![1] bcast_S576_S1x576_1 (iotaInDim S576 32 0)))
  let e := addi
    (minsi (broadcastInDim S64x576 ![] bcast_S_S64x576 (constantI S_ 32 128#32))
      (maxsi (broadcastInDim S64x576 ![] bcast_S_S64x576 (constantI S_ 32 4294967168#32)) d))
    (broadcastInDim S64x576 ![] bcast_S_S64x576 (constantI S_ 32 128#32))
  select (cmpi .slt e (broadcastInDim S64x576 ![] bcast_S_S64x576 (constantI S_ 32 0#32)))
    (addi e (broadcastInDim S64x576 ![] bcast_S_S64x576 (constantI S_ 32 257#32))) e

/-- The relative biases of a chunk's rows and the band's columns. -/
def relBias (rb : Vec Ideal S4x257 .f32) : Vec Ideal S4x64x576 .f32 :=
  Host.gather gather_S4x257_S64x576x1_S4x64x576_0_1_n_n_1_2_41 rb (broadcastInDim S64x576x1 ![0, 1] bcast_S64x576_S64x576x1_0_1 distWord)

/-- Whether a column of a chunk's band is a frame of the sequence. -/
def valid : IVec S32x576 1 :=
  cmpi .sge
    (addi
      (broadcastInDim S32x576 ![0, 1] bcast_S32x1_S32x576_0_1
        (subi (muli (broadcastInDim S32x1 ![0] bcast_S32_S32x1_0 (iotaInDim S32 32 0)) (broadcastInDim S32x1 ![] bcast_S_S32x1 (constantI S_ 32 64#32)))
          (broadcastInDim S32x1 ![] bcast_S_S32x1 (constantI S_ 32 512#32))))
      (broadcastInDim S32x576 ![0, 1] bcast_S1x576_S32x576_0_1 (broadcastInDim S1x576 ![1] bcast_S576_S1x576_1 (iotaInDim S576 32 0))))
    (broadcastInDim S32x576 ![] bcast_S_S32x576 (constantI S_ 32 0#32))

/-- The masked scores. -/
def scores (q : Vec Ideal S32x2048x256 .f32) (kb : Vec Ideal S32x32x576x4x64 .f32) (rb : Vec Ideal S4x257 .f32) : Vec Ideal S32x32x4x64x576 .f32 :=
  select
    (broadcastInDim S32x32x4x64x576 ![0, 1, 2, 3, 4] bcast_S1x32x1x1x576_S32x32x4x64x576_0_1_2_3_4
      (broadcastInDim S1x32x1x1x576 ![1, 4] bcast_S32x576_S1x32x1x1x576_1_4 valid))
    (addf (F := Ideal)
      (mulf (F := Ideal)
        (Host.dotGeneral (F := Ideal) (φ₁ := .f32) (φ₂ := .f32) dot_S32x32x64x4x64_S32x32x576x4x64_S32x32x4x64x576_4_4_2_2_013_013 none
          (shapeCast S32x32x64x4x64 (shapeCast S32x2048x4x64 q shapeCasts_S32x2048x256_S32x2048x4x64) shapeCasts_S32x2048x4x64_S32x32x64x4x64) kb)
        (broadcastInDim S32x32x4x64x576 ![] bcast_S_S32x32x4x64x576 (constant (F := Ideal) S_ .f32 0x3E000000#32)))
      (broadcastInDim S32x32x4x64x576 ![0, 1, 2, 3, 4] bcast_S1x1x4x64x576_S32x32x4x64x576_0_1_2_3_4
        (broadcastInDim S1x1x4x64x576 ![2, 3, 4] bcast_S4x64x576_S1x1x4x64x576_2_3_4 (relBias rb))))
    (broadcastInDim S32x32x4x64x576 ![] bcast_S_S32x32x4x64x576 (constant (F := Ideal) S_ .f32 0xFF800000#32))

/-- A row's largest score. -/
def rowTop (s : Vec Ideal S32x32x4x64x576 .f32) : Vec Ideal S32x32x4x64 .f32 :=
  Host.reduce (FloatOps.maximumf (F := Ideal) (φ := .f32)) s (constant (F := Ideal) S_ .f32 0xFF800000#32) reducesTo_S32x32x4x64x576_S32x32x4x64_d4 h_S_

/-- The rows' largest scores, against minus infinity. -/
def rowGuard (s : Vec Ideal S32x32x4x64x576 .f32) : Vec Ideal S32x32x4x64 .f32 :=
  maximumf (F := Ideal) (broadcastInDim S32x32x4x64 ![] bcast_S_S32x32x4x64 (constant (F := Ideal) S_ .f32 0xFF800000#32)) (rowTop s)

/-- The exponentials under a row's largest score. -/
def expo (s : Vec Ideal S32x32x4x64x576 .f32) : Vec Ideal S32x32x4x64x576 .f32 :=
  Host.exp (F := Ideal) (φ := .f32) (subf (F := Ideal) (φ := .f32) s
    (broadcastInDim S32x32x4x64x576 ![0, 1, 2, 3, 4] bcast_S32x32x4x64x1_S32x32x4x64x576_0_1_2_3_4
      (broadcastInDim S32x32x4x64x1 ![0, 1, 2, 3] bcast_S32x32x4x64_S32x32x4x64x1_0_1_2_3 (rowGuard s))))

/-- The weights. -/
def weights (e : Vec Ideal S32x32x4x64x576 .f32) : Vec Ideal S32x32x4x64x576 .f32 :=
  Host.divf (F := Ideal) e
    (broadcastInDim S32x32x4x64x576 ![0, 1, 2, 3, 4] bcast_S32x32x4x64x1_S32x32x4x64x576_0_1_2_3_4
      (broadcastInDim S32x32x4x64x1 ![0, 1, 2, 3] bcast_S32x32x4x64_S32x32x4x64x1_0_1_2_3
        (Host.reduceAdd (F := Ideal) e (constant (F := Ideal) S_ .f32 0x00000000#32) reducesTo_S32x32x4x64x576_S32x32x4x64_d4 h_S_)))

/-- The weighted values, as the model's rows. -/
def outcome (vb : Vec Ideal S32x32x576x4x64 .f32) (w : Vec Ideal S32x32x4x64x576 .f32) : Vec Ideal S32x2048x256 .bf16 :=
  truncf (F := Ideal) .bf16
    (shapeCast S32x2048x256
      (transpose S32x32x64x4x64 [0, 1, 4, 2, 3]
        (Host.dotGeneral (F := Ideal) (φ₁ := .f32) (φ₂ := .f32) dot_S32x32x576x4x64_S32x32x4x64x576_S32x32x4x64x64_2_4_4_3_013_012 none vb w)
        transposes_S32x32x4x64x64_S32x32x64x4x64_0_1_4_2_3)
      shapeCasts_S32x32x64x4x64_S32x2048x256)
    bitsLt_bf16_f32

end Cert.ReferenceIdeal.Band
-- ==== Proof.RefAt.lean ====
/-
  The reference's stages at an index.
-/
module

public import proofs.«01_k».proof.Proof.RefStages
public import Idealize.ShloMosaic.Lib.Pointwise
public import Idealize.ShloMosaic.Lib.Tactic.CleanTypes

@[expose] public section

set_option maxRecDepth 16384

noncomputable section

namespace Cert.ReferenceIdeal.Band

open Cert.ReferenceIdeal Cert.ReferenceIdeal.Gen Idealize.ShloMosaic Idealize.ShloMosaic.TcCoe Idealize.SL.Sem
open Cert.Band (relIdx)

theorem ofBits_negInf : Ideal.ofBits .f32 0xFF800000#32 = ⊥ := by
  simp [Ideal.ofBits, Ideal.ieee]

theorem ofBits_eighth : Ideal.ofBits .f32 0x3E000000#32 = ((8⁻¹ : ℝ) : EReal) := by
  simp [Ideal.ofBits, Ideal.ieee]
  rw [← EReal.coe_mul]
  norm_num

/-- The padded array at chunk `j`, row `e`. -/
theorem padded_at (x : Vec Ideal S32x2048x256 .f32) (n : Fin 32) (j : Fin 40) (e : Fin 64) (h : Fin 4) (d : Fin 64) :
    (padded x (ix5 n j e h d) : EReal)
      = if hk : 512 ≤ 64 * j.val + e.val then x (ix3 n ⟨64 * j.val + e.val - 512, by omega⟩ ⟨64 * h.val + d.val, by omega⟩) else 0 := by
  pointwise [padded]
  have hj := j.isLt
  have he := e.isLt
  by_cases hk : 512 ≤ 64 * j.val + e.val
  · rw [dif_pos (by omega), dif_pos hk]
    exact congrArg₂ (fun a b => x (ix3 n a b)) (Fin.ext (by dsimp only; omega)) (Fin.ext (by dsimp only; omega))
  · rw [dif_neg (by omega), dif_neg hk]
    show ((((0#32 : BitVec 32).toInt : ℤ) : ℝ) : EReal) = 0
    simp

/-- The band at column `c` is row `c % 64` of chunk `j + c / 64`. -/
theorem band_at (p : Vec Ideal S32x40x64x4x64 .f32) (n : Fin 32) (j : Fin 32) (c : Fin 576) (h : Fin 4) (d : Fin 64) :
    (band p (ix5 n j c h d) : EReal) = p (ix5 n ⟨j.val + c.val / 64, by omega⟩ ⟨c.val % 64, by omega⟩ h d) := by
  pointwise [band]
  have hc := c.isLt
  split_ifs <;> exact congrArg₂ (fun a b => p (ix5 n a b h d)) (Fin.ext (by dsimp only; omega)) (Fin.ext (by dsimp only; omega))

/-- The band of an array: frame `64 j + c - 512` where there is one, zero before the sequence. -/
theorem band_padded_at (x : Vec Ideal S32x2048x256 .f32) (n : Fin 32) (j : Fin 32) (c : Fin 576) (h : Fin 4) (d : Fin 64) :
    (band (padded x) (ix5 n j c h d) : EReal)
      = if hk : 512 ≤ 64 * j.val + c.val then x (ix3 n ⟨64 * j.val + c.val - 512, by omega⟩ ⟨64 * h.val + d.val, by omega⟩) else 0 := by
  rw [band_at, padded_at]
  dsimp only
  have e : 64 * (j.val + c.val / 64) + c.val % 64 = 64 * j.val + c.val := by omega
  by_cases hk : 512 ≤ 64 * j.val + c.val
  · rw [dif_pos (by omega), dif_pos hk]
    exact congrArg (fun a => x (ix3 n a _)) (Fin.ext (by dsimp only; omega))
  · rw [dif_neg (by omega), dif_neg hk]

theorem valid_at (j : Fin 32) (c : Fin 576) : valid (ix2 j c) = BitVec.ofBool (decide (512 ≤ 64 * j.val + c.val)) := by
  pointwise [valid]
  have h : ∀ p : Fin 2560, IntOp.cmpi .sge (IntOp.subi (BitVec.ofNat 32 p.val) 512#32) 0#32 = BitVec.ofBool (decide (512 ≤ p.val)) := by
    decide +kernel
  have hj := j.isLt
  have hc := c.isLt
  have e : IntOp.addi (IntOp.subi (IntOp.muli (BitVec.ofNat 32 j.val) 64#32) 512#32) (BitVec.ofNat 32 c.val)
      = IntOp.subi (BitVec.ofNat 32 (64 * j.val + c.val)) 512#32 := by
    show (BitVec.ofNat 32 j.val * 64#32 - 512#32) + BitVec.ofNat 32 c.val = BitVec.ofNat 32 (64 * j.val + c.val) - 512#32
    refine BitVec.eq_of_toNat_eq ?_
    simp only [BitVec.toNat_add, BitVec.toNat_sub, BitVec.toNat_mul, BitVec.toNat_ofNat]
    omega
  rw [e]
  exact h ⟨64 * j.val + c.val, by omega⟩

theorem distWord_at (e : Fin 64) (c : Fin 576) : min (distWord (ix2 e c)).toInt.toNat 256 = (relIdx ((e.val : ℤ) + 512 - c.val)).val := by
  pointwise [distWord]
  have h : ∀ p : Fin 640, min (Scalar.select
      (IntOp.cmpi .slt (IntOp.addi (IntOp.minsi 128#32 (IntOp.maxsi 4294967168#32 (IntOp.subi (BitVec.ofNat 32 p.val) 64#32))) 128#32) 0#32)
      (IntOp.addi (IntOp.addi (IntOp.minsi 128#32 (IntOp.maxsi 4294967168#32 (IntOp.subi (BitVec.ofNat 32 p.val) 64#32))) 128#32) 257#32)
      (IntOp.addi (IntOp.minsi 128#32 (IntOp.maxsi 4294967168#32 (IntOp.subi (BitVec.ofNat 32 p.val) 64#32))) 128#32)).toInt.toNat 256
        = (relIdx ((p.val : ℤ) - 64)).val := by decide +kernel
  have he := e.isLt
  have hc := c.isLt
  have ew : IntOp.subi (IntOp.addi (BitVec.ofNat 32 e.val) 512#32) (BitVec.ofNat 32 c.val) = IntOp.subi (BitVec.ofNat 32 (e.val + 576 - c.val)) 64#32 := by
    show (BitVec.ofNat 32 e.val + 512#32) - BitVec.ofNat 32 c.val = BitVec.ofNat 32 (e.val + 576 - c.val) - 64#32
    refine BitVec.eq_of_toNat_eq ?_
    simp only [BitVec.toNat_add, BitVec.toNat_sub, BitVec.toNat_ofNat]
    omega
  rw [ew]
  refine (h ⟨e.val + 576 - c.val, by omega⟩).trans ?_
  dsimp only
  congr 2
  omega

theorem relBias_at (rb : Vec Ideal S4x257 .f32) (h : Fin 4) (e : Fin 64) (c : Fin 576) :
    (relBias rb (ix3 h e c) : EReal) = rb (ix2 h (relIdx ((e.val : ℤ) + 512 - c.val))) := by
  have hg : ∀ (w : IVec S64x576x1 32), Host.gather gather_S4x257_S64x576x1_S4x64x576_0_1_n_n_1_2_41 rb w (ix3 h e c)
      = rb (ix2 h ⟨min (w (ix3 e c 0)).toInt.toNat 256, by omega⟩) := by
    intro w
    unfold Host.gather
    congr 1
    funext a
    refine Fin.ext ?_
    show gather_S4x257_S64x576x1_S4x64x576_0_1_n_n_1_2_41.start (ix3 h e c) w a
      + gather_S4x257_S64x576x1_S4x64x576_0_1_n_n_1_2_41.batchCoord (ix3 h e c) a
      + gather_S4x257_S64x576x1_S4x64x576_0_1_n_n_1_2_41.offCoord (ix3 h e c) a = _
    rw [GatherDims.batchCoord_eq_zero _ _ _ List.not_mem_nil]
    unfold GatherDims.start
    have ha : a = 0 ∨ a = 1 := by
      match a with
      | ⟨0, _⟩ => exact Or.inl rfl
      | ⟨1, _⟩ => exact Or.inr rfl
    rcases ha with rfl | rfl
    · rw [dif_neg (by decide)]
      unfold GatherDims.offCoord
      rw [dif_pos (by decide)]
      simp only [Nat.zero_add]
      rfl
    · rw [dif_pos (by decide), GatherDims.offCoord_eq_zero _ _ _ (by decide)]
      simp only [Nat.add_zero]
      have hsi : gather_S4x257_S64x576x1_S4x64x576_0_1_n_n_1_2_41.siIdx (ix3 h e c)
          ⟨List.idxOf (1 : Fin 2) gather_S4x257_S64x576x1_S4x64x576_0_1_n_n_1_2_41.startIndexMap,
            List.idxOf_lt_length_iff.2 (List.mem_singleton.mpr rfl)⟩ = ix3 e c 0 := by
        funext b; refine Fin.ext ?_
        match b with
        | ⟨0, _⟩ => rfl
        | ⟨1, _⟩ => rfl
        | ⟨2, _⟩ => rfl
      exact congrArg (fun i => min (w i).toInt.toNat 256) hsi
  unfold relBias
  rw [hg]
  refine congrArg (fun i => rb (ix2 h i)) (Fin.ext ?_)
  rw [← distWord_at]
  show min _ _ = _
  congr 3

/-- The scores at batch `n`, chunk `j`, head `h`, row `e` of the chunk and column `c` of the band. -/
theorem scores_at (q : Vec Ideal S32x2048x256 .f32) (kb : Vec Ideal S32x32x576x4x64 .f32) (rb : Vec Ideal S4x257 .f32) (n : Fin 32) (j : Fin 32) (h : Fin 4) (e : Fin 64) (c : Fin 576) :
    (scores q kb rb (ix5 n j h e c) : EReal)
      = if 512 ≤ 64 * j.val + c.val then
          (∑ x : Fin 64, q (ix3 n ⟨64 * j.val + e.val, by omega⟩ ⟨64 * h.val + x.val, by omega⟩) * kb (ix5 n j c h x)) * ((8⁻¹ : ℝ) : EReal)
            + rb (ix2 h (relIdx ((e.val : ℤ) + 512 - c.val)))
        else ⊥ := by
  pointwise [scores]
  rw [valid_at, relBias_at, ofBits_negInf, ofBits_eighth]
  have e1 : (⟨j.val * 64 + e.val, by omega⟩ : Fin 2048) = ⟨64 * j.val + e.val, by omega⟩ := Fin.ext (by dsimp only; omega)
  have e2 : ∀ x : Fin 64, (⟨h.val * 64 + x.val, by omega⟩ : Fin 256) = ⟨64 * h.val + x.val, by omega⟩ := fun x => Fin.ext (by dsimp only; omega)
  simp only [e1, e2]
  by_cases hp : 512 ≤ 64 * j.val + c.val
  · rw [if_pos hp, decide_eq_true hp]; rfl
  · rw [if_neg hp, decide_eq_false hp]; rfl

theorem rowTop_at (s : Vec Ideal S32x32x4x64x576 .f32) (n : Fin 32) (j : Fin 32) (h : Fin 4) (e : Fin 64) :
    (rowTop s (ix4 n j h e) : EReal) = Finset.univ.fold max (⊥ : EReal) (fun c : Fin 576 => s (ix5 n j h e c)) := by
  unfold rowTop
  rw [Host.reduce_eq_fold_single (FloatOps.maximumf (F := Ideal) (φ := .f32)) s _ reducesTo_S32x32x4x64x576_S32x32x4x64_d4 (by decide) h_S_]
  have e1 : (constant (F := Ideal) S_ .f32 0xFF800000#32) (Shape.Idx.first h_S_) = (⊥ : EReal) := ofBits_negInf
  rw [e1]
  refine Finset.fold_congr (fun c _ => ?_)
  refine congrArg s ?_
  funext a
  refine Fin.ext ?_
  match a with
  | ⟨0, _⟩ => rfl
  | ⟨1, _⟩ => rfl
  | ⟨2, _⟩ => rfl
  | ⟨3, _⟩ => rfl
  | ⟨4, _⟩ => rfl

theorem guard_at (g : Vec Ideal S32x32x4x64 .f32) (i : S32x32x4x64.Idx) :
    (maximumf (F := Ideal) (φ := .f32) (broadcastInDim S32x32x4x64 ![] bcast_S_S32x32x4x64 (constant (F := Ideal) S_ .f32 0xFF800000#32)) g i : EReal) = g i := by
  have h : ∀ a : EReal, (FloatOps.maximumf (F := Ideal) (φ := .f32) (Ideal.ofBits .f32 0xFF800000#32) a : EReal) = a := fun a => by
    rw [ofBits_negInf]
    exact max_eq_right bot_le
  exact h (g i)

theorem rowGuard_at (s : Vec Ideal S32x32x4x64x576 .f32) (i : S32x32x4x64.Idx) : (rowGuard s i : EReal) = rowTop s i := by
  unfold rowGuard
  exact guard_at _ i

theorem expo_at (s : Vec Ideal S32x32x4x64x576 .f32) (n : Fin 32) (j : Fin 32) (h : Fin 4) (e : Fin 64) (c : Fin 576) :
    (expo s (ix5 n j h e c) : EReal)
      = Ideal.exp (s (ix5 n j h e c) - Finset.univ.fold max (⊥ : EReal) (fun c : Fin 576 => s (ix5 n j h e c))) := by
  have h1 : (expo s (ix5 n j h e c) : EReal) = Ideal.exp (s (ix5 n j h e c) - rowGuard s (ix4 n j h e)) := by
    generalize hg : rowGuard s = g
    unfold expo
    rw [hg]
    pointwise []
  rw [h1, rowGuard_at, rowTop_at]

theorem weights_at (s : Vec Ideal S32x32x4x64x576 .f32) (n : Fin 32) (j : Fin 32) (h : Fin 4) (e : Fin 64) (c : Fin 576) :
    (weights s (ix5 n j h e c) : EReal) = Ideal.div (s (ix5 n j h e c)) (∑ x : Fin 576, s (ix5 n j h e x)) := by
  pointwise [weights]

theorem outcome_at (vb : Vec Ideal S32x32x576x4x64 .f32) (w : Vec Ideal S32x32x4x64x576 .f32) (n : Fin 32) (s : Fin 2048) (l : Fin 256) :
    (outcome vb w (ix3 n s l) : EReal)
      = ∑ c : Fin 576, vb (ix5 n ⟨s.val / 64, by omega⟩ c ⟨l.val / 64, by omega⟩ ⟨l.val % 64, by omega⟩)
          * w (ix5 n ⟨s.val / 64, by omega⟩ ⟨l.val / 64, by omega⟩ ⟨s.val % 64, by omega⟩ c) := by
  pointwise [outcome]

end Cert.ReferenceIdeal.Band
-- ==== Proof.RefEq.lean ====
/-
  The reference's result, at finite queries, keys and biases, is the chunked band attention of `BandMath`.
-/
module

public import proofs.«01_k».proof.Proof.RefAt
public import proofs.«01_k».proof.Proof.BandMath

@[expose] public section

set_option maxRecDepth 16384

noncomputable section

namespace Cert.ReferenceIdeal.Band

open Cert.ReferenceIdeal Cert.ReferenceIdeal.Gen Idealize.ShloMosaic Idealize.ShloMosaic.TcCoe Idealize.SL.Sem
open Cert.Band

/-- A chunk's score: the score of the key where the column is in the sequence, minus infinity before it. -/
theorem scores_eq (q k : Vec Ideal S32x2048x256 .f32) (rb : Vec Ideal S4x257 .f32) (Q K : Fin 32 → Fin 2048 → Fin 256 → ℝ) (B : Fin 4 → Fin 257 → ℝ)
    (hq : ∀ n s l, (q (ix3 n s l) : EReal) = (Q n s l : EReal)) (hk : ∀ n s l, (k (ix3 n s l) : EReal) = (K n s l : EReal))
    (hb : ∀ h i, (rb (ix2 h i) : EReal) = (B h i : EReal)) (n : Fin 32) (s : Fin 2048) (h : Fin 4) (c : Fin 576) :
    (scores q (band (padded k)) rb (ix5 n ⟨s.val / 64, by omega⟩ h ⟨s.val % 64, by omega⟩ c) : EReal)
      = if 512 ≤ 64 * (s.val / 64) + c.val then
          ((logit (Q n) (K n) B h s ⟨64 * (s.val / 64) + c.val - 512, by omega⟩ : ℝ) : EReal)
        else ⊥ := by
  have hs := s.isLt
  have hc := c.isLt
  rw [scores_at]
  dsimp only
  by_cases hv : 512 ≤ 64 * (s.val / 64) + c.val
  · rw [if_pos hv, if_pos hv]
    have e0 : (⟨64 * (s.val / 64) + s.val % 64, by omega⟩ : Fin 2048) = s := Fin.ext (by dsimp only; omega)
    have e2 : relIdx (((s.val % 64 : ℕ) : ℤ) + 512 - (c.val : ℤ)) = relIdx ((s.val : ℤ) - ((64 * (s.val / 64) + c.val - 512 : ℕ) : ℤ)) := by
      congr 1
      omega
    have e3 : ∀ x : Fin 64, (q (ix3 n ⟨64 * (s.val / 64) + s.val % 64, by omega⟩ ⟨64 * h.val + x.val, by omega⟩) : EReal)
        * band (padded k) (ix5 n ⟨s.val / 64, by omega⟩ c h x)
        = ((Q n s ⟨64 * h.val + x.val, by omega⟩ * K n ⟨64 * (s.val / 64) + c.val - 512, by omega⟩ ⟨64 * h.val + x.val, by omega⟩ : ℝ) : EReal) := fun x => by
      rw [band_padded_at, dif_pos hv, hq, hk, e0, EReal.coe_mul]
    rw [Finset.sum_congr rfl fun x _ => e3 x, ← coe_sum, hb, e2]
    unfold logit
    norm_cast
  · rw [if_neg hv, if_neg hv]

/-- The reference's result. -/
theorem outcome_eq (q k v : Vec Ideal S32x2048x256 .f32) (rb : Vec Ideal S4x257 .f32) (Q K : Fin 32 → Fin 2048 → Fin 256 → ℝ) (B : Fin 4 → Fin 257 → ℝ)
    (hq : ∀ n s l, (q (ix3 n s l) : EReal) = (Q n s l : EReal)) (hk : ∀ n s l, (k (ix3 n s l) : EReal) = (K n s l : EReal))
    (hb : ∀ h i, (rb (ix2 h i) : EReal) = (B h i : EReal)) (n : Fin 32) (s : Fin 2048) (l : Fin 256) :
    (outcome (band (padded v)) (weights (expo (scores q (band (padded k)) rb))) (ix3 n s l) : EReal)
      = attend (Q n) (K n) B (fun s l => v (ix3 n s l)) s l := by
  have hs := s.isLt
  have hl := l.isLt
  rw [outcome_at]
  unfold attend
  simp only [weights_at, expo_at]
  refine soft_natural (visible s) (visible_nonempty s) (logit (Q n) (K n) B ⟨l.val / 64, by omega⟩ s) (fun k => v (ix3 n k l))
    (fun c : Fin 576 => 512 ≤ 64 * (s.val / 64) + c.val) (fun c => ⟨64 * (s.val / 64) + c.val - 512, by omega⟩)
    (fun c hc => mem_visible.mpr ?_) (fun c d hc hd hcd => ?_) (fun k hk => ?_)
    (fun c => scores q (band (padded k)) rb (ix5 n ⟨s.val / 64, by omega⟩ ⟨l.val / 64, by omega⟩ ⟨s.val % 64, by omega⟩ c))
    (fun c => band (padded v) (ix5 n ⟨s.val / 64, by omega⟩ c ⟨l.val / 64, by omega⟩ ⟨l.val % 64, by omega⟩))
    (fun c => scores_eq q k rb Q K B hq hk hb n s _ c) (fun c hc => ?_)
  · dsimp only at hc ⊢
    unfold Sees
    omega
  · have := congrArg Fin.val hcd
    dsimp only at this hc hd
    exact Fin.ext (by omega)
  · have hk' := mem_visible.mp hk
    have hk2 := k.isLt
    unfold Sees at hk'
    exact ⟨⟨k.val + 512 - 64 * (s.val / 64), by omega⟩, by dsimp only; omega, Fin.ext (by dsimp only; omega)⟩
  · rw [band_padded_at]
    dsimp only at hc ⊢
    rw [dif_pos hc]
    exact congrArg (fun a => v (ix3 n _ a)) (Fin.ext (by dsimp only; omega))

end Cert.ReferenceIdeal.Band
-- ==== Proof.RefResult.lean ====
module

public import proofs.«01_k».proof.Proof.RefStages
public import Idealize.ShloMosaic.Lib.Pointwise
public import Idealize.ShloMosaic.Lib.Tactic.CleanTypes

@[expose] public section

set_option maxRecDepth 16384

noncomputable section

namespace Cert.ReferenceIdeal.Band

open Cert.ReferenceIdeal Cert.ReferenceIdeal.Gen Idealize.ShloMosaic Idealize.ShloMosaic.TcCoe Idealize.SL.Sem
open Cert.Band (relIdx)

section Result
variable (m : (ℓ : Loc nD τ sig) → Buf (Elt Ideal) ℓ) (c : Dev nD)

theorem result : Cert.ReferenceIdeal.Value.res_main_v82 m c
    = outcome (band (padded (m ((c.tc : Thread nD τ).loc main_arg2))))
        (weights (expo (scores (m ((c.tc : Thread nD τ).loc main_arg0)) (band (padded (m ((c.tc : Thread nD τ).loc main_arg1))))
          (m ((c.tc : Thread nD τ).loc main_arg3))))) := by
  unfold Cert.ReferenceIdeal.Value.res_main_v82
  rfl

end Result

end Cert.ReferenceIdeal.Band
-- ==== Proof.BandClaims.lean ====
/-
  The claims of the band attention, from its frames, its named constants and the two values.
-/
module

public import proofs.«01_k».proof.Defs
public import proofs.«01_k».proof.Proof.Gen.Kernel
public import proofs.«01_k».proof.Proof.Gen.Kernel.Frame
public import proofs.«01_k».proof.Proof.BandArray
public import proofs.«01_k».proof.Proof.BandEq
public import proofs.«01_k».proof.Proof.RefEq
public import proofs.«01_k».proof.Proof.RefResult
public import Idealize.ShloMosaic.Lib.Claim

@[expose] public section

set_option maxRecDepth 16384

noncomputable section

namespace Cert.Proof.Band

open Idealize.ShloMosaic Idealize.ShloMosaic.TcCoe Idealize.SL.Sem

/-- The precondition's broadcasts. -/
instance preFacts : Cert.Pre_finite.Facts where
  bcast_S_S32x2048x256 := by decide
  bcast_S_S4x257 := by decide

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_ri_finite : Cert.quiescent_ReferenceIdeal_pre_finite := fun m ρ _ => frame_ri m ρ trivial

theorem preserves : Cert.preserves_Kernel_KernelIdeal :=
  ⟨IdealRules.named_const.statement Cert.KernelIdeal.κ "qscale" .f32 0x3E38AA3B#32 ((8⁻¹ * (Real.log 2)⁻¹ : ℝ) : EReal) rfl,
    IdealRules.named_const.statement Cert.KernelIdeal.κ "log2e" .f32 0x3FB8AA3B#32 (((Real.log 2)⁻¹ : ℝ) : EReal) rfl⟩

/-- An extended real whose absolute value is under the infinity of the format is its own real part. -/
theorem real_of_lt (x : EReal) (h : FloatOps.cmpf (F := Ideal) (φ := .f32) .olt (FloatOps.hostAbsf (F := Ideal) (φ := .f32) x) (Ideal.ofBits .f32 0x7F800000#32) = 1#1) :
    x = ((x.toReal : ℝ) : EReal) := by
  have hi : Ideal.ofBits .f32 0x7F800000#32 = ⊤ := by simp [Ideal.ofBits, Ideal.ieee]
  rw [hi] at h
  have h' : BitVec.ofBool (decide (max x (-x) < ⊤)) = 1#1 := h
  have h2 : max x (-x) < ⊤ := by
    by_contra hn
    rw [decide_eq_false hn] at h'
    exact absurd h' (by decide)
  refine (EReal.coe_toReal (fun e => ?_) (fun e => ?_)).symm
  · subst e; simp at h2
  · subst e; simp at h2

/-- The two results agree where queries, keys and biases are finite. -/
theorem value (q k v : Vec Ideal Cert.KernelIdeal.S32x2048x256 .f32) (rb : Vec Ideal Cert.KernelIdeal.S4x257 .f32)
    (hq : (Cert.Pre_finite.fn (F := Ideal) q k v rb).1 = (fun _ => 1#1))
    (hk : (Cert.Pre_finite.fn (F := Ideal) q k v rb).2.1 = (fun _ => 1#1))
    (hb : (Cert.Pre_finite.fn (F := Ideal) q k v rb).2.2 = (fun _ => 1#1)) :
    Cert.ReferenceIdeal.Band.outcome (Cert.ReferenceIdeal.Band.band (Cert.ReferenceIdeal.Band.padded v))
        (Cert.ReferenceIdeal.Band.weights (Cert.ReferenceIdeal.Band.expo (Cert.ReferenceIdeal.Band.scores q
          (Cert.ReferenceIdeal.Band.band (Cert.ReferenceIdeal.Band.padded k)) rb)))
      = Cert.KernelIdeal.Band.arrayOut q (truncf (F := Ideal) .bf16 k Cert.KernelIdeal.Gen.bitsLt_bf16_f32)
          (truncf (F := Ideal) .bf16 v Cert.KernelIdeal.Gen.bitsLt_bf16_f32) Cert.KernelIdeal.Band.ownLanes (Cert.KernelIdeal.Band.biasTable rb) := by
  have q' : ∀ n s l, (q (ix3 n s l) : EReal) = (((q (ix3 n s l) : EReal).toReal : ℝ) : EReal) := fun n s l => real_of_lt _ (congrFun hq (ix3 n s l))
  have k' : ∀ n s l, (k (ix3 n s l) : EReal) = (((k (ix3 n s l) : EReal).toReal : ℝ) : EReal) := fun n s l => real_of_lt _ (congrFun hk (ix3 n s l))
  have b' : ∀ h i, (rb (ix2 h i) : EReal) = (((rb (ix2 h i) : EReal).toReal : ℝ) : EReal) := fun h i => real_of_lt _ (congrFun hb (ix2 h i))
  funext j
  have e := ix3_eta j
  rw [← e]
  exact (Cert.ReferenceIdeal.Band.outcome_eq q k v rb _ _ _ q' k' b' _ _ _).trans
    (Cert.KernelIdeal.Band.arrayOut_eq q k v rb _ _ _ q' k' b' _ _ _).symm

theorem algebraic : Cert.algebraic_KernelIdeal_ReferenceIdeal_pre_finite := by
  pair_intro
  · run_from Cert.KernelIdeal.Value.run_blocks m g
  · run_from Cert.ReferenceIdeal.Value.run m' g'
    obtain ⟨h0, h1, h2, h3⟩ := hagree c
    obtain ⟨p0, p1, p2⟩ := hpre c
    rw [Cert.ReferenceIdeal.Band.result m' c, Cert.KernelIdeal.Band.final m c, Cert.KernelIdeal.Gen.V_main_arg0 m c,
      Cert.KernelIdeal.Band.keys, Cert.KernelIdeal.Band.values, Cert.KernelIdeal.Band.mask, Cert.KernelIdeal.Band.bias, h0, h1, h2, h3]
    exact value _ _ _ _ p0 p1 p2

end Cert.Proof.Band
-- ==== Proof.MergeMath.lean ====
/-
  One frame of the mixer's merge, on the extended reals: the normalised and modulated row, the four gates, the gated
  sum of the four branches, the residual, and the normalised input of the experts.
-/
module

public import Idealize.ShloMosaic.Lib.Pointwise

@[expose] public section

noncomputable section

namespace Cert.Merge

open Idealize.ShloMosaic Idealize.ShloMosaic.TcCoe Idealize.SL.Sem

/-- A row over the root of its mean square, times a gain, scaled by one and `a`, shifted by `b`. -/
def norm (x g a b : Fin 1024 → EReal) (d : Fin 1024) : EReal :=
  x d * Ideal.rsqrt (Ideal.div (∑ e, x e * x e) (Ideal.ofBits .f32 0x44800000#32) + Ideal.ofBits .f32 0x358637BD#32) * g d * (1 + a d) + b d

/-- A gate: the logistic function of a row's product with a column. -/
def gate (h w : Fin 1024 → EReal) : EReal := Ideal.div 1 (1 + Ideal.exp (0 - ∑ e, h e * w e))

/-- A branch's part of the merged row: its gate times its projection. -/
def part (h w : Fin 1024 → EReal) (o b : Fin 256 → EReal) : EReal := gate h w * ∑ x, o x * b x

/-- The merged row. -/
def merged (h : Fin 1024 → EReal) (w : Fin 1024 → Fin 4096 → EReal) (oa ob oc od : Fin 256 → EReal) (wb : Fin 4 → Fin 256 → Fin 1024 → EReal)
    (d : Fin 1024) : EReal :=
  part h (fun e => w e ⟨0 + d.val, by omega⟩) oa (fun x => wb 0 x d) + part h (fun e => w e ⟨1024 + d.val, by omega⟩) ob (fun x => wb 1 x d)
    + part h (fun e => w e ⟨2048 + d.val, by omega⟩) oc (fun x => wb 2 x d) + part h (fun e => w e ⟨3072 + d.val, by omega⟩) od (fun x => wb 3 x d)

/-- The residual after the mixer. -/
def mixed (x : Fin 1024 → EReal) (mod : Fin 6 → Fin 1024 → EReal) (g : Fin 1024 → EReal) (oa ob oc od : Fin 256 → EReal)
    (w : Fin 1024 → Fin 4096 → EReal) (wb : Fin 4 → Fin 256 → Fin 1024 → EReal) (wo : Fin 1024 → Fin 1024 → EReal) (d : Fin 1024) : EReal :=
  x d + mod 2 d * ∑ e, merged (norm x g (mod 1) (mod 0)) w oa ob oc od wb e * wo e d

/-- The experts' input. -/
def ffnIn (x : Fin 1024 → EReal) (mod : Fin 6 → Fin 1024 → EReal) (g g' : Fin 1024 → EReal) (oa ob oc od : Fin 256 → EReal)
    (w : Fin 1024 → Fin 4096 → EReal) (wb : Fin 4 → Fin 256 → Fin 1024 → EReal) (wo : Fin 1024 → Fin 1024 → EReal) (d : Fin 1024) : EReal :=
  norm (mixed x mod g oa ob oc od w wb wo) g' (mod 4) (mod 3) d

end Cert.Merge
-- ==== Proof.MergeTile.lean ====
/-
  The merge's body on 256 rows, at the ideal reading: its payloads at an index. The body does two such tiles, the
  operations of the second cut into other pieces than those of the first.
-/
module

public import proofs.«01_k».proof.Proof.MergeMath
public import proofs.«01_k».proof.Proof.Gen.Kernel2Ideal.Skeleton
public import Idealize.ShloMosaic.Lib.Pointwise

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Cert.Merge

section Hidden
variable (b a : Vec Ideal S1x1x1024 .f32) (x : Vec Ideal S1x256x1024 .f32) (g : Vec Ideal S1x1024 .f32) (r : Fin 256) (d : Fin 1024)

/-- The modulated rows. -/
theorem hidden0 : (k0_pay7 b a x g (ix2 r d) : EReal)
    = norm (fun e => x (ix3 0 r e)) (fun e => g (ix2 0 e)) (fun e => a (ix3 0 0 e)) (fun e => b (ix3 0 0 e)) d := by
  pointwise [k0_pay7, k0_pay2, k0_pay3]
  rfl
theorem hidden1 : (k0_pay11 (k0_pay2 b) (k0_pay3 a) x g (ix2 r d) : EReal)
    = norm (fun e => x (ix3 0 r e)) (fun e => g (ix2 0 e)) (fun e => a (ix3 0 0 e)) (fun e => b (ix3 0 0 e)) d := by
  pointwise [k0_pay11, k0_pay2, k0_pay3]
  rfl
end Hidden

section Sum
variable (h : FVec Ideal S256x1024 .bf16) (w0 w1 w2 w3 : Vec Ideal S1024x1024 .bf16) (oa ob oc od : Vec Ideal S1x256x256 .bf16)
  (b0 b1 b2 b3 : Vec Ideal S1x256x1024 .bf16) (wo : Vec Ideal S1024x1024 .bf16) (r : Fin 256) (d : Fin 1024)

/-- The merged row from the loaded parts. -/
def tileSum (e : Fin 1024) : EReal :=
  part (fun k => h (ix2 r k)) (fun k => w0 (ix2 k e)) (fun x => oa (ix3 0 r x)) (fun x => b0 (ix3 0 x e))
    + part (fun k => h (ix2 r k)) (fun k => w1 (ix2 k e)) (fun x => ob (ix3 0 r x)) (fun x => b1 (ix3 0 x e))
    + part (fun k => h (ix2 r k)) (fun k => w2 (ix2 k e)) (fun x => oc (ix3 0 r x)) (fun x => b2 (ix3 0 x e))
    + part (fun k => h (ix2 r k)) (fun k => w3 (ix2 k e)) (fun x => od (ix3 0 r x)) (fun x => b3 (ix3 0 x e))

theorem out0 : (k0_pay10 (k0_pay9 h (k0_pay8 h w0 oa b0 w1 ob b1) w2 oc b2 w3 od b3) wo (ix2 r d) : EReal)
    = ∑ e, tileSum h w0 w1 w2 w3 oa ob oc od b0 b1 b2 b3 r e * wo (ix2 e d) := by
  pointwise [k0_pay10, k0_pay9, k0_pay8]
  rfl

variable (b a : Vec Ideal S1x1x1024 .f32) (x : Vec Ideal S1x256x1024 .f32) (g : Vec Ideal S1x1024 .f32)
theorem out1 (hh : h = k0_pay11 (k0_pay2 b) (k0_pay3 a) x g) :
    (k0_pay17 h (k0_pay14 h (k0_pay12 (k0_pay2 b) (k0_pay3 a) x g w0) (k0_pay13 oa) b0 w1 ob b1) (k0_pay15 h w2) (k0_pay16 oc) b2 w3 od b3 wo (ix2 r d) : EReal)
    = ∑ e, tileSum h w0 w1 w2 w3 oa ob oc od b0 b1 b2 b3 r e * wo (ix2 e d) := by
  unfold k0_pay12
  rw [← hh]
  pointwise [k0_pay13, k0_pay14, k0_pay15, k0_pay16, k0_pay17]
  rfl
end Sum

section Residual
variable (g : Vec Ideal S1x1x1024 .f32) (y : FVec Ideal S256x1024 .f32) (x : Vec Ideal S1x256x1024 .f32) (r : Fin 256) (d : Fin 1024)

/-- The residual. -/
theorem res0 : (k0_pay18 (k0_pay4 g) y x (ix2 r d) : EReal) = x (ix3 0 r d) + g (ix3 0 0 d) * y (ix2 r d) := by
  pointwise [k0_pay18, k0_pay4]
theorem res1 : (k0_pay102 (k0_pay4 g) y x (ix2 r d) : EReal) = x (ix3 0 r d) + g (ix3 0 0 d) * y (ix2 r d) := by
  pointwise [k0_pay102, k0_pay4]
theorem stored0 : (k0_pay19 (k0_pay4 g) y x (ix3 0 r d) : EReal) = x (ix3 0 r d) + g (ix3 0 0 d) * y (ix2 r d) := by
  pointwise [k0_pay19, k0_pay18, k0_pay4]
theorem stored1 : (k0_pay103 (k0_pay4 g) y x (ix3 0 r d) : EReal) = x (ix3 0 r d) + g (ix3 0 0 d) * y (ix2 r d) := by
  pointwise [k0_pay103, k0_pay102, k0_pay4]

variable (b a : Vec Ideal S1x1x1024 .f32) (z : FVec Ideal S256x1024 .f32) (g' : Vec Ideal S1x1024 .f32)
/-- The experts' input. -/
theorem ffn0 : (k0_pay21 (k0_pay5 b) (k0_pay6 a) z g' (ix3 0 r d) : EReal)
    = norm (fun e => z (ix2 r e)) (fun e => g' (ix2 0 e)) (fun e => a (ix3 0 0 e)) (fun e => b (ix3 0 0 e)) d := by
  pointwise [k0_pay21, k0_pay20, k0_pay5, k0_pay6]
  rfl
theorem ffn1 : (k0_pay106 (k0_pay104 (k0_pay4 g) (k0_pay5 b) (k0_pay6 a) y x g') (ix3 0 r d) : EReal)
    = norm (fun e => x (ix3 0 r e) + g (ix3 0 0 e) * y (ix2 r e)) (fun e => g' (ix2 0 e)) (fun e => a (ix3 0 0 e)) (fun e => b (ix3 0 0 e)) d := by
  pointwise [k0_pay106, k0_pay105, k0_pay104, k0_pay102, k0_pay4, k0_pay5, k0_pay6]
  rfl
end Residual

end Cert.Kernel2Ideal.Merge
-- ==== Proof.MergeBlock.lean ====
/-
  The merge's output blocks at the ideal reading: row `s` of the residual's block and of the experts' input's block are
  `mixed` and `ffnIn` of row `s` of the input blocks. The body stores rows 0 to 255 and 256 to 511 from one tile each.
-/
module

public import proofs.«01_k».proof.Proof.MergeTile
public import proofs.«01_k».proof.Proof.Gen.Kernel2Ideal.Frame
public import Idealize.ShloMosaic.Lib.Pipeline.ValueKit

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Cert.Merge

/-! The parts the body loads, at an index. -/
theorem ldm0 (X : Vec Ideal S1x6x1024 .f32) (e : Fin 1024) :
    View.ld X r0_0 (ix3 0 0 e : S1x1x1024.Idx) = X (ix3 0 0 e : S1x6x1024.Idx) :=
  View.ld_unit_apply_of X _ _ _ _ _ fun a => match a with
    | ⟨0, _⟩ => rfl
    | ⟨1, _⟩ => rfl
    | ⟨2, _⟩ => (Nat.zero_add _).symm
theorem ldm1 (X : Vec Ideal S1x6x1024 .f32) (e : Fin 1024) :
    View.ld X r0_1 (ix3 0 0 e : S1x1x1024.Idx) = X (ix3 0 1 e : S1x6x1024.Idx) :=
  View.ld_unit_apply_of X _ _ _ _ _ fun a => match a with
    | ⟨0, _⟩ => rfl
    | ⟨1, _⟩ => rfl
    | ⟨2, _⟩ => (Nat.zero_add _).symm
theorem ldm2 (X : Vec Ideal S1x6x1024 .f32) (e : Fin 1024) :
    View.ld X r0_2 (ix3 0 0 e : S1x1x1024.Idx) = X (ix3 0 2 e : S1x6x1024.Idx) :=
  View.ld_unit_apply_of X _ _ _ _ _ fun a => match a with
    | ⟨0, _⟩ => rfl
    | ⟨1, _⟩ => rfl
    | ⟨2, _⟩ => (Nat.zero_add _).symm
theorem ldm3 (X : Vec Ideal S1x6x1024 .f32) (e : Fin 1024) :
    View.ld X r0_3 (ix3 0 0 e : S1x1x1024.Idx) = X (ix3 0 3 e : S1x6x1024.Idx) :=
  View.ld_unit_apply_of X _ _ _ _ _ fun a => match a with
    | ⟨0, _⟩ => rfl
    | ⟨1, _⟩ => rfl
    | ⟨2, _⟩ => (Nat.zero_add _).symm
theorem ldm4 (X : Vec Ideal S1x6x1024 .f32) (e : Fin 1024) :
    View.ld X r0_4 (ix3 0 0 e : S1x1x1024.Idx) = X (ix3 0 4 e : S1x6x1024.Idx) :=
  View.ld_unit_apply_of X _ _ _ _ _ fun a => match a with
    | ⟨0, _⟩ => rfl
    | ⟨1, _⟩ => rfl
    | ⟨2, _⟩ => (Nat.zero_add _).symm
theorem ldx_lo (X : Vec Ideal S1x512x1024 .f32) {s : Fin 512} {r : Fin 256} (hs : s.val = 0 + r.val) (e : Fin 1024) :
    View.ld X r0_5 (ix3 0 r e : S1x256x1024.Idx) = X (ix3 0 s e : S1x512x1024.Idx) :=
  View.ld_unit_apply_of X _ _ _ _ _ fun a => match a with
    | ⟨0, _⟩ => rfl
    | ⟨1, _⟩ => hs
    | ⟨2, _⟩ => (Nat.zero_add _).symm
theorem ldx_hi (X : Vec Ideal S1x512x1024 .f32) {s : Fin 512} {r : Fin 256} (hs : s.val = 256 + r.val) (e : Fin 1024) :
    View.ld X r0_17 (ix3 0 r e : S1x256x1024.Idx) = X (ix3 0 s e : S1x512x1024.Idx) :=
  View.ld_unit_apply_of X _ _ _ _ _ fun a => match a with
    | ⟨0, _⟩ => rfl
    | ⟨1, _⟩ => hs
    | ⟨2, _⟩ => (Nat.zero_add _).symm
theorem ldo_lo (X : Vec Ideal S1x512x256 .bf16) {s : Fin 512} {r : Fin 256} (hs : s.val = 0 + r.val) (e : Fin 256) :
    View.ld X r0_8 (ix3 0 r e : S1x256x256.Idx) = X (ix3 0 s e : S1x512x256.Idx) :=
  View.ld_unit_apply_of X _ _ _ _ _ fun a => match a with
    | ⟨0, _⟩ => rfl
    | ⟨1, _⟩ => hs
    | ⟨2, _⟩ => (Nat.zero_add _).symm
theorem ldo_hi (X : Vec Ideal S1x512x256 .bf16) {s : Fin 512} {r : Fin 256} (hs : s.val = 256 + r.val) (e : Fin 256) :
    View.ld X r0_18 (ix3 0 r e : S1x256x256.Idx) = X (ix3 0 s e : S1x512x256.Idx) :=
  View.ld_unit_apply_of X _ _ _ _ _ fun a => match a with
    | ⟨0, _⟩ => rfl
    | ⟨1, _⟩ => hs
    | ⟨2, _⟩ => (Nat.zero_add _).symm
theorem ldg (X : Vec Ideal S1x1024 .f32) (e : Fin 1024) :
    View.ld X r0_6 (ix2 0 e : S1x1024.Idx) = X (ix2 0 e : S1x1024.Idx) :=
  View.ld_unit_apply_of X _ _ _ _ _ fun a => match a with
    | ⟨0, _⟩ => rfl
    | ⟨1, _⟩ => (Nat.zero_add _).symm
theorem ldw0 (X : Vec Ideal S1024x4096 .bf16) (a e : Fin 1024) :
    View.ld X r0_7 (ix2 a e : S1024x1024.Idx) = X (ix2 a ⟨0 + e.val, by omega⟩ : S1024x4096.Idx) :=
  View.ld_unit_apply_of X _ _ _ _ _ fun a => match a with
    | ⟨0, _⟩ => (Nat.zero_add _).symm
    | ⟨1, _⟩ => rfl
theorem ldw1 (X : Vec Ideal S1024x4096 .bf16) (a e : Fin 1024) :
    View.ld X r0_10 (ix2 a e : S1024x1024.Idx) = X (ix2 a ⟨1024 + e.val, by omega⟩ : S1024x4096.Idx) :=
  View.ld_unit_apply_of X _ _ _ _ _ fun a => match a with
    | ⟨0, _⟩ => (Nat.zero_add _).symm
    | ⟨1, _⟩ => rfl
theorem ldw2 (X : Vec Ideal S1024x4096 .bf16) (a e : Fin 1024) :
    View.ld X r0_12 (ix2 a e : S1024x1024.Idx) = X (ix2 a ⟨2048 + e.val, by omega⟩ : S1024x4096.Idx) :=
  View.ld_unit_apply_of X _ _ _ _ _ fun a => match a with
    | ⟨0, _⟩ => (Nat.zero_add _).symm
    | ⟨1, _⟩ => rfl
theorem ldw3 (X : Vec Ideal S1024x4096 .bf16) (a e : Fin 1024) :
    View.ld X r0_14 (ix2 a e : S1024x1024.Idx) = X (ix2 a ⟨3072 + e.val, by omega⟩ : S1024x4096.Idx) :=
  View.ld_unit_apply_of X _ _ _ _ _ fun a => match a with
    | ⟨0, _⟩ => (Nat.zero_add _).symm
    | ⟨1, _⟩ => rfl
theorem ldb0 (X : Vec Ideal S4x256x1024 .bf16) (x : Fin 256) (e : Fin 1024) :
    View.ld X r0_9 (ix3 0 x e : S1x256x1024.Idx) = X (ix3 0 x e : S4x256x1024.Idx) :=
  View.ld_unit_apply_of X _ _ _ _ _ fun a => match a with
    | ⟨0, _⟩ => rfl
    | ⟨1, _⟩ => (Nat.zero_add _).symm
    | ⟨2, _⟩ => (Nat.zero_add _).symm
theorem ldb1 (X : Vec Ideal S4x256x1024 .bf16) (x : Fin 256) (e : Fin 1024) :
    View.ld X r0_11 (ix3 0 x e : S1x256x1024.Idx) = X (ix3 1 x e : S4x256x1024.Idx) :=
  View.ld_unit_apply_of X _ _ _ _ _ fun a => match a with
    | ⟨0, _⟩ => rfl
    | ⟨1, _⟩ => (Nat.zero_add _).symm
    | ⟨2, _⟩ => (Nat.zero_add _).symm
theorem ldb2 (X : Vec Ideal S4x256x1024 .bf16) (x : Fin 256) (e : Fin 1024) :
    View.ld X r0_13 (ix3 0 x e : S1x256x1024.Idx) = X (ix3 2 x e : S4x256x1024.Idx) :=
  View.ld_unit_apply_of X _ _ _ _ _ fun a => match a with
    | ⟨0, _⟩ => rfl
    | ⟨1, _⟩ => (Nat.zero_add _).symm
    | ⟨2, _⟩ => (Nat.zero_add _).symm
theorem ldb3 (X : Vec Ideal S4x256x1024 .bf16) (x : Fin 256) (e : Fin 1024) :
    View.ld X r0_15 (ix3 0 x e : S1x256x1024.Idx) = X (ix3 3 x e : S4x256x1024.Idx) :=
  View.ld_unit_apply_of X _ _ _ _ _ fun a => match a with
    | ⟨0, _⟩ => rfl
    | ⟨1, _⟩ => (Nat.zero_add _).symm
    | ⟨2, _⟩ => (Nat.zero_add _).symm
theorem ldv (X : Vec Ideal S1024x1024 .bf16) (a e : Fin 1024) :
    View.ld X r0_16 (ix2 a e : S1024x1024.Idx) = X (ix2 a e : S1024x1024.Idx) :=
  View.ld_unit_apply_of X _ _ _ _ _ fun a => match a with
    | ⟨0, _⟩ => (Nat.zero_add _).symm
    | ⟨1, _⟩ => (Nat.zero_add _).symm

/-- A row of the residual's block. -/
def rowX (x0 : Vec Ideal S1x512x1024 .f32) (x1 : Vec Ideal S1x6x1024 .f32) (x2 : Vec Ideal S1x1024 .f32) (x4 x5 x6 x7 : Vec Ideal S1x512x256 .bf16)
    (x8 : Vec Ideal S1024x4096 .bf16) (x9 : Vec Ideal S4x256x1024 .bf16) (x10 : Vec Ideal S1024x1024 .bf16) (s : Fin 512) (d : Fin 1024) : EReal :=
  mixed (fun e => x0 (ix3 0 s e)) (fun k e => x1 (ix3 0 k e)) (fun e => x2 (ix2 0 e)) (fun x => x4 (ix3 0 s x)) (fun x => x5 (ix3 0 s x)) (fun x => x6 (ix3 0 s x))
    (fun x => x7 (ix3 0 s x)) (fun e j => x8 (ix2 e j)) (fun k x d => x9 (ix3 k x d)) (fun e d => x10 (ix2 e d)) d

/-- A row of the experts' input's block. -/
def rowH (x0 : Vec Ideal S1x512x1024 .f32) (x1 : Vec Ideal S1x6x1024 .f32) (x2 x3 : Vec Ideal S1x1024 .f32) (x4 x5 x6 x7 : Vec Ideal S1x512x256 .bf16)
    (x8 : Vec Ideal S1024x4096 .bf16) (x9 : Vec Ideal S4x256x1024 .bf16) (x10 : Vec Ideal S1024x1024 .bf16) (s : Fin 512) (d : Fin 1024) : EReal :=
  ffnIn (fun e => x0 (ix3 0 s e)) (fun k e => x1 (ix3 0 k e)) (fun e => x2 (ix2 0 e)) (fun e => x3 (ix2 0 e)) (fun x => x4 (ix3 0 s x)) (fun x => x5 (ix3 0 s x)) (fun x => x6 (ix3 0 s x))
    (fun x => x7 (ix3 0 s x)) (fun e j => x8 (ix2 e j)) (fun k x d => x9 (ix3 k x d)) (fun e d => x10 (ix2 e d)) d

/-! Rows that agree give the same results. -/

theorem norm_congr {x x' g g' a a' b b' : Fin 1024 → EReal} (hx : ∀ e, x e = x' e) (hg : ∀ e, g e = g' e) (ha : ∀ e, a e = a' e)
    (hb : ∀ e, b e = b' e) (d : Fin 1024) : norm x g a b d = norm x' g' a' b' d := by
  obtain rfl := funext hx; obtain rfl := funext hg; obtain rfl := funext ha; obtain rfl := funext hb; rfl

theorem part_congr {h h' w w' : Fin 1024 → EReal} {o o' b b' : Fin 256 → EReal} (hh : ∀ e, h e = h' e) (hw : ∀ e, w e = w' e)
    (ho : ∀ e, o e = o' e) (hb : ∀ e, b e = b' e) : part h w o b = part h' w' o' b' := by
  obtain rfl := funext hh; obtain rfl := funext hw; obtain rfl := funext ho; obtain rfl := funext hb; rfl

section Rows
variable (x0 : Vec Ideal S1x512x1024 .f32) (x1 : Vec Ideal S1x6x1024 .f32) (x2 x3 : Vec Ideal S1x1024 .f32) (x4 x5 x6 x7 : Vec Ideal S1x512x256 .bf16) (x8 : Vec Ideal S1024x4096 .bf16) (x9 : Vec Ideal S4x256x1024 .bf16) (x10 : Vec Ideal S1024x1024 .bf16) (x11 : Vec Ideal S1024x128 .bf16) (x12 : Vec Ideal S16x1 .f32)

theorem hid_lo {s : Fin 512} {r : Fin 256} (hs : s.val = 0 + r.val) (d : Fin 1024) : (k0_pay190 x0 x1 x2 x3 x4 x5 x6 x7 x8 x9 x10 x11 x12 (ix2 r d) : EReal)
    = norm (fun e => x0 (ix3 0 s e)) (fun e => x2 (ix2 0 e)) (fun e => x1 (ix3 0 1 e)) (fun e => x1 (ix3 0 0 e)) d := by
  unfold k0_pay190
  refine (hidden0 _ _ _ _ r d).trans ?_
  exact norm_congr (ldx_lo x0 hs) (ldg x2) (ldm1 x1) (ldm0 x1) d

theorem sum_lo {s : Fin 512} {r : Fin 256} (hs : s.val = 0 + r.val) (d : Fin 1024) : (k0_pay191 x0 x1 x2 x3 x4 x5 x6 x7 x8 x9 x10 x11 x12 (ix2 r d) : EReal)
    = ∑ e, merged (norm (fun e => x0 (ix3 0 s e)) (fun e => x2 (ix2 0 e)) (fun e => x1 (ix3 0 1 e)) (fun e => x1 (ix3 0 0 e)))
        (fun e j => x8 (ix2 e j)) (fun x => x4 (ix3 0 s x)) (fun x => x5 (ix3 0 s x)) (fun x => x6 (ix3 0 s x)) (fun x => x7 (ix3 0 s x))
        (fun k x d => x9 (ix3 k x d)) e * x10 (ix2 e d) := by
  unfold k0_pay191
  refine (out0 _ _ _ _ _ _ _ _ _ _ _ _ _ _ r d).trans ?_
  have hh := hid_lo x0 x1 x2 x3 x4 x5 x6 x7 x8 x9 x10 x11 x12 hs
  refine Finset.sum_congr rfl fun e _ => congrArg₂ (· * ·) ?_ (ldv x10 e d)
  exact congrArg₂ (· + ·) (congrArg₂ (· + ·) (congrArg₂ (· + ·)
    (part_congr hh (fun k => ldw0 x8 k e) (ldo_lo x4 hs) fun x => ldb0 x9 x e)
    (part_congr hh (fun k => ldw1 x8 k e) (ldo_lo x5 hs) fun x => ldb1 x9 x e))
    (part_congr hh (fun k => ldw2 x8 k e) (ldo_lo x6 hs) fun x => ldb2 x9 x e))
    (part_congr hh (fun k => ldw3 x8 k e) (ldo_lo x7 hs) fun x => ldb3 x9 x e)

theorem hid_hi {s : Fin 512} {r : Fin 256} (hs : s.val = 256 + r.val) (d : Fin 1024) : (k0_pay192 x0 x1 x2 x3 x4 x5 x6 x7 x8 x9 x10 x11 x12 (ix2 r d) : EReal)
    = norm (fun e => x0 (ix3 0 s e)) (fun e => x2 (ix2 0 e)) (fun e => x1 (ix3 0 1 e)) (fun e => x1 (ix3 0 0 e)) d := by
  unfold k0_pay192 k0_pay185 k0_pay186
  refine (hidden1 _ _ _ _ r d).trans ?_
  exact norm_congr (ldx_hi x0 hs) (ldg x2) (ldm1 x1) (ldm0 x1) d

theorem sum_hi {s : Fin 512} {r : Fin 256} (hs : s.val = 256 + r.val) (d : Fin 1024) : (k0_pay193 x0 x1 x2 x3 x4 x5 x6 x7 x8 x9 x10 x11 x12 (ix2 r d) : EReal)
    = ∑ e, merged (norm (fun e => x0 (ix3 0 s e)) (fun e => x2 (ix2 0 e)) (fun e => x1 (ix3 0 1 e)) (fun e => x1 (ix3 0 0 e)))
        (fun e j => x8 (ix2 e j)) (fun x => x4 (ix3 0 s x)) (fun x => x5 (ix3 0 s x)) (fun x => x6 (ix3 0 s x)) (fun x => x7 (ix3 0 s x))
        (fun k x d => x9 (ix3 k x d)) e * x10 (ix2 e d) := by
  unfold k0_pay193
  unfold k0_pay185 k0_pay186
  refine (out1 _ _ _ _ _ _ _ _ _ _ _ _ _ _ r d _ _ _ _ (by unfold k0_pay192 k0_pay185 k0_pay186; rfl)).trans ?_
  have hh := hid_hi x0 x1 x2 x3 x4 x5 x6 x7 x8 x9 x10 x11 x12 hs
  refine Finset.sum_congr rfl fun e _ => congrArg₂ (· * ·) ?_ (ldv x10 e d)
  exact congrArg₂ (· + ·) (congrArg₂ (· + ·) (congrArg₂ (· + ·)
    (part_congr hh (fun k => ldw0 x8 k e) (ldo_hi x4 hs) fun x => ldb0 x9 x e)
    (part_congr hh (fun k => ldw1 x8 k e) (ldo_hi x5 hs) fun x => ldb1 x9 x e))
    (part_congr hh (fun k => ldw2 x8 k e) (ldo_hi x6 hs) fun x => ldb2 x9 x e))
    (part_congr hh (fun k => ldw3 x8 k e) (ldo_hi x7 hs) fun x => ldb3 x9 x e)

theorem z_lo {s : Fin 512} {r : Fin 256} (hs : s.val = 0 + r.val) (d : Fin 1024) : (k0_pay194 x0 x1 x2 x3 x4 x5 x6 x7 x8 x9 x10 x11 x12 (ix2 r d) : EReal)
    = rowX x0 x1 x2 x4 x5 x6 x7 x8 x9 x10 s d := by
  unfold k0_pay194 k0_pay187
  refine (res0 _ _ _ r d).trans ?_
  exact congrArg₂ (· + ·) (ldx_lo x0 hs d) (congrArg₂ (· * ·) (ldm2 x1 d) (sum_lo x0 x1 x2 x3 x4 x5 x6 x7 x8 x9 x10 x11 x12 hs d))

theorem x_lo {s : Fin 512} {r : Fin 256} (hs : s.val = 0 + r.val) (d : Fin 1024) :
    (k0_pay19 (k0_pay187 x0 x1 x2 x3 x4 x5 x6 x7 x8 x9 x10 x11 x12) (k0_pay191 x0 x1 x2 x3 x4 x5 x6 x7 x8 x9 x10 x11 x12) (View.ld x0 r0_5) (ix3 0 r d) : EReal) = rowX x0 x1 x2 x4 x5 x6 x7 x8 x9 x10 s d := by
  unfold k0_pay187
  refine (stored0 _ _ _ r d).trans ?_
  exact congrArg₂ (· + ·) (ldx_lo x0 hs d) (congrArg₂ (· * ·) (ldm2 x1 d) (sum_lo x0 x1 x2 x3 x4 x5 x6 x7 x8 x9 x10 x11 x12 hs d))

theorem x_hi {s : Fin 512} {r : Fin 256} (hs : s.val = 256 + r.val) (d : Fin 1024) :
    (k0_pay103 (k0_pay187 x0 x1 x2 x3 x4 x5 x6 x7 x8 x9 x10 x11 x12) (k0_pay193 x0 x1 x2 x3 x4 x5 x6 x7 x8 x9 x10 x11 x12) (View.ld x0 r0_17) (ix3 0 r d) : EReal) = rowX x0 x1 x2 x4 x5 x6 x7 x8 x9 x10 s d := by
  unfold k0_pay187
  refine (stored1 _ _ _ r d).trans ?_
  exact congrArg₂ (· + ·) (ldx_hi x0 hs d) (congrArg₂ (· * ·) (ldm2 x1 d) (sum_hi x0 x1 x2 x3 x4 x5 x6 x7 x8 x9 x10 x11 x12 hs d))

theorem h_lo {s : Fin 512} {r : Fin 256} (hs : s.val = 0 + r.val) (d : Fin 1024) :
    (k0_pay21 (k0_pay188 x0 x1 x2 x3 x4 x5 x6 x7 x8 x9 x10 x11 x12) (k0_pay189 x0 x1 x2 x3 x4 x5 x6 x7 x8 x9 x10 x11 x12) (k0_pay194 x0 x1 x2 x3 x4 x5 x6 x7 x8 x9 x10 x11 x12) (View.ld x3 r0_6) (ix3 0 r d) : EReal)
      = rowH x0 x1 x2 x3 x4 x5 x6 x7 x8 x9 x10 s d := by
  unfold k0_pay188 k0_pay189
  refine (ffn0 r d _ _ _ _).trans ?_
  exact norm_congr (z_lo x0 x1 x2 x3 x4 x5 x6 x7 x8 x9 x10 x11 x12 hs) (ldg x3) (ldm4 x1) (ldm3 x1) d

theorem h_hi {s : Fin 512} {r : Fin 256} (hs : s.val = 256 + r.val) (d : Fin 1024) :
    (k0_pay106 (k0_pay224 x0 x1 x2 x3 x4 x5 x6 x7 x8 x9 x10 x11 x12) (ix3 0 r d) : EReal) = rowH x0 x1 x2 x3 x4 x5 x6 x7 x8 x9 x10 s d := by
  unfold k0_pay224 k0_pay187 k0_pay188 k0_pay189
  refine (ffn1 _ _ _ r d _ _ _).trans ?_
  exact norm_congr (fun e => congrArg₂ (· + ·) (ldx_hi x0 hs e) (congrArg₂ (· * ·) (ldm2 x1 e) (sum_hi x0 x1 x2 x3 x4 x5 x6 x7 x8 x9 x10 x11 x12 hs e)))
    (ldg x3) (ldm4 x1) (ldm3 x1) d

/-- The residual's block. -/
theorem outX (y : S1x512x1024.Idx) : (out0_13 (F := Ideal) x0 x1 x2 x3 x4 x5 x6 x7 x8 x9 x10 x11 x12 y : EReal) = rowX x0 x1 x2 x4 x5 x6 x7 x8 x9 x10 (y 1) (y 2) := by
  unfold out0_13
  refine View.canon_apply_of_pieces (Val := Elt Ideal) (fun y => rowX x0 x1 x2 x4 x5 x6 x7 x8 x9 x10 (y 1) (y 2)) _ ?_ y (cover0_13 _ _ y)
  intro p hp
  simp only [List.mem_cons, List.not_mem_nil, or_false] at hp
  rcases hp with rfl | rfl
  · intro (y : S1x256x1024.Idx)
    obtain ⟨z, r, d, rfl⟩ : ∃ (z : Fin 1) (r : Fin 256) (d : Fin 1024), y = ix3 z r d := ⟨y 0, y 1, y 2, eq_ix3 y⟩
    obtain rfl : z = 0 := Subsingleton.elim _ _
    have hs : (r0_17.emb (ix3 (0 : Fin 1) r d) 1).val = 256 + r.val := by show 256 + 1 * r.val = _; omega
    have hd : r0_17.emb (ix3 (0 : Fin 1) r d) 2 = d := Fin.ext (by show 0 + 1 * d.val = _; omega)
    exact (x_hi x0 x1 x2 x3 x4 x5 x6 x7 x8 x9 x10 x11 x12 hs d).trans (congrArg (rowX x0 x1 x2 x4 x5 x6 x7 x8 x9 x10 _) hd.symm)
  · intro (y : S1x256x1024.Idx)
    obtain ⟨z, r, d, rfl⟩ : ∃ (z : Fin 1) (r : Fin 256) (d : Fin 1024), y = ix3 z r d := ⟨y 0, y 1, y 2, eq_ix3 y⟩
    obtain rfl : z = 0 := Subsingleton.elim _ _
    have hs : (r0_5.emb (ix3 (0 : Fin 1) r d) 1).val = 0 + r.val := by show 0 + 1 * r.val = _; omega
    have hd : r0_5.emb (ix3 (0 : Fin 1) r d) 2 = d := Fin.ext (by show 0 + 1 * d.val = _; omega)
    exact (x_lo x0 x1 x2 x3 x4 x5 x6 x7 x8 x9 x10 x11 x12 hs d).trans (congrArg (rowX x0 x1 x2 x4 x5 x6 x7 x8 x9 x10 _) hd.symm)

/-- The experts' input's block. -/
theorem outH (y : S1x512x1024.Idx) : (out0_14 (F := Ideal) x0 x1 x2 x3 x4 x5 x6 x7 x8 x9 x10 x11 x12 y : EReal) = rowH x0 x1 x2 x3 x4 x5 x6 x7 x8 x9 x10 (y 1) (y 2) := by
  unfold out0_14
  refine View.canon_apply_of_pieces (Val := Elt Ideal) (fun y => rowH x0 x1 x2 x3 x4 x5 x6 x7 x8 x9 x10 (y 1) (y 2)) _ ?_ y (cover0_14 _ _ y)
  intro p hp
  simp only [List.mem_cons, List.not_mem_nil, or_false] at hp
  rcases hp with rfl | rfl
  · intro (y : S1x256x1024.Idx)
    obtain ⟨z, r, d, rfl⟩ : ∃ (z : Fin 1) (r : Fin 256) (d : Fin 1024), y = ix3 z r d := ⟨y 0, y 1, y 2, eq_ix3 y⟩
    obtain rfl : z = 0 := Subsingleton.elim _ _
    have hs : (r0_17.emb (ix3 (0 : Fin 1) r d) 1).val = 256 + r.val := by show 256 + 1 * r.val = _; omega
    have hd : r0_17.emb (ix3 (0 : Fin 1) r d) 2 = d := Fin.ext (by show 0 + 1 * d.val = _; omega)
    exact (h_hi x0 x1 x2 x3 x4 x5 x6 x7 x8 x9 x10 x11 x12 hs d).trans (congrArg (rowH x0 x1 x2 x3 x4 x5 x6 x7 x8 x9 x10 _) hd.symm)
  · intro (y : S1x256x1024.Idx)
    obtain ⟨z, r, d, rfl⟩ : ∃ (z : Fin 1) (r : Fin 256) (d : Fin 1024), y = ix3 z r d := ⟨y 0, y 1, y 2, eq_ix3 y⟩
    obtain rfl : z = 0 := Subsingleton.elim _ _
    have hs : (r0_5.emb (ix3 (0 : Fin 1) r d) 1).val = 0 + r.val := by show 0 + 1 * r.val = _; omega
    have hd : r0_5.emb (ix3 (0 : Fin 1) r d) 2 = d := Fin.ext (by show 0 + 1 * d.val = _; omega)
    exact (h_lo x0 x1 x2 x3 x4 x5 x6 x7 x8 x9 x10 x11 x12 hs d).trans (congrArg (rowH x0 x1 x2 x3 x4 x5 x6 x7 x8 x9 x10 _) hd.symm)

end Rows

end Cert.Kernel2Ideal.Merge
-- ==== Proof.MergePlace.lean ====
/-
  Where the merge's blocks stand: grid point `t` is batch `t / 4` and rows `512 (t % 4)` to `512 (t % 4) + 511`.
-/
module

public import proofs.«01_k».proof.Proof.MergeBlock
public import proofs.«01_k».proof.Proof.Gen.Kernel2Ideal.Value
public import Idealize.ShloMosaic.Lib.Pipeline.ValueKit

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Idealize.ShloMosaic.Pipeline (Dat)

/-- 512 rows of a batch of an array, as a block. -/
def rows {w : ℕ} {e : EltTy} (X : Vec Ideal ⟨3, ![32, 2048, w]⟩ e) (n : Fin 32) (q : Fin 4) : Vec Ideal ⟨3, ![1, 512, w]⟩ e :=
  fun y => X (ix3 n ⟨512 * q.val + (y 1).val, by have h : (y 1).val < 512 := (y 1).isLt; omega⟩ (y 2))

/-- A batch's six rows of modulation, as a block. -/
def modOf (X : Vec Ideal S32x6x1024 .f32) (n : Fin 32) : Vec Ideal S1x6x1024 .f32 := fun y => X (ix3 n (y 1) (y 2))

/-- A grid point's batch. -/
def bat (t : Fin cfg0.N) : Fin 32 := ⟨t.val / 4, by have h : t.val < 128 := t.isLt; omega⟩
/-- A grid point's block of rows. -/
def blo (t : Fin cfg0.N) : Fin 4 := ⟨t.val % 4, by omega⟩

variable (m : (ℓ : Loc nD τ sig) → Buf (Elt Ideal) ℓ) (c : Dev nD)

theorem idxA : ∀ t : Fin cfg0.N, win0_0.index t = ![t.val / 4, t.val % 4, 0] ∧ win0_1.index t = ![t.val / 4, 0, 0]
    ∧ win0_4.index t = ![t.val / 4, t.val % 4, 0] ∧ win0_5.index t = ![t.val / 4, t.val % 4, 0]
    ∧ win0_6.index t = ![t.val / 4, t.val % 4, 0] ∧ win0_7.index t = ![t.val / 4, t.val % 4, 0]
    ∧ win0_13.index t = ![t.val / 4, t.val % 4, 0] ∧ win0_14.index t = ![t.val / 4, t.val % 4, 0] :=
  (by decide +kernel : ∀ t : Fin grid0.N, _)
theorem idxB : ∀ t : Fin cfg0.N, win0_2.index t = ![0, 0] ∧ win0_3.index t = ![0, 0] ∧ win0_8.index t = ![0, 0]
    ∧ win0_9.index t = ![0, 0, 0] ∧ win0_10.index t = ![0, 0] :=
  (by decide +kernel : ∀ t : Fin grid0.N, _)

theorem iblk0 (t : Fin cfg0.N) : (iblk m c 0 t : Vec Ideal S1x512x1024 .f32) = rows (V m c main_arg0) (bat t) (blo t) := by
  funext y; unfold rows bat blo; blk_ext [iblk, idxA t]
theorem iblk1 (t : Fin cfg0.N) : (iblk m c 1 t : Vec Ideal S1x6x1024 .f32) = modOf (V m c main_v13) (bat t) := by
  funext y; unfold modOf bat; blk_ext [iblk, idxA t]
theorem iblk2 (t : Fin cfg0.N) : (iblk m c 2 t : Vec Ideal S1x1024 .f32) = V m c main_v7 := by
  funext y; blk_ext [iblk, idxB t]
theorem iblk3 (t : Fin cfg0.N) : (iblk m c 3 t : Vec Ideal S1x1024 .f32) = V m c main_v8 := by
  funext y; blk_ext [iblk, idxB t]
theorem iblk4 (t : Fin cfg0.N) : (iblk m c 4 t : Vec Ideal S1x512x256 .bf16) = rows (V m c main_v9) (bat t) (blo t) := by
  funext y; unfold rows bat blo; blk_ext [iblk, idxA t]
theorem iblk5 (t : Fin cfg0.N) : (iblk m c 5 t : Vec Ideal S1x512x256 .bf16) = rows (V m c main_v10) (bat t) (blo t) := by
  funext y; unfold rows bat blo; blk_ext [iblk, idxA t]
theorem iblk6 (t : Fin cfg0.N) : (iblk m c 6 t : Vec Ideal S1x512x256 .bf16) = rows (V m c main_v11) (bat t) (blo t) := by
  funext y; unfold rows bat blo; blk_ext [iblk, idxA t]
theorem iblk7 (t : Fin cfg0.N) : (iblk m c 7 t : Vec Ideal S1x512x256 .bf16) = rows (V m c main_v12) (bat t) (blo t) := by
  funext y; unfold rows bat blo; blk_ext [iblk, idxA t]
theorem iblk8 (t : Fin cfg0.N) : (iblk m c 8 t : Vec Ideal S1024x4096 .bf16) = V m c main_v1 := by
  funext y; blk_ext [iblk, idxB t]
theorem iblk9 (t : Fin cfg0.N) : (iblk m c 9 t : Vec Ideal S4x256x1024 .bf16) = V m c main_v2 := by
  funext y; blk_ext [iblk, idxB t]
theorem iblk10 (t : Fin cfg0.N) : (iblk m c 10 t : Vec Ideal S1024x1024 .bf16) = V m c main_v3 := by
  funext y; blk_ext [iblk, idxB t]

/-- Where a point's block of the two results stands. -/
theorem placeX (t : Fin cfg0.N) (y : S1x512x1024.Idx) : (((cfg0.win 13).blk t).view.emb y : S32x2048x1024.Idx)
    = ix3 (bat t) (⟨512 * (blo t).val + (y 1).val, by have h : (y 1).val < 512 := (y 1).isLt; have h' := (blo t).isLt; omega⟩ : Fin 2048) (y 2) := by
  funext a
  refine Fin.ext ?_
  unfold bat blo
  idx_bounds y
  fin_cases a <;> blk_simp [idxA t] <;> simp <;> omega
theorem placeH (t : Fin cfg0.N) (y : S1x512x1024.Idx) : (((cfg0.win 14).blk t).view.emb y : S32x2048x1024.Idx)
    = ix3 (bat t) (⟨512 * (blo t).val + (y 1).val, by have h : (y 1).val < 512 := (y 1).isLt; have h' := (blo t).isLt; omega⟩ : Fin 2048) (y 2) := by
  funext a
  refine Fin.ext ?_
  unfold bat blo
  idx_bounds y
  fin_cases a <;> blk_simp [idxA t] <;> simp <;> omega

end Cert.Kernel2Ideal.Merge
-- ==== Proof.MergeArray.lean ====
/-
  The merge's two result arrays: row `s` of batch `n` is `mixed`, and `ffnIn`, of that row of the arrays the call takes.
-/
module

public import proofs.«01_k».proof.Proof.MergePlace
public import proofs.«01_k».proof.Proof.Gen.Kernel2Ideal.Value
public import Idealize.ShloMosaic.Lib.Pipeline.ValueKit

@[expose] public section

set_option maxRecDepth 16384

noncomputable section

namespace Cert.Kernel2Ideal.Merge

open Cert.Kernel2Ideal Cert.Kernel2Ideal.Gen Idealize.ShloMosaic Idealize.ShloMosaic.TcCoe Idealize.SL.Sem
open Idealize.ShloMosaic.Pipeline (Dat)
open Cert.Merge

/-- The residual as a function of the arrays the call takes. -/
def arrX (X : Vec Ideal S32x2048x1024 .f32) (md : Vec Ideal S32x6x1024 .f32) (g : Vec Ideal S1x1024 .f32) (oa ob oc od : Vec Ideal S32x2048x256 .bf16)
    (w : Vec Ideal S1024x4096 .bf16) (wb : Vec Ideal S4x256x1024 .bf16) (wo : Vec Ideal S1024x1024 .bf16) : Vec Ideal S32x2048x1024 .f32 := fun j =>
  mixed (fun e => X (ix3 (j 0) (j 1) e)) (fun k e => md (ix3 (j 0) k e)) (fun e => g (ix2 0 e)) (fun x => oa (ix3 (j 0) (j 1) x))
    (fun x => ob (ix3 (j 0) (j 1) x)) (fun x => oc (ix3 (j 0) (j 1) x)) (fun x => od (ix3 (j 0) (j 1) x)) (fun e i => w (ix2 e i))
    (fun k x d => wb (ix3 k x d)) (fun e d => wo (ix2 e d)) (j 2)

/-- The experts' input likewise. -/
def arrH (X : Vec Ideal S32x2048x1024 .f32) (md : Vec Ideal S32x6x1024 .f32) (g g' : Vec Ideal S1x1024 .f32) (oa ob oc od : Vec Ideal S32x2048x256 .bf16)
    (w : Vec Ideal S1024x4096 .bf16) (wb : Vec Ideal S4x256x1024 .bf16) (wo : Vec Ideal S1024x1024 .bf16) : Vec Ideal S32x2048x1024 .bf16 := fun j =>
  ffnIn (fun e => X (ix3 (j 0) (j 1) e)) (fun k e => md (ix3 (j 0) k e)) (fun e => g (ix2 0 e)) (fun e => g' (ix2 0 e)) (fun x => oa (ix3 (j 0) (j 1) x))
    (fun x => ob (ix3 (j 0) (j 1) x)) (fun x => oc (ix3 (j 0) (j 1) x)) (fun x => od (ix3 (j 0) (j 1) x)) (fun e i => w (ix2 e i))
    (fun k x d => wb (ix3 k x d)) (fun e d => wo (ix2 e d)) (j 2)

variable (m : (ℓ : Loc nD τ sig) → Buf (Elt Ideal) ℓ) (c : Dev nD)

set_option maxHeartbeats 1000000 in
/-- The residual the run leaves. -/
theorem finalX : (dats m 0 c).arrAt 13 cfg0.N
    = arrX (V m c main_arg0) (V m c main_v13) (V m c main_v7) (V m c main_v9) (V m c main_v10) (V m c main_v11) (V m c main_v12)
        (V m c main_v1) (V m c main_v2) (V m c main_v3) := by
  refine (dats m 0 c).arrAt_eq_of_covers 13 _ (by decide +kernel) fun t hf y => ?_
  blk_simp
  rw [after0_13, iblk0, iblk1, iblk2, iblk4, iblk5, iblk6, iblk7, iblk8, iblk9, iblk10]
  refine (outX _ _ _ _ _ _ _ _ _ _ _ _ _ y).trans ?_
  exact (congrArg (arrX (V m c main_arg0) (V m c main_v13) (V m c main_v7) (V m c main_v9) (V m c main_v10) (V m c main_v11) (V m c main_v12)
        (V m c main_v1) (V m c main_v2) (V m c main_v3)) (placeX t y)).symm

set_option maxHeartbeats 1000000 in
/-- The experts' input the run leaves. -/
theorem finalH : (dats m 0 c).arrAt 14 cfg0.N
    = arrH (V m c main_arg0) (V m c main_v13) (V m c main_v7) (V m c main_v8) (V m c main_v9) (V m c main_v10) (V m c main_v11) (V m c main_v12)
        (V m c main_v1) (V m c main_v2) (V m c main_v3) := by
  refine (dats m 0 c).arrAt_eq_of_covers 14 _ (by decide +kernel) fun t hf y => ?_
  blk_simp
  rw [after0_14, iblk0, iblk1, iblk2, iblk3, iblk4, iblk5, iblk6, iblk7, iblk8, iblk9, iblk10]
  refine (outH _ _ _ _ _ _ _ _ _ _ _ _ _ y).trans ?_
  exact (congrArg (arrH (V m c main_arg0) (V m c main_v13) (V m c main_v7) (V m c main_v8) (V m c main_v9) (V m c main_v10) (V m c main_v11) (V m c main_v12)
        (V m c main_v1) (V m c main_v2) (V m c main_v3)) (placeH t y)).symm

end Cert.Kernel2Ideal.Merge
-- ==== Proof.MergeHost.lean ====
/-
  What the host code hands the merge's call: the arguments reshaped or cast, which changes no value on the extended
  reals, and the gates' columns of the input projection.
-/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Kernel2Ideal.Merge

open Cert.Kernel2Ideal Cert.Kernel2Ideal.Gen Idealize.ShloMosaic Idealize.ShloMosaic.TcCoe Idealize.SL.Sem

/-- The gates' columns. -/
def hostGate (w : Vec Ideal S1024x6820 .f32) : Vec Ideal S1024x4096 .bf16 :=
  truncf (F := Ideal) .bf16 (extractStridedSlice S1024x4096 ![0, 2724] w slices_S1024x6820_S1024x4096_0_2724) bitsLt_bf16_f32
/-- The branches' projections. -/
def hostBranch (w : Vec Ideal S4x256x1024 .f32) : Vec Ideal S4x256x1024 .bf16 := truncf (F := Ideal) .bf16 w bitsLt_bf16_f32
/-- The output projection. -/
def hostOut (w : Vec Ideal S1024x1024 .f32) : Vec Ideal S1024x1024 .bf16 := truncf (F := Ideal) .bf16 w bitsLt_bf16_f32
/-- A branch. -/
def hostIn (o : Vec Ideal S32x2048x256 .f32) : Vec Ideal S32x2048x256 .bf16 := truncf (F := Ideal) .bf16 o bitsLt_bf16_f32
/-- A gain. -/
def hostGain (g : Vec Ideal S1024 .f32) : Vec Ideal S1x1024 .f32 := shapeCast S1x1024 g shapeCasts_S1024_S1x1024
/-- The modulation. -/
def hostMod (md : Vec Ideal S32x6144 .f32) : Vec Ideal S32x6x1024 .f32 := shapeCast S32x6x1024 md shapeCasts_S32x6144_S32x6x1024

section At
theorem hostGate_at (w : Vec Ideal S1024x6820 .f32) (e : Fin 1024) (j : Fin 4096) : (hostGate w (ix2 e j) : EReal) = w (ix2 e ⟨2724 + j.val, by omega⟩) := by
  pointwise [hostGate]
theorem hostBranch_at (w : Vec Ideal S4x256x1024 .f32) (k : Fin 4) (x : Fin 256) (d : Fin 1024) : (hostBranch w (ix3 k x d) : EReal) = w (ix3 k x d) := by
  pointwise [hostBranch]
theorem hostOut_at (w : Vec Ideal S1024x1024 .f32) (e d : Fin 1024) : (hostOut w (ix2 e d) : EReal) = w (ix2 e d) := by
  pointwise [hostOut]
theorem hostIn_at (o : Vec Ideal S32x2048x256 .f32) (n : Fin 32) (s : Fin 2048) (x : Fin 256) : (hostIn o (ix3 n s x) : EReal) = o (ix3 n s x) := by
  pointwise [hostIn]
theorem hostGain_at (g : Vec Ideal S1024 .f32) (d : Fin 1024) : (hostGain g (ix2 0 d) : EReal) = g (ix1 d) := by
  pointwise [hostGain]
theorem hostMod_at (md : Vec Ideal S32x6144 .f32) (n : Fin 32) (k : Fin 6) (d : Fin 1024) :
    (hostMod md (ix3 n k d) : EReal) = md (ix2 n ⟨k.val * 1024 + d.val, by omega⟩) := by
  pointwise [hostMod]
end At

section Contents
variable (m : (ℓ : Loc nD τ sig) → Buf (Elt Ideal) ℓ) (c : Dev nD)

theorem v1 : V m c main_v1 = hostGate (m ((c : Thread nD τ).loc main_arg8)) := by
  simp only [V, hostOps0, hostOps0_1, hostOps0_2, List.flatten_cons, List.flatten_nil, List.append_nil, List.cons_append, List.nil_append]
  after_results
  try rfl
theorem v2 : V m c main_v2 = hostBranch (m ((c : Thread nD τ).loc main_arg9)) := by
  simp only [V, hostOps0, hostOps0_1, hostOps0_2, List.flatten_cons, List.flatten_nil, List.append_nil, List.cons_append, List.nil_append]
  after_results
  try rfl
theorem v3 : V m c main_v3 = hostOut (m ((c : Thread nD τ).loc main_arg10)) := by
  simp only [V, hostOps0, hostOps0_1, hostOps0_2, List.flatten_cons, List.flatten_nil, List.append_nil, List.cons_append, List.nil_append]
  after_results
  try rfl
theorem v7 : V m c main_v7 = hostGain (m ((c : Thread nD τ).loc main_arg2)) := by
  simp only [V, hostOps0, hostOps0_1, hostOps0_2, List.flatten_cons, List.flatten_nil, List.append_nil, List.cons_append, List.nil_append]
  after_results
  try rfl
theorem v8 : V m c main_v8 = hostGain (m ((c : Thread nD τ).loc main_arg3)) := by
  simp only [V, hostOps0, hostOps0_1, hostOps0_2, List.flatten_cons, List.flatten_nil, List.append_nil, List.cons_append, List.nil_append]
  after_results
  try rfl
theorem v9 : V m c main_v9 = hostIn (m ((c : Thread nD τ).loc main_arg4)) := by
  simp only [V, hostOps0, hostOps0_1, hostOps0_2, List.flatten_cons, List.flatten_nil, List.append_nil, List.cons_append, List.nil_append]
  after_results
  try rfl
theorem v10 : V m c main_v10 = hostIn (m ((c : Thread nD τ).loc main_arg5)) := by
  simp only [V, hostOps0, hostOps0_1, hostOps0_2, List.flatten_cons, List.flatten_nil, List.append_nil, List.cons_append, List.nil_append]
  after_results
  try rfl
theorem v11 : V m c main_v11 = hostIn (m ((c : Thread nD τ).loc main_arg6)) := by
  simp only [V, hostOps0, hostOps0_1, hostOps0_2, List.flatten_cons, List.flatten_nil, List.append_nil, List.cons_append, List.nil_append]
  after_results
  try rfl
theorem v12 : V m c main_v12 = hostIn (m ((c : Thread nD τ).loc main_arg7)) := by
  simp only [V, hostOps0, hostOps0_1, hostOps0_2, List.flatten_cons, List.flatten_nil, List.append_nil, List.cons_append, List.nil_append]
  after_results
  try rfl
theorem v13 : V m c main_v13 = hostMod (m ((c : Thread nD τ).loc main_arg1)) := by
  simp only [V, hostOps0, hostOps0_1, hostOps0_2, List.flatten_cons, List.flatten_nil, List.append_nil, List.cons_append, List.nil_append]
  after_results
  try rfl
end Contents

end Cert.Kernel2Ideal.Merge
-- ==== Proof.MergeRefStages.lean ====
/-
  The reference of the mixer's merge in stages: the modulation's six rows, the normalised and modulated rows, the gates,
  the gated sum of the branches, the residual and the experts' input; each stage at an index.
-/
module

public import proofs.«01_k».proof.Proof.Gen.Reference2Ideal
public import proofs.«01_k».proof.Proof.MergeMath
public import Idealize.ShloMosaic.Lib.Pointwise

@[expose] public section

set_option maxRecDepth 16384

noncomputable section

namespace Cert.Reference2Ideal.Merge

open Cert.Reference2Ideal Cert.Reference2Ideal.Gen Idealize.ShloMosaic Idealize.ShloMosaic.TcCoe Idealize.SL.Sem
open Cert.Merge

/-- The modulation with an axis for the frames. -/
def modRow (md : Vec Ideal S32x6144 .f32) : Vec Ideal S32x1x6144 .f32 := broadcastInDim S32x1x6144 ![0, 2] bcast_S32x6144_S32x1x6144_0_2 md

/-- Its six parts. -/
def mod0 (md : Vec Ideal S32x6144 .f32) : Vec Ideal S32x1x1024 .f32 := extractStridedSlice S32x1x1024 ![0, 0, 0] (modRow md) slices_S32x1x6144_S32x1x1024_0_0_0
def mod1 (md : Vec Ideal S32x6144 .f32) : Vec Ideal S32x1x1024 .f32 := extractStridedSlice S32x1x1024 ![0, 0, 1024] (modRow md) slices_S32x1x6144_S32x1x1024_0_0_1024
def mod2 (md : Vec Ideal S32x6144 .f32) : Vec Ideal S32x1x1024 .f32 := extractStridedSlice S32x1x1024 ![0, 0, 2048] (modRow md) slices_S32x1x6144_S32x1x1024_0_0_2048
def mod3 (md : Vec Ideal S32x6144 .f32) : Vec Ideal S32x1x1024 .f32 := extractStridedSlice S32x1x1024 ![0, 0, 3072] (modRow md) slices_S32x1x6144_S32x1x1024_0_0_3072
def mod4 (md : Vec Ideal S32x6144 .f32) : Vec Ideal S32x1x1024 .f32 := extractStridedSlice S32x1x1024 ![0, 0, 4096] (modRow md) slices_S32x1x6144_S32x1x1024_0_0_4096

/-- The root mean square's normalisation, scaled and shifted. -/
def normed (x : Vec Ideal S32x2048x1024 .f32) (g : Vec Ideal S1024 .f32) (a b : Vec Ideal S32x1x1024 .f32) : Vec Ideal S32x2048x1024 .f32 :=
  addf (F := Ideal) (φ := .f32)
    (mulf (F := Ideal) (φ := .f32)
      (mulf (F := Ideal) (φ := .f32)
        (mulf (F := Ideal) (φ := .f32) x
          (broadcastInDim S32x2048x1024 ![0, 1, 2] bcast_S32x2048x1_S32x2048x1024_0_1_2
            (Host.rsqrt (F := Ideal) (φ := .f32)
              (addf (F := Ideal) (φ := .f32)
                (Host.divf (F := Ideal) (φ := .f32)
                  (broadcastInDim S32x2048x1 ![0, 1] bcast_S32x2048_S32x2048x1_0_1
                    (Host.reduceAdd (F := Ideal) (φ := .f32) (mulf (F := Ideal) (φ := .f32) x x) (constant (F := Ideal) S_ .f32 0x00000000#32)
                      reducesTo_S32x2048x1024_S32x2048_d2 h_S_))
                  (broadcastInDim S32x2048x1 ![] bcast_S_S32x2048x1 (constant (F := Ideal) S_ .f32 0x44800000#32)))
                (broadcastInDim S32x2048x1 ![] bcast_S_S32x2048x1 (constant (F := Ideal) S_ .f32 0x358637BD#32))))))
        (broadcastInDim S32x2048x1024 ![0, 1, 2] bcast_S1x1x1024_S32x2048x1024_0_1_2 (broadcastInDim S1x1x1024 ![2] bcast_S1024_S1x1x1024_2 g)))
      (broadcastInDim S32x2048x1024 ![0, 1, 2] bcast_S32x1x1024_S32x2048x1024_0_1_2
        (addf (F := Ideal) (φ := .f32) (broadcastInDim S32x1x1024 ![] bcast_S_S32x1x1024 (constant (F := Ideal) S_ .f32 0x3F800000#32)) a)))
    (broadcastInDim S32x2048x1024 ![0, 1, 2] bcast_S32x1x1024_S32x2048x1024_0_1_2 b)

/-- The gates of the four branches. -/
def gates (h : Vec Ideal S32x2048x1024 .f32) (w : Vec Ideal S1024x6820 .f32) : Vec Ideal S32x2048x4x1024 .f32 :=
  shapeCast S32x2048x4x1024
    (Host.divf (F := Ideal) (φ := .f32) (broadcastInDim S32x2048x4096 ![] bcast_S_S32x2048x4096 (constant (F := Ideal) S_ .f32 0x3F800000#32))
      (addf (F := Ideal) (φ := .f32) (broadcastInDim S32x2048x4096 ![] bcast_S_S32x2048x4096 (constant (F := Ideal) S_ .f32 0x3F800000#32))
        (Host.exp (F := Ideal) (φ := .f32) (Host.negf (F := Ideal) (φ := .f32)
          (Host.dotGeneral (F := Ideal) (φ₁ := .f32) (φ₂ := .f32) dot_S32x2048x1024_S1024x4096_S32x2048x4096_2_0_01_1_n_n none h
            (extractStridedSlice S1024x4096 ![0, 2724] w slices_S1024x6820_S1024x4096_0_2724))))))
    shapeCasts_S32x2048x4096_S32x2048x4x1024

/-- A gate's branch. -/
def gated0 (t : Vec Ideal S32x2048x4x1024 .f32) (o : Vec Ideal S32x2048x256 .f32) (wb : Vec Ideal S4x256x1024 .f32) : Vec Ideal S32x2048x1024 .f32 :=
  mulf (F := Ideal) (φ := .f32)
    (shapeCast S32x2048x1024 (extractStridedSlice S32x2048x1x1024 ![0, 0, 0, 0] t slices_S32x2048x4x1024_S32x2048x1x1024_0_0_0_0) shapeCasts_S32x2048x1x1024_S32x2048x1024)
    (Host.dotGeneral (F := Ideal) (φ₁ := .f32) (φ₂ := .f32) dot_S32x2048x256_S256x1024_S32x2048x1024_2_0_01_1_n_n none o
      (shapeCast S256x1024 (extractStridedSlice S1x256x1024 ![0, 0, 0] wb slices_S4x256x1024_S1x256x1024_0_0_0) shapeCasts_S1x256x1024_S256x1024))
def gated1 (t : Vec Ideal S32x2048x4x1024 .f32) (o : Vec Ideal S32x2048x256 .f32) (wb : Vec Ideal S4x256x1024 .f32) : Vec Ideal S32x2048x1024 .f32 :=
  mulf (F := Ideal) (φ := .f32)
    (shapeCast S32x2048x1024 (extractStridedSlice S32x2048x1x1024 ![0, 0, 1, 0] t slices_S32x2048x4x1024_S32x2048x1x1024_0_0_1_0) shapeCasts_S32x2048x1x1024_S32x2048x1024)
    (Host.dotGeneral (F := Ideal) (φ₁ := .f32) (φ₂ := .f32) dot_S32x2048x256_S256x1024_S32x2048x1024_2_0_01_1_n_n none o
      (shapeCast S256x1024 (extractStridedSlice S1x256x1024 ![1, 0, 0] wb slices_S4x256x1024_S1x256x1024_1_0_0) shapeCasts_S1x256x1024_S256x1024))
def gated2 (t : Vec Ideal S32x2048x4x1024 .f32) (o : Vec Ideal S32x2048x256 .f32) (wb : Vec Ideal S4x256x1024 .f32) : Vec Ideal S32x2048x1024 .f32 :=
  mulf (F := Ideal) (φ := .f32)
    (shapeCast S32x2048x1024 (extractStridedSlice S32x2048x1x1024 ![0, 0, 2, 0] t slices_S32x2048x4x1024_S32x2048x1x1024_0_0_2_0) shapeCasts_S32x2048x1x1024_S32x2048x1024)
    (Host.dotGeneral (F := Ideal) (φ₁ := .f32) (φ₂ := .f32) dot_S32x2048x256_S256x1024_S32x2048x1024_2_0_01_1_n_n none o
      (shapeCast S256x1024 (extractStridedSlice S1x256x1024 ![2, 0, 0] wb slices_S4x256x1024_S1x256x1024_2_0_0) shapeCasts_S1x256x1024_S256x1024))
def gated3 (t : Vec Ideal S32x2048x4x1024 .f32) (o : Vec Ideal S32x2048x256 .f32) (wb : Vec Ideal S4x256x1024 .f32) : Vec Ideal S32x2048x1024 .f32 :=
  mulf (F := Ideal) (φ := .f32)
    (shapeCast S32x2048x1024 (extractStridedSlice S32x2048x1x1024 ![0, 0, 3, 0] t slices_S32x2048x4x1024_S32x2048x1x1024_0_0_3_0) shapeCasts_S32x2048x1x1024_S32x2048x1024)
    (Host.dotGeneral (F := Ideal) (φ₁ := .f32) (φ₂ := .f32) dot_S32x2048x256_S256x1024_S32x2048x1024_2_0_01_1_n_n none o
      (shapeCast S256x1024 (extractStridedSlice S1x256x1024 ![3, 0, 0] wb slices_S4x256x1024_S1x256x1024_3_0_0) shapeCasts_S1x256x1024_S256x1024))

/-- The four together. -/
def gatedSum (t : Vec Ideal S32x2048x4x1024 .f32) (oa ob oc od : Vec Ideal S32x2048x256 .f32) (wb : Vec Ideal S4x256x1024 .f32) : Vec Ideal S32x2048x1024 .f32 :=
  addf (F := Ideal) (φ := .f32) (addf (F := Ideal) (φ := .f32) (addf (F := Ideal) (φ := .f32) (gated0 t oa wb) (gated1 t ob wb)) (gated2 t oc wb)) (gated3 t od wb)

/-- The residual. -/
def residual (x : Vec Ideal S32x2048x1024 .f32) (s : Vec Ideal S32x1x1024 .f32) (u : Vec Ideal S32x2048x1024 .f32) (wo : Vec Ideal S1024x1024 .f32) : Vec Ideal S32x2048x1024 .f32 :=
  addf (F := Ideal) (φ := .f32) x
    (mulf (F := Ideal) (φ := .f32) (broadcastInDim S32x2048x1024 ![0, 1, 2] bcast_S32x1x1024_S32x2048x1024_0_1_2 s)
      (Host.dotGeneral (F := Ideal) (φ₁ := .f32) (φ₂ := .f32) dot_S32x2048x1024_S1024x1024_S32x2048x1024_2_0_01_1_n_n none u wo))

/-- The two results. -/
def outX (x : Vec Ideal S32x2048x1024 .f32) (md : Vec Ideal S32x6144 .f32) (g : Vec Ideal S1024 .f32) (oa ob oc od : Vec Ideal S32x2048x256 .f32)
    (w : Vec Ideal S1024x6820 .f32) (wb : Vec Ideal S4x256x1024 .f32) (wo : Vec Ideal S1024x1024 .f32) : Vec Ideal S32x2048x1024 .f32 :=
  residual x (mod2 md) (gatedSum (gates (normed x g (mod1 md) (mod0 md)) w) oa ob oc od wb) wo
def outH (x : Vec Ideal S32x2048x1024 .f32) (md : Vec Ideal S32x6144 .f32) (g g' : Vec Ideal S1024 .f32) (oa ob oc od : Vec Ideal S32x2048x256 .f32)
    (w : Vec Ideal S1024x6820 .f32) (wb : Vec Ideal S4x256x1024 .f32) (wo : Vec Ideal S1024x1024 .f32) : Vec Ideal S32x2048x1024 .bf16 :=
  truncf (F := Ideal) .bf16 (normed (outX x md g oa ob oc od w wb wo) g' (mod4 md) (mod3 md)) bitsLt_bf16_f32

section At
variable (n : Fin 32) (s : Fin 2048) (d : Fin 1024)

theorem mod0_at (md : Vec Ideal S32x6144 .f32) : (mod0 md (ix3 n 0 d) : EReal) = md (ix2 n ⟨0 + d.val, by omega⟩) := by
  pointwise [mod0, modRow]
theorem mod1_at (md : Vec Ideal S32x6144 .f32) : (mod1 md (ix3 n 0 d) : EReal) = md (ix2 n ⟨1024 + d.val, by omega⟩) := by
  pointwise [mod1, modRow]
theorem mod2_at (md : Vec Ideal S32x6144 .f32) : (mod2 md (ix3 n 0 d) : EReal) = md (ix2 n ⟨2048 + d.val, by omega⟩) := by
  pointwise [mod2, modRow]
theorem mod3_at (md : Vec Ideal S32x6144 .f32) : (mod3 md (ix3 n 0 d) : EReal) = md (ix2 n ⟨3072 + d.val, by omega⟩) := by
  pointwise [mod3, modRow]
theorem mod4_at (md : Vec Ideal S32x6144 .f32) : (mod4 md (ix3 n 0 d) : EReal) = md (ix2 n ⟨4096 + d.val, by omega⟩) := by
  pointwise [mod4, modRow]

theorem normed_at (x : Vec Ideal S32x2048x1024 .f32) (g : Vec Ideal S1024 .f32) (a b : Vec Ideal S32x1x1024 .f32) : (normed x g a b (ix3 n s d) : EReal)
    = norm (fun e => x (ix3 n s e)) (fun e => g (ix1 e)) (fun e => a (ix3 n 0 e)) (fun e => b (ix3 n 0 e)) d := by
  pointwise [normed]
  rfl

theorem gates_at (h : Vec Ideal S32x2048x1024 .f32) (w : Vec Ideal S1024x6820 .f32) (k : Fin 4) : (gates h w (ix4 n s k d) : EReal)
    = gate (fun e => h (ix3 n s e)) (fun e => w (ix2 e ⟨2724 + (k.val * 1024 + d.val), by omega⟩)) := by
  pointwise [gates]
  unfold gate
  rw [zero_sub]

theorem gatedSum_at (t : Vec Ideal S32x2048x4x1024 .f32) (oa ob oc od : Vec Ideal S32x2048x256 .f32) (wb : Vec Ideal S4x256x1024 .f32) : (gatedSum t oa ob oc od wb (ix3 n s d) : EReal)
    = t (ix4 n s 0 d) * (∑ x, oa (ix3 n s x) * wb (ix3 0 x d)) + t (ix4 n s 1 d) * (∑ x, ob (ix3 n s x) * wb (ix3 1 x d))
      + t (ix4 n s 2 d) * (∑ x, oc (ix3 n s x) * wb (ix3 2 x d)) + t (ix4 n s 3 d) * (∑ x, od (ix3 n s x) * wb (ix3 3 x d)) := by
  pointwise [gatedSum, gated0, gated1, gated2, gated3]

theorem residual_at (x : Vec Ideal S32x2048x1024 .f32) (m : Vec Ideal S32x1x1024 .f32) (u : Vec Ideal S32x2048x1024 .f32) (wo : Vec Ideal S1024x1024 .f32) : (residual x m u wo (ix3 n s d) : EReal)
    = x (ix3 n s d) + m (ix3 n 0 d) * ∑ e, u (ix3 n s e) * wo (ix2 e d) := by
  pointwise [residual]
end At

end Cert.Reference2Ideal.Merge
-- ==== Proof.MergeEq.lean ====
/-
  The merge's two results and the reference's are the same function of the arguments.
-/
module

public import proofs.«01_k».proof.Proof.MergeArray
public import proofs.«01_k».proof.Proof.MergeHost
public import proofs.«01_k».proof.Proof.MergeRefStages

@[expose] public section

set_option maxRecDepth 16384

noncomputable section

namespace Cert.Merge

open Idealize.ShloMosaic Idealize.ShloMosaic.TcCoe Idealize.SL.Sem
open Cert.Kernel2Ideal (S32x2048x1024 S32x6144 S1024 S32x2048x256 S1024x6820 S4x256x1024 S1024x1024)
open Cert.Kernel2Ideal.Merge (hostGate hostBranch hostOut hostIn hostGain hostMod hostGate_at hostBranch_at hostOut_at hostIn_at hostGain_at
  hostMod_at arrX arrH norm_congr part_congr)
open Cert.Reference2Ideal.Merge (mod0 mod1 mod2 mod3 mod4 normed gates gatedSum residual mod0_at mod1_at mod2_at mod3_at mod4_at normed_at gates_at
  gatedSum_at residual_at)

variable (x : Vec Ideal S32x2048x1024 .f32) (md : Vec Ideal S32x6144 .f32) (g g' : Vec Ideal S1024 .f32) (oa ob oc od : Vec Ideal S32x2048x256 .f32)
  (w : Vec Ideal S1024x6820 .f32) (wb : Vec Ideal S4x256x1024 .f32) (wo : Vec Ideal S1024x1024 .f32)

section At
variable (n : Fin 32) (s : Fin 2048)

/-- The modulation's rows, as the call takes them and as the reference cuts them. -/
theorem mod0_eq (d : Fin 1024) : (hostMod md (ix3 n 0 d) : EReal) = mod0 md (ix3 n 0 d) :=
  (hostMod_at md n 0 d).trans ((congrArg (fun i => md (ix2 n i)) (Fin.ext rfl)).trans (mod0_at n d md).symm)
theorem mod1_eq (d : Fin 1024) : (hostMod md (ix3 n 1 d) : EReal) = mod1 md (ix3 n 0 d) :=
  (hostMod_at md n 1 d).trans ((congrArg (fun i => md (ix2 n i)) (Fin.ext rfl)).trans (mod1_at n d md).symm)
theorem mod2_eq (d : Fin 1024) : (hostMod md (ix3 n 2 d) : EReal) = mod2 md (ix3 n 0 d) :=
  (hostMod_at md n 2 d).trans ((congrArg (fun i => md (ix2 n i)) (Fin.ext rfl)).trans (mod2_at n d md).symm)
theorem mod3_eq (d : Fin 1024) : (hostMod md (ix3 n 3 d) : EReal) = mod3 md (ix3 n 0 d) :=
  (hostMod_at md n 3 d).trans ((congrArg (fun i => md (ix2 n i)) (Fin.ext rfl)).trans (mod3_at n d md).symm)
theorem mod4_eq (d : Fin 1024) : (hostMod md (ix3 n 4 d) : EReal) = mod4 md (ix3 n 0 d) :=
  (hostMod_at md n 4 d).trans ((congrArg (fun i => md (ix2 n i)) (Fin.ext rfl)).trans (mod4_at n d md).symm)

/-- The normalised and modulated row. -/
theorem hid_eq (d : Fin 1024) :
    norm (fun e => x (ix3 n s e)) (fun e => hostGain g (ix2 0 e)) (fun e => hostMod md (ix3 n 1 e)) (fun e => hostMod md (ix3 n 0 e)) d
      = normed x g (mod1 md) (mod0 md) (ix3 n s d) :=
  (norm_congr (fun _ => rfl) (hostGain_at g) (mod1_eq md n) (mod0_eq md n) d).trans (normed_at n s d x g _ _).symm

/-- One branch's part. -/
theorem part_eq (h : Vec Ideal S32x2048x1024 .f32) (h' : Fin 1024 → EReal) (hh : ∀ e, h' e = h (ix3 n s e)) (o : Vec Ideal S32x2048x256 .f32) (k : Fin 4)
    (e : Fin 1024) (j : Fin 4096) (hj : j.val = k.val * 1024 + e.val) :
    part h' (fun a => hostGate w (ix2 a j)) (fun i => hostIn o (ix3 n s i)) (fun i => hostBranch wb (ix3 k i e))
      = gates h w (ix4 n s k e) * ∑ i, o (ix3 n s i) * wb (ix3 k i e) := by
  rw [gates_at]
  exact part_congr hh (fun a => (hostGate_at w a j).trans (congrArg (fun i => w (ix2 a i)) (Fin.ext (congrArg (2724 + ·) hj)))) (hostIn_at o n s)
    fun i => hostBranch_at wb k i e

/-- The residual's row. -/
theorem rowX_eq (d : Fin 1024) :
    mixed (fun e => x (ix3 n s e)) (fun k e => hostMod md (ix3 n k e)) (fun e => hostGain g (ix2 0 e)) (fun i => hostIn oa (ix3 n s i))
        (fun i => hostIn ob (ix3 n s i)) (fun i => hostIn oc (ix3 n s i)) (fun i => hostIn od (ix3 n s i)) (fun e i => hostGate w (ix2 e i))
        (fun k i d => hostBranch wb (ix3 k i d)) (fun e d => hostOut wo (ix2 e d)) d
      = Cert.Reference2Ideal.Merge.outX x md g oa ob oc od w wb wo (ix3 n s d) := by
  unfold Cert.Reference2Ideal.Merge.outX mixed
  rw [residual_at]
  have hh := hid_eq x md g n s
  refine congrArg₂ (· + ·) rfl (congrArg₂ (· * ·) (mod2_eq md n d) (Finset.sum_congr rfl fun e _ => congrArg₂ (· * ·) ?_ (hostOut_at wo e d)))
  rw [gatedSum_at]
  exact congrArg₂ (· + ·) (congrArg₂ (· + ·) (congrArg₂ (· + ·)
    (part_eq w wb n s _ _ hh oa 0 e _ (by show 0 + e.val = 0 * 1024 + e.val; omega)) (part_eq w wb n s _ _ hh ob 1 e _ rfl))
    (part_eq w wb n s _ _ hh oc 2 e _ rfl)) (part_eq w wb n s _ _ hh od 3 e _ rfl)

/-- The experts' input's row. -/
theorem rowH_eq (d : Fin 1024) :
    ffnIn (fun e => x (ix3 n s e)) (fun k e => hostMod md (ix3 n k e)) (fun e => hostGain g (ix2 0 e)) (fun e => hostGain g' (ix2 0 e))
        (fun i => hostIn oa (ix3 n s i))
        (fun i => hostIn ob (ix3 n s i)) (fun i => hostIn oc (ix3 n s i)) (fun i => hostIn od (ix3 n s i)) (fun e i => hostGate w (ix2 e i))
        (fun k i d => hostBranch wb (ix3 k i d)) (fun e d => hostOut wo (ix2 e d)) d
      = Cert.Reference2Ideal.Merge.outH x md g g' oa ob oc od w wb wo (ix3 n s d) :=
  (norm_congr (rowX_eq x md g oa ob oc od w wb wo n s) (hostGain_at g') (mod4_eq md n) (mod3_eq md n) d).trans (normed_at n s d _ g' _ _).symm
end At

/-- The residual. -/
theorem valueX : Cert.Reference2Ideal.Merge.outX x md g oa ob oc od w wb wo
    = arrX x (hostMod md) (hostGain g) (hostIn oa) (hostIn ob) (hostIn oc) (hostIn od) (hostGate w) (hostBranch wb) (hostOut wo) := by
  funext j
  exact (congrArg (Cert.Reference2Ideal.Merge.outX x md g oa ob oc od w wb wo) (ix3_eta j).symm).trans
    (rowX_eq x md g oa ob oc od w wb wo (j 0) (j 1) (j 2)).symm

/-- The experts' input. -/
theorem valueH : Cert.Reference2Ideal.Merge.outH x md g g' oa ob oc od w wb wo
    = arrH x (hostMod md) (hostGain g) (hostGain g') (hostIn oa) (hostIn ob) (hostIn oc) (hostIn od) (hostGate w) (hostBranch wb) (hostOut wo) := by
  funext j
  exact (congrArg (Cert.Reference2Ideal.Merge.outH x md g g' oa ob oc od w wb wo) (ix3_eta j).symm).trans
    (rowH_eq x md g g' oa ob oc od w wb wo (j 0) (j 1) (j 2)).symm

end Cert.Merge
-- ==== Proof.MergeRefResult.lean ====
/-
  The reference's two results are the composition of its stages.
-/
module

public import proofs.«01_k».proof.Proof.Gen.Reference2Ideal.Run
public import proofs.«01_k».proof.Proof.MergeRefStages

@[expose] public section

set_option maxRecDepth 16384

noncomputable section

namespace Cert.Reference2Ideal.Merge

open Cert.Reference2Ideal Cert.Reference2Ideal.Gen Idealize.ShloMosaic Idealize.ShloMosaic.TcCoe Idealize.SL.Sem

variable (m : (ℓ : Loc nD τ sig) → Buf (Elt Ideal) ℓ) (c : Dev nD)

theorem resultX : Cert.Reference2Ideal.Value.res_main_v65 m c
    = outX (m ((c.tc : Thread nD τ).loc main_arg0)) (m ((c.tc : Thread nD τ).loc main_arg1)) (m ((c.tc : Thread nD τ).loc main_arg2))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) := by
  unfold Cert.Reference2Ideal.Value.res_main_v65
  rfl

theorem resultH : Cert.Reference2Ideal.Value.res_main_v85 m c
    = outH (m ((c.tc : Thread nD τ).loc main_arg0)) (m ((c.tc : Thread nD τ).loc main_arg1)) (m ((c.tc : Thread nD τ).loc main_arg2))
        (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7)) (m ((c.tc : Thread nD τ).loc main_arg8)) (m ((c.tc : Thread nD τ).loc main_arg9))
        (m ((c.tc : Thread nD τ).loc main_arg10)) := by
  unfold Cert.Reference2Ideal.Value.res_main_v85
  rfl

end Cert.Reference2Ideal.Merge
-- ==== Proof.MergeClaims.lean ====
/-
  The claims of the merge, from its frames and its two values.
-/
module

public import proofs.«01_k».proof.Defs
public import proofs.«01_k».proof.Proof.Gen.Kernel2
public import proofs.«01_k».proof.Proof.Gen.Kernel2.Frame
public import proofs.«01_k».proof.Proof.MergeEq
public import proofs.«01_k».proof.Proof.MergeRefResult
public import Idealize.ShloMosaic.Lib.Claim

@[expose] public section

set_option maxRecDepth 16384

noncomputable section

namespace Cert.Proof.Merge

open Idealize.ShloMosaic Idealize.ShloMosaic.TcCoe Idealize.SL.Sem

theorem frame_p : Cert.quiescent_Kernel2 := fun m ρ _ => Cert.Kernel2.Gen.frame m ρ
theorem frame_pi : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem preserves : Cert.preserves_Kernel2_Kernel2Ideal := trivial

set_option maxHeartbeats 2000000 in
theorem algebraic : Cert.algebraic_Kernel2Ideal_Reference2Ideal := by
  pair_intro
  · run_from Cert.Kernel2Ideal.Value.run_blocks m g
  · run_from Cert.Reference2Ideal.Value.run m' g'
    · obtain ⟨h0, h1, h2, h3, h4, h5, h6, h7, h8, h9, h10, h11, h12⟩ := hagree c
      rw [Cert.Reference2Ideal.Merge.resultX m' c, Cert.Kernel2Ideal.Merge.finalX m c, Cert.Kernel2Ideal.Gen.V_main_arg0 m c,
        Cert.Kernel2Ideal.Merge.v1, Cert.Kernel2Ideal.Merge.v2, Cert.Kernel2Ideal.Merge.v3, Cert.Kernel2Ideal.Merge.v7,
        Cert.Kernel2Ideal.Merge.v9, Cert.Kernel2Ideal.Merge.v10, Cert.Kernel2Ideal.Merge.v11, Cert.Kernel2Ideal.Merge.v12,
        Cert.Kernel2Ideal.Merge.v13, h0, h1, h2, h4, h5, h6, h7, h8, h9, h10]
      exact Cert.Merge.valueX _ _ _ _ _ _ _ _ _ _
    · obtain ⟨h0, h1, h2, h3, h4, h5, h6, h7, h8, h9, h10, h11, h12⟩ := hagree c
      rw [Cert.Reference2Ideal.Merge.resultH m' c, Cert.Kernel2Ideal.Merge.finalH m c, Cert.Kernel2Ideal.Gen.V_main_arg0 m c,
        Cert.Kernel2Ideal.Merge.v1, Cert.Kernel2Ideal.Merge.v2, Cert.Kernel2Ideal.Merge.v3, Cert.Kernel2Ideal.Merge.v7,
        Cert.Kernel2Ideal.Merge.v8,
        Cert.Kernel2Ideal.Merge.v9, Cert.Kernel2Ideal.Merge.v10, Cert.Kernel2Ideal.Merge.v11, Cert.Kernel2Ideal.Merge.v12,
        Cert.Kernel2Ideal.Merge.v13, h0, h1, h2, h3, h4, h5, h6, h7, h8, h9, h10]
      exact Cert.Merge.valueH _ _ _ _ _ _ _ _ _ _ _

end Cert.Proof.Merge
-- ==== Proof.ExpRouted.lean ====
/-
  What the experts' precondition says: every tile's group is one of four, and a row's weight for an expert is neither
  infinite nor negative.
-/
module

public import proofs.«01_k».proof.Pre_routed
public import Idealize.ShloMosaic.Lib.Pointwise

@[expose] public section

set_option maxRecDepth 16384

noncomputable section

namespace Cert.Exp

open Cert.Pre_routed Idealize.ShloMosaic

/-- The precondition's slices and broadcasts. -/
instance preFacts : Cert.Pre_routed.Facts where
  slices_S83456x1152_S83456x12_0_1024 := by decide
  bitsLt_bf16_f32 := by decide
  slices_S83456x12_S83456x4_0_0 := by decide
  slices_S83456x12_S83456x4_0_4 := by decide
  slices_S83456x12_S83456x4_0_8 := by decide
  bcast_S_S163 := by decide
  bcast_S_S83456x4 := by decide

theorem small (w : BitVec 32) (h : IntOp.andi (IntOp.cmpi .sge w 0#32) (IntOp.cmpi .slt w 4#32) = 1#1) : w.toNat < 4 := by
  simp only [IntOp.andi, IntOp.cmpi] at h
  by_cases h₁ : (0#32).sle w = true
  · by_cases h₂ : w.slt 4#32 = true
    · rw [BitVec.sle_iff_toInt_le] at h₁
      rw [BitVec.slt_iff_toInt_lt] at h₂
      have e : w.toInt = (w.toNat : ℤ) ∨ w.toInt = (w.toNat : ℤ) - 4294967296 := by
        rw [BitVec.toInt_eq_toNat_cond]; split <;> simp
      have l := w.isLt
      simp at h₁ h₂
      omega
    · simp [h₂] at h
  · simp [h₁] at h

variable {F : FTy → Type} [FloatOps F]

theorem group_lt (xs : FVec F S83456x1152 .bf16) (tg tv : IVec S163 32) (wg wu : FVec F S16x1024x256 .f32) (wd : FVec F S16x256x1024 .f32)
    (h : (fn (F := F) xs tg tv wg wu wd).1 = fun _ => 1#1) (t : Fin 163) : (tg (ix1 t)).toNat < 4 := by
  have h' := congrFun h (ix1 t)
  exact small _ h'

/-- A row's weight for expert `j` of its group. -/
def weight (xs : FVec Ideal S83456x1152 .bf16) (r : Fin 83456) (j : Fin 4) : EReal :=
  xs (ix2 r ⟨1024 + j.val, by omega⟩) + xs (ix2 r ⟨1024 + (4 + j.val), by omega⟩) + xs (ix2 r ⟨1024 + (8 + j.val), by omega⟩)

theorem le_of_oge (x : EReal) (h : FloatOps.cmpf (F := Ideal) (φ := .f32) .oge x 0 = 1#1) : 0 ≤ x := by
  have h' : BitVec.ofBool (decide (0 ≤ x)) = 1#1 := h
  by_contra hn
  rw [decide_eq_false hn] at h'
  exact absurd h' (by decide)

theorem lt_of_olt (x : EReal) (h : FloatOps.cmpf (F := Ideal) (φ := .f32) .olt x (Ideal.ofBits .f32 0x7F800000#32) = 1#1) : x < ⊤ := by
  have hi : Ideal.ofBits .f32 0x7F800000#32 = ⊤ := by simp [Ideal.ofBits, Ideal.ieee]
  rw [hi] at h
  have h' : BitVec.ofBool (decide (x < ⊤)) = 1#1 := h
  by_contra hn
  rw [decide_eq_false hn] at h'
  exact absurd h' (by decide)

theorem weight_nonneg (xs : FVec Ideal S83456x1152 .bf16) (tg tv : IVec S163 32) (wg wu : FVec Ideal S16x1024x256 .f32) (wd : FVec Ideal S16x256x1024 .f32)
    (h : (fn (F := Ideal) xs tg tv wg wu wd).2.1 = fun _ => 1#1) (r : Fin 83456) (j : Fin 4) : 0 ≤ weight xs r j := by
  have h' := congrFun h (ix2 r j)
  dsimp only [fn] at h'
  pointwise at h'
  exact le_of_oge _ h'

theorem weight_lt_top (xs : FVec Ideal S83456x1152 .bf16) (tg tv : IVec S163 32) (wg wu : FVec Ideal S16x1024x256 .f32) (wd : FVec Ideal S16x256x1024 .f32)
    (h : (fn (F := Ideal) xs tg tv wg wu wd).2.2 = fun _ => 1#1) (r : Fin 83456) (j : Fin 4) : weight xs r j < ⊤ := by
  have h' := congrFun h (ix2 r j)
  dsimp only [fn] at h'
  pointwise at h'
  exact lt_of_olt _ h'

end Cert.Exp
-- ==== Proof.ExpMath.lean ====
/-
  The experts' layer row by row: the gated unit, its weight, the sum over an expert's hidden features, and the two
  orders in which the weight and the sum are taken.
-/
module

public import Idealize.ShloMosaic.Lib.Pointwise
public import Idealize.ShloMosaic.PureOps.Ideal

@[expose] public section

set_option maxRecDepth 16384

noncomputable section

namespace Cert.Exp

open Idealize.ShloMosaic

/-- The gated unit of two projections. -/
def glu (g u : EReal) : EReal := g * Ideal.div 1 (1 + Ideal.exp (0 - g)) * u

/-- A row's weighted activation for one hidden feature: the row, the gate's and the up projection's columns, the weight. -/
def act (x wg wu : Fin 1024 → EReal) (c : EReal) : EReal := glu (∑ e, x e * wg e) (∑ e, x e * wu e) * c

/-- The four experts' activations against the stacked output weights. -/
def down (g : Fin 4 → Fin 256 → EReal) (v : Fin 1024 → EReal) : EReal :=
  (∑ f : Fin 256, g 0 f * v ⟨f.val, by omega⟩) + ((∑ f : Fin 256, g 1 f * v ⟨256 + f.val, by omega⟩)
    + ((∑ f : Fin 256, g 2 f * v ⟨512 + f.val, by omega⟩) + (∑ f : Fin 256, g 3 f * v ⟨768 + f.val, by omega⟩)))

/-- A contraction over the stacked features, cut at the experts. -/
theorem four (A v : Fin 1024 → EReal) (g : Fin 4 → Fin 256 → EReal) (h₀ : ∀ f : Fin 256, A ⟨f.val, by omega⟩ = g 0 f)
    (h₁ : ∀ f : Fin 256, A ⟨256 + f.val, by omega⟩ = g 1 f) (h₂ : ∀ f : Fin 256, A ⟨256 + (256 + f.val), by omega⟩ = g 2 f)
    (h₃ : ∀ f : Fin 256, A ⟨256 + (256 + (256 + f.val)), by omega⟩ = g 3 f) : (∑ k, A k * v k) = down g v := by
  rw [Fin.sum_univ_two_halves 256 768 rfl (fun k => A k * v k), Fin.sum_univ_two_halves 256 512 rfl, Fin.sum_univ_two_halves 256 256 rfl]
  unfold down
  refine congrArg₂ (· + ·) (Finset.sum_congr rfl fun f _ => congrArg₂ (· * ·) (h₀ f) rfl)
    (congrArg₂ (· + ·) (Finset.sum_congr rfl fun f _ => congrArg₂ (· * ·) (h₁ f) rfl)
      (congrArg₂ (· + ·) (Finset.sum_congr rfl fun f _ => congrArg₂ (· * ·) (h₂ f) (congrArg v (Fin.ext ?_)))
        (Finset.sum_congr rfl fun f _ => congrArg₂ (· * ·) (h₃ f) (congrArg v (Fin.ext ?_)))))
  · show 256 + (256 + f.val) = 512 + f.val
    omega
  · show 256 + (256 + (256 + f.val)) = 768 + f.val
    omega

/-- A masked sum over the lanes that keeps lanes `j`, `4 + j` and `8 + j`. -/
theorem pick (j : ℕ) (hj : j < 4) (M : Fin 128 → BitVec 1) (v : Fin 128 → EReal)
    (h : ∀ l : Fin 128, M l = if l.val = j ∨ l.val = 4 + j ∨ l.val = 8 + j then 1#1 else 0#1) :
    (∑ l, Scalar.select (M l) (v l) 0) = v ⟨j, by omega⟩ + v ⟨4 + j, by omega⟩ + v ⟨8 + j, by omega⟩ := by
  have e : ∀ l : Fin 128, Scalar.select (M l) (v l) 0
      = ((if l = ⟨j, by omega⟩ then v l else 0) + (if l = ⟨4 + j, by omega⟩ then v l else 0)) + (if l = ⟨8 + j, by omega⟩ then v l else 0) := by
    intro l
    rw [h l]
    simp only [Fin.ext_iff]
    by_cases h₀ : l.val = j
    · simp [h₀, Scalar.select]
    · by_cases h₁ : l.val = 4 + j
      · simp [h₁, Scalar.select]
      · by_cases h₂ : l.val = 8 + j
        · simp [h₂, Scalar.select]
        · simp [h₀, h₁, h₂, Scalar.select]
  rw [Finset.sum_congr rfl fun l _ => e l, Finset.sum_add_distrib, Finset.sum_add_distrib]
  simp only [Finset.sum_ite_eq', Finset.mem_univ, if_true]

/-- A finite weight that is not negative may be taken out of a sum. -/
theorem weigh {ι : Type} (s : Finset ι) (c : EReal) (h₀ : 0 ≤ c) (h₁ : c < ⊤) (f : ι → EReal) : c * ∑ i ∈ s, f i = ∑ i ∈ s, c * f i := by
  lift c to ℝ using ⟨h₁.ne, fun h => by simp [h] at h₀⟩
  classical
  induction s using Finset.induction_on with
  | empty => simp
  | insert a s ha ih =>
    rw [Finset.sum_insert ha, Finset.sum_insert ha, EReal.left_distrib_of_nonneg_of_ne_top h₀ h₁.ne, ih]

/-- An expert's output with its weight inside the sum over the features, or in front of it. -/
theorem weighed (x : Fin 1024 → EReal) (wg wu : Fin 256 → Fin 1024 → EReal) (v : Fin 256 → EReal) (c : EReal) (h₀ : 0 ≤ c) (h₁ : c < ⊤) :
    (∑ f, act x (wg f) (wu f) c * v f) = c * ∑ f, glu (∑ e, x e * wg f e) (∑ e, x e * wu f e) * v f := by
  rw [weigh _ c h₀ h₁]
  refine Finset.sum_congr rfl fun f _ => ?_
  unfold act
  rw [mul_comm _ c, mul_assoc]

end Cert.Exp
-- ==== Proof.ExpRefStages.lean ====
/-
  The reference of the experts' layer in stages: the rows, the weights with a row's group marked,
  and one expert's term; each stage at an index.
-/
module

public import proofs.«01_k».proof.Proof.Gen.Reference3Ideal
public import proofs.«01_k».proof.Proof.ExpMath
public import Idealize.ShloMosaic.Lib.Pointwise

@[expose] public section

set_option maxRecDepth 16384

noncomputable section

namespace Cert.Reference3Ideal.Exp

open Cert.Reference3Ideal Cert.Reference3Ideal.Gen Idealize.ShloMosaic Idealize.ShloMosaic.TcCoe Idealize.SL.Sem
open Cert.Exp

/-- The rows. -/
def hid (xs : Vec Ideal S83456x1152 .bf16) : Vec Ideal S83456x1024 .f32 :=
  extf (F := Ideal) .f32 (extractStridedSlice S83456x1024 ![0, 0] xs slices_S83456x1152_S83456x1024_0_0) bitsLt_bf16_f32

/-- Their weights for the four experts of a group. -/
def wts (xs : Vec Ideal S83456x1152 .bf16) : Vec Ideal S83456x4 .f32 :=
  Host.reduceAdd (F := Ideal) (φ := .f32)
    (shapeCast S83456x3x4 (extf (F := Ideal) .f32 (extractStridedSlice S83456x12 ![0, 1024] xs slices_S83456x1152_S83456x12_0_1024) bitsLt_bf16_f32) shapeCasts_S83456x12_S83456x3x4)
    (constant (F := Ideal) S_ .f32 0x00000000#32) reducesTo_S83456x3x4_S83456x4_d1 h_S_

/-- A tile's group, or four where the tile is idle. -/
def grps (tg tv : IVec S163 32) : IVec S163 32 :=
  select (cmpi .ne tv (broadcastInDim S163 ![] bcast_S_S163 (constantI S_ 32 0#32))) tg (broadcastInDim S163 ![] bcast_S_S163 (constantI S_ 32 4#32))

/-- Which group is a row's. -/
def mark (g : IVec S163 32) : IVec S83456x4 1 :=
  cmpi .eq
    (broadcastInDim S83456x4 ![0, 1] bcast_S83456x1_S83456x4_0_1
      (broadcastInDim S83456x1 ![0] bcast_S83456_S83456x1_0 (shapeCast S83456 (broadcastInDim S163x512 ![0] bcast_S163_S163x512_0 g) shapeCasts_S163x512_S83456)))
    (broadcastInDim S83456x4 ![0, 1] bcast_S1x4_S83456x4_0_1 (broadcastInDim S1x4 ![1] bcast_S4_S1x4_1 (iotaInDim S4 32 0)))

/-- The weights over all experts. -/
def comb (k : IVec S83456x4 1) (w : Vec Ideal S83456x4 .f32) : Vec Ideal S83456x16 .f32 :=
  shapeCast S83456x16
    (select
      (broadcastInDim S83456x4x4 ![0, 1, 2] bcast_S83456x4x1_S83456x4x4_0_1_2 (broadcastInDim S83456x4x1 ![0, 1] bcast_S83456x4_S83456x4x1_0_1 k))
      (broadcastInDim S83456x4x4 ![0, 1, 2] bcast_S83456x1x4_S83456x4x4_0_1_2 (broadcastInDim S83456x1x4 ![0, 2] bcast_S83456x4_S83456x1x4_0_2 w))
      (broadcastInDim S83456x4x4 ![] bcast_S_S83456x4x4 (constant (F := Ideal) S_ .f32 0x00000000#32)))
    shapeCasts_S83456x4x4_S83456x16

/-- A projection of the rows. -/
def proj (e : ℕ) (hw : S16x1024x256.Slices ![e, 0, 0] S1x1024x256) (h : Vec Ideal S83456x1024 .f32) (w : Vec Ideal S16x1024x256 .f32) : Vec Ideal S83456x256 .f32 :=
  Host.dotGeneral (F := Ideal) (φ₁ := .f32) (φ₂ := .f32) dot_S83456x1024_S1024x256_S83456x256_1_0_0_1_n_n none h
    (shapeCast S1024x256 (extractStridedSlice S1x1024x256 ![e, 0, 0] w hw) shapeCasts_S1x1024x256_S1024x256)

/-- One expert's term. -/
def term (e : ℕ) (hc : S83456x16.Slices ![0, e] S83456x1) (hw : S16x1024x256.Slices ![e, 0, 0] S1x1024x256) (hd : S16x256x1024.Slices ![e, 0, 0] S1x256x1024)
    (h : Vec Ideal S83456x1024 .f32) (cm : Vec Ideal S83456x16 .f32) (wg wu : Vec Ideal S16x1024x256 .f32) (wd : Vec Ideal S16x256x1024 .f32) : Vec Ideal S83456x1024 .f32 :=
  mulf (F := Ideal) (φ := .f32)
    (broadcastInDim S83456x1024 ![0, 1] bcast_S83456x1_S83456x1024_0_1 (extractStridedSlice S83456x1 ![0, e] cm hc))
    (Host.dotGeneral (F := Ideal) (φ₁ := .f32) (φ₂ := .f32) dot_S83456x256_S256x1024_S83456x1024_1_0_0_1_n_n none
      (mulf (F := Ideal) (φ := .f32)
        (mulf (F := Ideal) (φ := .f32) (proj e hw h wg)
          (Host.divf (F := Ideal) (φ := .f32) (broadcastInDim S83456x256 ![] bcast_S_S83456x256 (constant (F := Ideal) S_ .f32 0x3F800000#32))
            (addf (F := Ideal) (φ := .f32) (broadcastInDim S83456x256 ![] bcast_S_S83456x256 (constant (F := Ideal) S_ .f32 0x3F800000#32))
              (Host.exp (F := Ideal) (φ := .f32) (Host.negf (F := Ideal) (φ := .f32) (proj e hw h wg))))))
        (proj e hw h wu))
      (shapeCast S256x1024 (extractStridedSlice S1x256x1024 ![e, 0, 0] wd hd) shapeCasts_S1x256x1024_S256x1024))

section At
variable (r : Fin 83456) (d : Fin 1024)

theorem hid_at (xs : Vec Ideal S83456x1152 .bf16) : (hid xs (ix2 r d) : EReal) = xs (ix2 r ⟨d.val, by omega⟩) := by
  pointwise [hid]

theorem wts_at (xs : Vec Ideal S83456x1152 .bf16) (j : Fin 4) : (wts xs (ix2 r j) : EReal)
    = xs (ix2 r ⟨1024 + j.val, by omega⟩) + xs (ix2 r ⟨1024 + (4 + j.val), by omega⟩) + xs (ix2 r ⟨1024 + (8 + j.val), by omega⟩) := by
  pointwise [wts]
  rw [Fin.sum_univ_three]
  exact congrArg₂ (· + ·)
    (congrArg₂ (· + ·)
      (congrArg (fun k => (xs (ix2 r k) : EReal)) (Fin.ext (show 1024 + (0 * 4 + j.val) = 1024 + j.val by omega)))
      (congrArg (fun k => (xs (ix2 r k) : EReal)) (Fin.ext (show 1024 + (1 * 4 + j.val) = 1024 + (4 + j.val) by omega))))
    (congrArg (fun k => (xs (ix2 r k) : EReal)) (Fin.ext (show 1024 + (2 * 4 + j.val) = 1024 + (8 + j.val) by omega)))

theorem comb_at (k : IVec S83456x4 1) (w : Vec Ideal S83456x4 .f32) (e : Fin 16) : (comb k w (ix2 r e) : EReal)
    = Scalar.select (k (ix2 r ⟨e.val / 4, by omega⟩)) (w (ix2 r ⟨e.val % 4, by omega⟩)) 0 := by
  pointwise [comb]

theorem mark_at (g : IVec S163 32) (k : Fin 4) : mark g (ix2 r k) = IntOp.cmpi .eq (g (ix1 ⟨r.val / 512, by omega⟩)) (BitVec.ofNat 32 k.val) := by
  pointwise [mark]

theorem grps_at (tg tv : IVec S163 32) (t : Fin 163) : grps tg tv (ix1 t) = Scalar.select (IntOp.cmpi .ne (tv (ix1 t)) 0#32) (tg (ix1 t)) 4#32 := by
  pointwise [grps]

theorem term_at (e : ℕ) (he : e < 16) (hc : S83456x16.Slices ![0, e] S83456x1) (hw : S16x1024x256.Slices ![e, 0, 0] S1x1024x256) (hd : S16x256x1024.Slices ![e, 0, 0] S1x256x1024)
    (h : Vec Ideal S83456x1024 .f32) (cm : Vec Ideal S83456x16 .f32) (wg wu : Vec Ideal S16x1024x256 .f32) (wd : Vec Ideal S16x256x1024 .f32) :
    (term e hc hw hd h cm wg wu wd (ix2 r d) : EReal)
      = cm (ix2 r ⟨e, he⟩) * ∑ f, glu (∑ k, h (ix2 r k) * wg (ix3 ⟨e, he⟩ k f)) (∑ k, h (ix2 r k) * wu (ix3 ⟨e, he⟩ k f)) * wd (ix3 ⟨e, he⟩ f d) := by
  pointwise [term, proj]
  unfold glu
  simp only [zero_sub]

end At

end Cert.Reference3Ideal.Exp
-- ==== Proof.ExpMoe.lean ====
/-
  The stages' composition.
-/
module

public import proofs.«01_k».proof.Proof.ExpRefStages

@[expose] public section

set_option maxRecDepth 16384

noncomputable section

namespace Cert.Reference3Ideal.Exp

open Cert.Reference3Ideal Cert.Reference3Ideal.Gen Idealize.ShloMosaic Idealize.ShloMosaic.TcCoe Idealize.SL.Sem

/-- The experts' terms, added in order. -/
def sums (h : Vec Ideal S83456x1024 .f32) (cm : Vec Ideal S83456x16 .f32) (wg wu : Vec Ideal S16x1024x256 .f32) (wd : Vec Ideal S16x256x1024 .f32) : Vec Ideal S83456x1024 .f32 :=
  (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (addf (F := Ideal) (φ := .f32) (term 0 slices_S83456x16_S83456x1_0_0 slices_S16x1024x256_S1x1024x256_0_0_0 slices_S16x256x1024_S1x256x1024_0_0_0 h cm wg wu wd)
    (term 1 slices_S83456x16_S83456x1_0_1 slices_S16x1024x256_S1x1024x256_1_0_0 slices_S16x256x1024_S1x256x1024_1_0_0 h cm wg wu wd))
    (term 2 slices_S83456x16_S83456x1_0_2 slices_S16x1024x256_S1x1024x256_2_0_0 slices_S16x256x1024_S1x256x1024_2_0_0 h cm wg wu wd))
    (term 3 slices_S83456x16_S83456x1_0_3 slices_S16x1024x256_S1x1024x256_3_0_0 slices_S16x256x1024_S1x256x1024_3_0_0 h cm wg wu wd))
    (term 4 slices_S83456x16_S83456x1_0_4 slices_S16x1024x256_S1x1024x256_4_0_0 slices_S16x256x1024_S1x256x1024_4_0_0 h cm wg wu wd))
    (term 5 slices_S83456x16_S83456x1_0_5 slices_S16x1024x256_S1x1024x256_5_0_0 slices_S16x256x1024_S1x256x1024_5_0_0 h cm wg wu wd))
    (term 6 slices_S83456x16_S83456x1_0_6 slices_S16x1024x256_S1x1024x256_6_0_0 slices_S16x256x1024_S1x256x1024_6_0_0 h cm wg wu wd))
    (term 7 slices_S83456x16_S83456x1_0_7 slices_S16x1024x256_S1x1024x256_7_0_0 slices_S16x256x1024_S1x256x1024_7_0_0 h cm wg wu wd))
    (term 8 slices_S83456x16_S83456x1_0_8 slices_S16x1024x256_S1x1024x256_8_0_0 slices_S16x256x1024_S1x256x1024_8_0_0 h cm wg wu wd))
    (term 9 slices_S83456x16_S83456x1_0_9 slices_S16x1024x256_S1x1024x256_9_0_0 slices_S16x256x1024_S1x256x1024_9_0_0 h cm wg wu wd))
    (term 10 slices_S83456x16_S83456x1_0_10 slices_S16x1024x256_S1x1024x256_10_0_0 slices_S16x256x1024_S1x256x1024_10_0_0 h cm wg wu wd))
    (term 11 slices_S83456x16_S83456x1_0_11 slices_S16x1024x256_S1x1024x256_11_0_0 slices_S16x256x1024_S1x256x1024_11_0_0 h cm wg wu wd))
    (term 12 slices_S83456x16_S83456x1_0_12 slices_S16x1024x256_S1x1024x256_12_0_0 slices_S16x256x1024_S1x256x1024_12_0_0 h cm wg wu wd))
    (term 13 slices_S83456x16_S83456x1_0_13 slices_S16x1024x256_S1x1024x256_13_0_0 slices_S16x256x1024_S1x256x1024_13_0_0 h cm wg wu wd))
    (term 14 slices_S83456x16_S83456x1_0_14 slices_S16x1024x256_S1x1024x256_14_0_0 slices_S16x256x1024_S1x256x1024_14_0_0 h cm wg wu wd))
    (term 15 slices_S83456x16_S83456x1_0_15 slices_S16x1024x256_S1x1024x256_15_0_0 slices_S16x256x1024_S1x256x1024_15_0_0 h cm wg wu wd))

/-- The reference's result. -/
def moe (xs : Vec Ideal S83456x1152 .bf16) (tg tv : IVec S163 32) (wg wu : Vec Ideal S16x1024x256 .f32) (wd : Vec Ideal S16x256x1024 .f32) : Vec Ideal S83456x1024 .bf16 :=
  truncf (F := Ideal) .bf16 (sums (hid xs) (comb (mark (grps tg tv)) (wts xs)) wg wu wd) bitsLt_bf16_f32

end Cert.Reference3Ideal.Exp
-- ==== Proof.ExpRefResult.lean ====
/-
  The reference's run holds the stages' composition.
-/
module

public import proofs.«01_k».proof.Proof.Gen.Reference3Ideal.Run
public import proofs.«01_k».proof.Proof.ExpMoe

@[expose] public section

set_option maxRecDepth 16384

noncomputable section

namespace Cert.Reference3Ideal.Exp

open Cert.Reference3Ideal Cert.Reference3Ideal.Gen Idealize.ShloMosaic Idealize.ShloMosaic.TcCoe Idealize.SL.Sem

set_option maxHeartbeats 2000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v260) = moe (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by rfl), (h c).2⟩) (Cert.Reference3Ideal.Value.run (F := Ideal) m ρ)

end Cert.Reference3Ideal.Exp
-- ==== Proof.ExpIdealWords.lean ====
/-
  What the expert call reads before it chooses: the two prefetched tables as the body is handed them, and the word of a tile.
-/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev HeapT (F : FTy → Type) : Type _ := MT nD τ sig Unit (Elt F) ℕ (UR sig nD τ) ℕ

/-- The table of groups, and the table of flags. -/
abbrev tgM : Memref sig .tc .smem S163 .i32 := Memref.whole main_arg1
abbrev tgW : tgM.IsWhole := Memref.isWhole_whole _
abbrev tvM : Memref sig .tc .smem S163 .i32 := Memref.whole main_arg2
abbrev tvW : tvM.IsWhole := Memref.isWhole_whole _

/-- The contents of a table on core `c`, and the half of it the body reads through. -/
abbrev Tab (c : Dev nD) {S : Shape} {e : EltTy} (M : Memref sig .tc .smem S e) : Type := Buf (Elt F) (M.view.loc (c : Thread nD τ))
abbrev tabAt (c : Dev nD) {S : Shape} {e : EltTy} (M : Memref sig .tc .smem S e) (f : Tab (F := F) c M) : sProp (HeapT F) :=
  M.view.loc (c : Thread nD τ) ↦{fullShare.right} f

/-- The flag of tile `i`, as the body loads it. -/
abbrev flag (c : Dev nD) (i : grid0.Coords) (xt1 : Tab (F := F) c tvM) : BitVec 32 :=
  View.readAt (Elt F) tvM.view (Rect.unit (s := S163) (k0_off1 i) S1.size (k0_off1_inb i)).toLoadRect xt1 (Shape.Idx.first (numel1_S1.symm ▸ Nat.one_pos))

/-- The two branches of a flag exclude each other, and one of them is taken. -/
theorem zero_of_not_live (w : BitVec 32) (h : ¬ k0_cond1 w = 1#1) : k0_cond2 w = 1#1 := by
  by_cases h0 : w = 0#32
  · subst h0; decide
  · exfalso; apply h; unfold k0_cond1
    have e : (w != 0#32) = true := by simp [h0]
    simp only [Scalar.cmpi, IntOp.cmpi, Scalar.extui, e]; decide
theorem not_zero_of_live (w : BitVec 32) (h : k0_cond1 w = 1#1) : ¬ k0_cond2 w = 1#1 := by
  by_cases h0 : w = 0#32
  · subst h0; exact absurd h (by decide)
  · unfold k0_cond2
    have e : (w == 0#32) = false := by simp [h0]
    simp only [Scalar.cmpi, IntOp.cmpi, Scalar.extui, e]; decide

end Cert.Kernel3Ideal.Exp
-- ==== Proof.ExpIdealIdle.lean ====
/-
  The body on a tile whose flag is zero: it stores zeros over the whole block.
-/
module

public import proofs.«01_k».proof.Proof.ExpIdealWords

@[expose] public section

set_option maxRecDepth 16384

noncomputable section

namespace Cert.Kernel3Ideal.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- The body on a tile whose flag is zero: it stores zeros over the whole block. The pieces the run stores are its witness. -/
noncomputable def idleRun (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec F S512x1152 .bf16) (x1 : Vec F S1x4x1024x512 .bf16)
    (x2 : Vec F S1x1024x1024 .bf16) (xt0 : Tab (F := F) c tgM) (xt1 : Tab (F := F) c tvM)
    (k0_h1 : ¬ k0_cond1 (flag c i xt1) = 1#1) (k0_h2 : k0_cond2 (flag c i xt1) = 1#1) :
    { L3 : List (View.Piece (Elt F) S512x1024 .bf16) //
      ∀ (E : Set ℕ) (K : PUnit → sProp (HeapT F)),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tabAt c tgM xt0 ∗ tabAt c tvM xt1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ tabAt c tgM xt0 ∗ tabAt c tvM xt1) -∗ K ⟨⟩))
          ⊢ wp frame (wpE (defs₀ (F := F)) Variants.none c none) E (cc0_moe_experts i tgM tgW tvM tvW arg3 harg3 arg4 harg4 arg5 harg5 arg6 harg6) K } := by
  refine ⟨?_, fun E K => ?run⟩
  case run =>
    simp only [cc0_moe_experts_eq_skeleton]; unfold cc0_moe_experts_skel
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    sl_exec! (disch := first | exact k0_h1 | exact k0_h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HT0]; · iexact HT0
    iexact HT1

end Cert.Kernel3Ideal.Exp
-- ==== Proof.ExpIdealLive.lean ====
/-
  The body on a tile whose flag is set: it stores the upper and the lower rows of the block.
-/
module

public import proofs.«01_k».proof.Proof.ExpIdealIdle

@[expose] public section

set_option maxRecDepth 16384

noncomputable section

namespace Cert.Kernel3Ideal.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 8000000 in
/-- The body on a tile whose flag is set: it stores the upper and the lower rows of the block. The pieces the run stores are its witness. -/
noncomputable def liveRun (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec F S512x1152 .bf16) (x1 : Vec F S1x4x1024x512 .bf16)
    (x2 : Vec F S1x1024x1024 .bf16) (xt0 : Tab (F := F) c tgM) (xt1 : Tab (F := F) c tvM)
    (k0_h1 : k0_cond1 (flag c i xt1) = 1#1) (k0_h2 : ¬ k0_cond2 (flag c i xt1) = 1#1) :
    { L3 : List (View.Piece (Elt F) S512x1024 .bf16) //
      ∀ (E : Set ℕ) (K : PUnit → sProp (HeapT F)),
        iprop(owns (c : Thread nD τ) arg3 fullShare x0 ∗ owns (c : Thread nD τ) arg4 fullShare x1 ∗ owns (c : Thread nD τ) arg5 fullShare x2 ∗ (∃ d, owns (c : Thread nD τ) arg6 fullShare d) ∗ tabAt c tgM xt0 ∗ tabAt c tvM xt1
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ tabAt c tgM xt0 ∗ tabAt c tvM xt1) -∗ K ⟨⟩))
          ⊢ wp frame (wpE (defs₀ (F := F)) Variants.none c none) E (cc0_moe_experts i tgM tgW tvM tvW arg3 harg3 arg4 harg4 arg5 harg5 arg6 harg6) K } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%d3, %f3, -, H3⟩, HT0, HT1, Hk⟩
    obtain rfl := harg3.eq_unread hf0; obtain rfl := harg4.eq_unread hf1; obtain rfl := harg5.eq_unread hf2
    sl_exec! (disch := first | exact k0_h1 | exact k0_h2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HT0]; · iexact HT0
    iexact HT1

end Cert.Kernel3Ideal.Exp
-- ==== Proof.ExpIdealCover.lean ====
/-
  What the body leaves in its output block: what its stores wrote, on a live tile and on an idle one.
-/
module

public import proofs.«01_k».proof.Proof.ExpIdealLive

@[expose] public section

set_option maxRecDepth 16384

noncomputable section

namespace Cert.Kernel3Ideal.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- One buffer of the output, through which its contents are stated. -/
abbrev VOut : View sig .tc .vmem S512x1024 .bf16 := (Memref.whole cc0_stg3_0 : Memref sig .tc .vmem S512x1024 .bf16).view

theorem liveCover (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec F S512x1152 .bf16) (x1 : Vec F S1x4x1024x512 .bf16)
    (x2 : Vec F S1x1024x1024 .bf16) (xt0 : Tab (F := F) c tgM) (xt1 : Tab (F := F) c tvM)
    (h1 : k0_cond1 (flag c i xt1) = 1#1) (h2 : ¬ k0_cond2 (flag c i xt1) = 1#1) (y : S512x1024.Idx) :
    ∃ pc ∈ (liveRun c i arg3 harg3 arg4 harg4 arg5 harg5 arg6 harg6 x0 x1 x2 xt0 xt1 h1 h2).1, y ∈ pc.1.set :=
  View.cover_of_tiledL (liveRun c i arg3 harg3 arg4 harg4 arg5 harg5 arg6 harg6 x0 x1 x2 xt0 xt1 h1 h2).1 S256x1024.size (by sl_kernel_rfl) y

theorem idleCover (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec F S512x1152 .bf16) (x1 : Vec F S1x4x1024x512 .bf16)
    (x2 : Vec F S1x1024x1024 .bf16) (xt0 : Tab (F := F) c tgM) (xt1 : Tab (F := F) c tvM)
    (h1 : ¬ k0_cond1 (flag c i xt1) = 1#1) (h2 : k0_cond2 (flag c i xt1) = 1#1) (y : S512x1024.Idx) :
    ∃ pc ∈ (idleRun c i arg3 harg3 arg4 harg4 arg5 harg5 arg6 harg6 x0 x1 x2 xt0 xt1 h1 h2).1, y ∈ pc.1.set :=
  View.cover_of_tiledL (idleRun c i arg3 harg3 arg4 harg4 arg5 harg5 arg6 harg6 x0 x1 x2 xt0 xt1 h1 h2).1 S512x1024.size (by sl_kernel_rfl) y

def liveOut (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec F S512x1152 .bf16) (x1 : Vec F S1x4x1024x512 .bf16)
    (x2 : Vec F S1x1024x1024 .bf16) (xt0 : Tab (F := F) c tgM) (xt1 : Tab (F := F) c tvM)
    (h1 : k0_cond1 (flag c i xt1) = 1#1) (h2 : ¬ k0_cond2 (flag c i xt1) = 1#1) : Vec F S512x1024 .bf16 :=
  VOut.read (Elt F) (VOut.writes (Elt F) VOut.junk (liveRun c i arg3 harg3 arg4 harg4 arg5 harg5 arg6 harg6 x0 x1 x2 xt0 xt1 h1 h2).1)

def idleOut (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec F S512x1152 .bf16) (x1 : Vec F S1x4x1024x512 .bf16)
    (x2 : Vec F S1x1024x1024 .bf16) (xt0 : Tab (F := F) c tgM) (xt1 : Tab (F := F) c tvM)
    (h1 : ¬ k0_cond1 (flag c i xt1) = 1#1) (h2 : k0_cond2 (flag c i xt1) = 1#1) : Vec F S512x1024 .bf16 :=
  VOut.read (Elt F) (VOut.writes (Elt F) VOut.junk (idleRun c i arg3 harg3 arg4 harg4 arg5 harg5 arg6 harg6 x0 x1 x2 xt0 xt1 h1 h2).1)

/-- What the output block holds after the body, by the flag. -/
def bodyOut (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec F S512x1152 .bf16) (x1 : Vec F S1x4x1024x512 .bf16)
    (x2 : Vec F S1x1024x1024 .bf16) (xt0 : Tab (F := F) c tgM) (xt1 : Tab (F := F) c tvM) : Vec F S512x1024 .bf16 :=
  if h : k0_cond1 (flag c i xt1) = 1#1 then liveOut c i arg3 harg3 arg4 harg4 arg5 harg5 arg6 harg6 x0 x1 x2 xt0 xt1 h (not_zero_of_live _ h)
  else idleOut c i arg3 harg3 arg4 harg4 arg5 harg5 arg6 harg6 x0 x1 x2 xt0 xt1 h (zero_of_not_live _ h)

end Cert.Kernel3Ideal.Exp
-- ==== Proof.ExpIdealTable.lean ====
/-
  The tables read off the launch memory, the pipeline at them, and the blocks its windows hold.
-/
module

public import proofs.«01_k».proof.Proof.ExpIdealCover

@[expose] public section

set_option maxRecDepth 16384

noncomputable section

namespace Cert.Kernel3Ideal.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

abbrev V (c : Dev nD) (b : Ref sig .tc) : Buf (Elt F) ((c : Thread nD τ).loc b) :=
  StableHlo.after (List.flatten [hostOps0]) (fun b => m (c, b)) b

theorem fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0] (by simp only [List.Forall]; exact hostOps0_sub)
    (by simp only [List.Forall]; exact fresh) main_chain

/-- The packing of the weights leaves the arguments as they are. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.unary_writes, StableHlo.binary_writes, StableHlo.reshape_writes, StableHlo.binaryIndexed_writes, StableHlo.nullary_writes, StableHlo.ternary_writes, StableHlo.quaternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.unary_writes, StableHlo.binary_writes, StableHlo.reshape_writes, StableHlo.binaryIndexed_writes, StableHlo.nullary_writes, StableHlo.ternary_writes, StableHlo.quaternary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.Forall, StableHlo.unary_writes, StableHlo.binary_writes, StableHlo.reshape_writes, StableHlo.binaryIndexed_writes, StableHlo.nullary_writes, StableHlo.ternary_writes, StableHlo.quaternary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.Forall, StableHlo.unary_writes, StableHlo.binary_writes, StableHlo.reshape_writes, StableHlo.binaryIndexed_writes, StableHlo.nullary_writes, StableHlo.ternary_writes, StableHlo.quaternary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.Forall, StableHlo.unary_writes, StableHlo.binary_writes, StableHlo.reshape_writes, StableHlo.binaryIndexed_writes, StableHlo.nullary_writes, StableHlo.ternary_writes, StableHlo.quaternary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.Forall, StableHlo.unary_writes, StableHlo.binary_writes, StableHlo.reshape_writes, StableHlo.binaryIndexed_writes, StableHlo.nullary_writes, StableHlo.ternary_writes, StableHlo.quaternary_writes, Finset.mem_singleton]
    repeat' apply And.intro
    all_goals exact StableHlo.devRef_ne_of_ne (by decide)))

/-- The tables' contents; there is one device. -/
def tbl : pre0.Contents (Elt F) := fun j => m (((0 : Dev nD) : Thread nD τ).loc (pre0.ref j))
theorem V_pre (c : Dev nD) (j : Fin 2) : V m c (pre0.ref j) = tbl m j := by
  obtain rfl : c = 0 := Subsingleton.elim _ _
  fin_cases j
  · exact V_main_arg1 m 0
  · exact V_main_arg2 m 0

/-- Every block the tables name is inside its array. -/
abbrev Inside : Prop := ok0 (F := F) (tbl m)
abbrev adm (hO : Inside m) : (pcfg0 (F := F)).Adm := ⟨tbl m, hO⟩
abbrev cfgM (hO : Inside m) : Pipeline.Cfg sig Λ₀ := cfg0 (adm m hO)

/-- The halves of the tables the region hands the body, table by table. -/
theorem halves_eq (c : Dev nD) : (Pipeline.ΦT pre0 (tbl m) c : sProp (HeapT F)) = iprop(tabAt c tgM (tbl m 0) ∗ tabAt c tvM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- The block of window `w` at point `t`, of its array as launched. -/
def iblk (hO : Inside m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem held0 (hO : Inside m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem held1 (hO : Inside m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem held2 (hO : Inside m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

abbrev st0 (hO : Inside m) (t : Fin (cfgM m hO).N) : Memref sig .tc .vmem S512x1152 .bf16 := spec0_0.stage ((cfgM m hO).slots t 0)
abbrev wh0 (hO : Inside m) (t : Fin (cfgM m hO).N) : (st0 m hO t).IsWhole := hstage0_0 (((cfgM m hO).slots t 0).cast nbuf0_0)
abbrev st1 (hO : Inside m) (t : Fin (cfgM m hO).N) : Memref sig .tc .vmem S1x4x1024x512 .bf16 := spec0_1.stage ((cfgM m hO).slots t 1)
abbrev wh1 (hO : Inside m) (t : Fin (cfgM m hO).N) : (st1 m hO t).IsWhole := hstage0_1 (((cfgM m hO).slots t 1).cast nbuf0_1)
abbrev st2 (hO : Inside m) (t : Fin (cfgM m hO).N) : Memref sig .tc .vmem S1x1024x1024 .bf16 := spec0_2.stage ((cfgM m hO).slots t 2)
abbrev wh2 (hO : Inside m) (t : Fin (cfgM m hO).N) : (st2 m hO t).IsWhole := hstage0_2 (((cfgM m hO).slots t 2).cast nbuf0_2)
abbrev st3 (hO : Inside m) (t : Fin (cfgM m hO).N) : Memref sig .tc .vmem S512x1024 .bf16 := spec0_3.stage ((cfgM m hO).slots t 3)
abbrev wh3 (hO : Inside m) (t : Fin (cfgM m hO).N) : (st3 m hO t).IsWhole := hstage0_3 (((cfgM m hO).slots t 3).cast nbuf0_3)

/-- The body as the pipeline calls it at point `t`. -/
abbrev bodyAt (hO : Inside m) (t : Fin (cfgM m hO).N) : Prog (TpuEff nD τ sig (Elt F) Λ₀ .tc) PUnit :=
  cc0_moe_experts (grid0.coords t) tgM tgW tvM tvW (st0 m hO t) (wh0 m hO t) (st1 m hO t) (wh1 m hO t) (st2 m hO t) (wh2 m hO t) (st3 m hO t) (wh3 m hO t)

theorem idle_out (hO : Inside m) (t : Fin (cfgM m hO).N) : (cfgM m hO).idle (3 : Fin 4) ((cfgM m hO).grid.coords t) = false := by
  have key : ∀ w : BitVec 32, (!(k0_cond1 w == 1#1) && !(k0_cond2 w == 1#1)) = false := fun w => by
    by_cases h : k0_cond1 w = 1#1
    · simp [h]
    · simp [zero_of_not_live w h]
  exact key ((tbl m).atD 1 (k0_off1 (grid0.coords t)))

theorem flush_out (hO : Inside m) : ∀ t : Fin (cfgM m hO).N, ((cfgM m hO).win 3).flush t = true :=
  (fun t => (Pipeline.Window.flushOf_reads cc0_transform_3 reads0_3 hreads0_3 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

end Cert.Kernel3Ideal.Exp
-- ==== Proof.ExpIdealFrame.lean ====
/-
  The run of the expert call, for all contents of the tables that name blocks inside the weights.
-/
module

public import proofs.«01_k».proof.Proof.ExpIdealTable
public import Idealize.ShloMosaic.Lib.Claim

@[expose] public section

set_option maxRecDepth 16384

noncomputable section

namespace Cert.Kernel3Ideal.Exp

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- What the pipeline holds after each point: the inputs their blocks, the output what the body left. -/
def dats (hO : Inside m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => bodyOut c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1)
  Φ _ := iprop(Pipeline.ΦA spec0 c ∗ Pipeline.ΦT pre0 (tbl m) c)
  q _ := fullShare
  owed _ := 0

theorem A_eq (hO : Inside m) (c : Dev nD) (w : Fin (cfgM m hO).W) : (dats m hO 0 c).A w = V m c (Pipeline.arrRef spec0 w) := by
  dsimp only [dats]
theorem after0 (hO : Inside m) (c : Dev nD) (t : Fin (cfgM m hO).N) : (dats m hO 0 c).after 0 t = iblk m hO c 0 t := by dsimp only [dats]; try rfl
theorem after1 (hO : Inside m) (c : Dev nD) (t : Fin (cfgM m hO).N) : (dats m hO 0 c).after 1 t = iblk m hO c 1 t := by dsimp only [dats]; try rfl
theorem after2 (hO : Inside m) (c : Dev nD) (t : Fin (cfgM m hO).N) : (dats m hO 0 c).after 2 t = iblk m hO c 2 t := by dsimp only [dats]; try rfl
theorem after3 (hO : Inside m) (c : Dev nD) (t : Fin (cfgM m hO).N) : (dats m hO 0 c).after 3 t
    = bodyOut c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1) := by dsimp only [dats]; try rfl
theorem before0 (hO : Inside m) (c : Dev nD) (t : Fin (cfgM m hO).N) (d) : (dats m hO 0 c).before 0 t d = iblk m hO c 0 t :=
  held0 m hO (dats m hO 0 c) (A_eq m hO c 0) (after0 m hO c) t d
theorem before1 (hO : Inside m) (c : Dev nD) (t : Fin (cfgM m hO).N) (d) : (dats m hO 0 c).before 1 t d = iblk m hO c 1 t :=
  held1 m hO (dats m hO 0 c) (A_eq m hO c 1) (after1 m hO c) t d
theorem before2 (hO : Inside m) (c : Dev nD) (t : Fin (cfgM m hO).N) (d) : (dats m hO 0 c).before 2 t d = iblk m hO c 2 t :=
  held2 m hO (dats m hO 0 c) (A_eq m hO c 2) (after2 m hO c) t d

/-- What the body is called with, and what it returns. -/
def bodyPre (hO : Inside m) (c : Dev nD) (t : Fin (cfgM m hO).N) : sProp (HeapT F) :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))
def bodyPost (hO : Inside m) (c : Dev nD) (t : Fin (cfgM m hO).N) : sProp (HeapT F) :=
  iprop((dats m hO 0 c).Φ t.succ ∗ (dats m hO 0 c).owesAt () t.succ
    ∗ owns (c : Thread nD τ) (st0 m hO t) fullShare ((dats m hO 0 c).after 0 t)
    ∗ owns (c : Thread nD τ) (st1 m hO t) fullShare ((dats m hO 0 c).after 1 t)
    ∗ owns (c : Thread nD τ) (st2 m hO t) fullShare ((dats m hO 0 c).after 2 t)
    ∗ owns (c : Thread nD τ) (st3 m hO t) fullShare ((dats m hO 0 c).after 3 t))

set_option maxHeartbeats 4000000 in
theorem sound (hO : Inside m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2]
  rw [show (dats m hO 0 c).Φ t.succ = (dats m hO 0 c).Φ t.castSucc from rfl,
    show (dats m hO 0 c).owesAt () t.succ = (dats m hO 0 c).owesAt () t.castSucc from rfl,
    after0, after1, after2, after3]
  rw [show (dats m hO 0 c).Φ t.castSucc = iprop(Pipeline.ΦA spec0 c ∗ Pipeline.ΦT pre0 (tbl m) c) from rfl, halves_eq]
  by_cases h : k0_cond1 (flag c (grid0.coords t) (tbl m 1)) = 1#1
  · rw [show bodyOut c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1) = liveOut c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1) h (not_zero_of_live _ h) from dif_pos h]
    unfold liveOut
    iintro ⟨⟨HΦ, ⟨HT0, HT1⟩⟩, Ho, ⟨%d0, H0⟩, ⟨%d1, H1⟩, ⟨%d2, H2⟩, ⟨%d3, H3⟩⟩
    iapply ((liveRun c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1) h (not_zero_of_live _ h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (liveCover c _ _ _ _ _ _ _ _ _ _ _ _ _ _ _ _)
  · rw [show bodyOut c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1) = idleOut c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1) h (zero_of_not_live _ h) from dif_neg h]
    unfold idleOut
    iintro ⟨⟨HΦ, ⟨HT0, HT1⟩⟩, Ho, ⟨%d0, H0⟩, ⟨%d1, H1⟩, ⟨%d2, H2⟩, ⟨%d3, H3⟩⟩
    iapply ((idleRun c (grid0.coords t) (st0 m hO t) (wh0 m hO t) (st1 m hO t) (wh1 m hO t) (st2 m hO t) (wh2 m hO t) (st3 m hO t) (wh3 m hO t) (iblk m hO c 0 t) (iblk m hO c 1 t) (iblk m hO c 2 t) (tbl m 0) (tbl m 1) h (zero_of_not_live _ h)).2 Set.univ _)
    isplitl [H0]; · iexact H0
    isplitl [H1]; · iexact H1
    isplitl [H2]; · iexact H2
    isplitl [H3]; · iexists _; iexact H3
    isplitl [HT0]; · iexact HT0
    isplitl [HT1]; · iexact HT1
    iintro ⟨H0, H1, H2, ⟨%e3, H3⟩, HT0, HT1⟩
    isplitl [HΦ HT0 HT1]
    · isplitl [HΦ]
      · iexact HΦ
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (idleCover c _ _ _ _ _ _ _ _ _ _ _ _ _ _ _ _)

theorem row (hO : Inside m) (t : Fin (cfgM m hO).N) :
    defs₀ (F := F) .tc (cfgM m hO).body ((cfgM m hO).bodyArgs t ((cfgM m hO).slots t)) = bodyAt m hO t := by
  unfold defs₀; rw [Defs.onTc_tc]

theorem obligation (hO : Inside m) (c : Dev nD) : BodyObligation (dats (F := F) m hO 0 c) (defs₀ (F := F)) Variants.none () Set.univ := fun t => by
  rw [bigSep_W0, bigSep_W0, row m hO]
  have hi := idle_out m hO t
  rewrite [hi]
  exact triple_restated (sound m hO c t) rfl .rfl fun _ => .rfl

set_option backward.isDefEq.respectTransparency.types false in
/-- Every run ends, with each array at what the pipeline computes and no semaphore raised. -/
theorem run_quiet (hO : Inside m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- The frame together with the result: the arguments end unchanged, the output is the pipeline's, the counters read zero. -/
theorem run_full (hO : Inside m) : θ_run defs (onTc (τ := τ) (main (F := F))) ⟨m, fun _ => 0, ρ⟩ (fun r => (∀ c : Dev nD,
      r.2.mem ((c.tc : Thread nD τ).loc main_v5) = (dats m hO 0 c).arrAt 3 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r ⟨h, hz⟩ => ⟨fun c => ⟨(h c).1 3, ((h c).1 0).trans ((((dats m hO 0 c).arrAt_in 0 rfl _).trans (A_eq m hO c 0)).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩, hz⟩) (run_quiet m ρ hO)

end Cert.Kernel3Ideal.Exp
-- ==== Proof.ExpIdealInside.lean ====
/-
  The tables of the expert call read at a tile, and the precondition's consequence: every block they name is inside its array.
-/
module

public import proofs.«01_k».proof.Proof.ExpIdealTable
public import proofs.«01_k».proof.Proof.ExpRouted

@[expose] public section

set_option maxRecDepth 16384

noncomputable section

namespace Cert.Kernel3Ideal.Exp

open Cert.Kernel3Ideal Cert.Kernel3Ideal.Gen
open Idealize.ShloMosaic Idealize.ShloMosaic.TcCoe Idealize.SL.Sem

variable {F : FTy → Type} [FloatOps F]
variable (m : (ℓ : Loc nD τ sig) → Buf (Elt F) ℓ)

/-- A tile's group and its flag. -/
def grp (i : grid0.Coords) : BitVec 32 := (m (((0 : Dev nD) : Thread nD τ).loc main_arg1) : IVec S163 32) (ix1 (i 0))
def val (i : grid0.Coords) : BitVec 32 := (m (((0 : Dev nD) : Thread nD τ).loc main_arg2) : IVec S163 32) (ix1 (i 0))

theorem place (i : grid0.Coords) (y : S1.Idx) : ((Rect.unit (s := S163) (k0_off1 i) S1.size (k0_off1_inb i)).emb y : S163.Idx) = ix1 (i 0) := by
  funext a
  obtain rfl : a = 0 := Subsingleton.elim _ _
  refine Fin.ext ?_
  have hy : (y 0).val = 0 := by have h : (y 0).val < 1 := (y 0).isLt; omega
  have hi : (i 0).val < 163 := (i 0).isLt
  show (BitVec.ofNat 32 (i 0).val).toNat + 1 * (y 0).val = (i 0).val
  rw [hy, BitVec.toNat_ofNat]
  omega

theorem tg_at (i : grid0.Coords) : (tbl m).at 0 (Rect.unit (s := S163) (k0_off1 i) S1.size (k0_off1_inb i)) numel1_S1 = grp m i :=
  congrArg (m (((0 : Dev nD) : Thread nD τ).loc main_arg1) : IVec S163 32) (place i _)

theorem flag_eq (c : Dev nD) (i : grid0.Coords) : flag c i (tbl m 1) = val m i := by
  obtain rfl : c = 0 := Subsingleton.elim _ _
  exact congrArg (m (((0 : Dev nD) : Thread nD τ).loc main_arg2) : IVec S163 32) (place i _)

theorem idx1 (i : grid0.Coords) : cc0_transform_1 k0_off1_inb numel1_S1 (tbl m) i = ![(grp m i).toNat, 0, 0, 0] := by
  rw [← tg_at]; rfl
theorem idx2 (i : grid0.Coords) : cc0_transform_2 k0_off1_inb numel1_S1 (tbl m) i = ![(grp m i).toNat, 0, 0] := by
  rw [← tg_at]; rfl

theorem inside (h : ∀ i, (grp m i).toNat < 4) : Inside m := by
  refine ⟨fun i => ⟨fun a => ?_, .inr (.inr ⟨by decide, rfl, ?_, rfl⟩)⟩, fun i => ⟨fun a => ?_, .inr (.inr ⟨by decide, rfl, ?_, rfl⟩)⟩⟩
  · rw [idx1]
    have := h i
    fin_cases a <;> simp <;> omega
  · show cc0_transform_1 k0_off1_inb numel1_S1 (tbl m) i 2 * 1024 = 0
    rw [idx1]; rfl
  · rw [idx2]
    have := h i
    fin_cases a <;> simp <;> omega
  · show cc0_transform_2 k0_off1_inb numel1_S1 (tbl m) i 1 * 1024 = 0
    rw [idx2]; rfl

end Cert.Kernel3Ideal.Exp
-- ==== Proof.ExpTile.lean ====
/-
  The experts' body on 256 rows at the ideal reading: its payloads at an index. An activation is the gated unit of a row
  times the row's weight for the expert, which is the sum of three lanes of the row's record.
-/
module

public import proofs.«01_k».proof.Proof.ExpMath
public import proofs.«01_k».proof.Proof.Gen.Kernel3Ideal.Skeleton
public import Idealize.ShloMosaic.Lib.Pointwise

@[expose] public section

set_option maxRecDepth 16384

noncomputable section

namespace Cert.Kernel3Ideal.Exp

open Cert.Kernel3Ideal Cert.Kernel3Ideal.Gen Idealize.ShloMosaic Idealize.ShloMosaic.TcCoe Idealize.SL.Sem
open Cert.Exp

/-- The lanes of a tile. -/
abbrev lanes : IVec S256x128 32 := iota .tc S256x128 32 [1] iota_S256x128_d1_w32

/-- The activation of row `r` and feature `f` from the blocks the body loads: its rows, one expert's weights, the records. -/
def actAt (w : Vec Ideal S1x1x1024x512 .bf16) (x : Vec Ideal S256x1024 .bf16) (q : Vec Ideal S256x128 .bf16) (j : ℕ) (hj : j < 4) (r f : Fin 256) : EReal :=
  act (fun e => x (ix2 r e)) (fun e => w (ix4 0 0 e ⟨f.val, by omega⟩)) (fun e => w (ix4 0 0 e ⟨256 + f.val, by omega⟩))
    (q (ix2 r ⟨j, by omega⟩) + q (ix2 r ⟨4 + j, by omega⟩) + q (ix2 r ⟨8 + j, by omega⟩))

section At
variable (w : Vec Ideal S1x1x1024x512 .bf16) (x : Vec Ideal S256x1024 .bf16) (q : Vec Ideal S256x128 .bf16) (r f : Fin 256)

theorem lo0 : (k0_pay18 lanes (k0_pay8 w x) (k0_pay16 w x) (k0_pay17 w x) (Scalar.ofBits .f32 0x3F800000#32) q (ix2 r f) : EReal) = actAt w x q 0 (by omega) r f := by
  pointwise [k0_pay18, k0_pay8, k0_pay16, k0_pay17, k0_pay3]
  rw [pick 0 (by omega) _ _ (by decide +kernel)]
  rfl

theorem lo1 : (k0_pay21 lanes (k0_pay19 (k0_pay9 w x)) (k0_pay20 (k0_pay9 w x)) q (ix2 r f) : EReal) = actAt w x q 1 (by omega) r f := by
  pointwise [k0_pay21, k0_pay19, k0_pay20, k0_pay9, k0_pay4]
  rw [pick 1 (by omega) _ _ (by decide +kernel)]
  rfl

theorem lo2 : (k0_pay23 lanes (k0_pay22 (k0_pay10 w x)) q (ix2 r f) : EReal) = actAt w x q 2 (by omega) r f := by
  pointwise [k0_pay23, k0_pay22, k0_pay10, k0_pay5]
  rw [pick 2 (by omega) _ _ (by decide +kernel)]
  rfl

theorem hi0 : (k0_pay28 lanes (k0_pay27 (k0_pay12 w x)) q (ix2 r f) : EReal) = actAt w x q 0 (by omega) r f := by
  pointwise [k0_pay28, k0_pay27, k0_pay12, k0_pay3]
  rw [pick 0 (by omega) _ _ (by decide +kernel)]
  rfl

theorem hi1 : (k0_pay31 lanes (k0_pay29 (k0_pay13 w x)) (k0_pay30 q) 4#32 0#1 (ix2 r f) : EReal) = actAt w x q 1 (by omega) r f := by
  pointwise [k0_pay31, k0_pay29, k0_pay30, k0_pay13, k0_pay4]
  rw [pick 1 (by omega) _ _ (by decide +kernel)]
  rfl

theorem hi2 : (k0_pay35 lanes (k0_pay32 (k0_pay14 w x)) (k0_pay33 q) 4#32 (k0_pay34 lanes) (ix2 r f) : EReal) = actAt w x q 2 (by omega) r f := by
  pointwise [k0_pay35, k0_pay32, k0_pay33, k0_pay34, k0_pay14, k0_pay5]
  rw [pick 2 (by omega) _ _ (by decide +kernel)]
  rfl

end At

/-- Row `r` of a stored tile at feature `d`: its four experts' activations, each times its rows of the output weights. -/
def tileAt (g : Fin 4 → Fin 256 → EReal) (v : Vec Ideal S1x1024x1024 .bf16) (d : Fin 1024) : EReal :=
  down g (fun k => v (ix3 0 k d))

theorem lo_at (w : Vec Ideal S1x1x1024x512 .bf16) (x : Vec Ideal S256x1024 .bf16) (q : Vec Ideal S256x128 .bf16) (v : Vec Ideal S1x1024x1024 .bf16)
    (a₀ a₁ a₂ : FVec Ideal S256x256 .bf16) (g : Fin 4 → Fin 256 → EReal) (r : Fin 256) (d : Fin 1024)
    (h₀ : ∀ f, (a₀ (ix2 r f) : EReal) = g 0 f) (h₁ : ∀ f, (a₁ (ix2 r f) : EReal) = g 1 f) (h₂ : ∀ f, (a₂ (ix2 r f) : EReal) = g 2 f)
    (h₃ : ∀ f, actAt w x q 3 (by omega) r f = g 3 f) :
    (k0_pay26 lanes (k0_pay7 v) a₀ a₁ a₂ (k0_pay24 (k0_pay11 w x)) (k0_pay25 q) 4#32 0#1 (ix2 r d) : EReal) = tileAt g v d := by
  pointwise [k0_pay26, k0_pay25, k0_pay24, k0_pay11, k0_pay7, k0_pay6]
  refine four _ _ g (fun f => ?_) (fun f => ?_) (fun f => ?_) (fun f => ?_)
  · refine Eq.trans (dif_pos f.isLt) (h₀ f)
  · refine Eq.trans (dif_neg (by show ¬ (256 + f.val < 256); omega)) ?_
    refine Eq.trans (dif_pos (by show 256 + f.val - 256 < 256; omega)) ?_
    refine Eq.trans (congrArg (fun k => a₁ (ix2 r k)) (Fin.ext ?_)) (h₁ f)
    show 256 + f.val - 256 = f.val
    omega
  · refine Eq.trans (dif_neg (by show ¬ (256 + (256 + f.val) < 256); omega)) ?_
    refine Eq.trans (dif_neg (by show ¬ (256 + (256 + f.val) - 256 < 256); omega)) ?_
    refine Eq.trans (dif_pos (by show 256 + (256 + f.val) - 256 - 256 < 256; omega)) ?_
    refine Eq.trans (congrArg (fun k => a₂ (ix2 r k)) (Fin.ext ?_)) (h₂ f)
    show 256 + (256 + f.val) - 256 - 256 = f.val
    omega
  · refine Eq.trans (dif_neg (by show ¬ (256 + (256 + (256 + f.val)) < 256); omega)) ?_
    refine Eq.trans (dif_neg (by show ¬ (256 + (256 + (256 + f.val)) - 256 < 256); omega)) ?_
    refine Eq.trans (dif_neg (by show ¬ (256 + (256 + (256 + f.val)) - 256 - 256 < 256); omega)) ?_
    rw [pick 3 (by omega) _ _ (by decide +kernel)]
    simp only [show 256 + (256 + (256 + f.val)) - 256 - 256 - 256 = f.val by omega]
    exact h₃ f

theorem hi_at (w : Vec Ideal S1x1x1024x512 .bf16) (x : Vec Ideal S256x1024 .bf16) (q : Vec Ideal S256x128 .bf16) (v : Vec Ideal S1x1024x1024 .bf16)
    (a₀ a₁ a₂ : FVec Ideal S256x256 .bf16) (g : Fin 4 → Fin 256 → EReal) (r : Fin 256) (d : Fin 1024)
    (h₀ : ∀ f, (a₀ (ix2 r f) : EReal) = g 0 f) (h₁ : ∀ f, (a₁ (ix2 r f) : EReal) = g 1 f) (h₂ : ∀ f, (a₂ (ix2 r f) : EReal) = g 2 f)
    (h₃ : ∀ f, actAt w x q 3 (by omega) r f = g 3 f) :
    (k0_pay1 (k0_pay7 v) a₀ a₁ a₂ (k0_pay36 (k0_pay15 w x)) (k0_pay37 q) 4#32 (k0_pay38 lanes) (k0_pay39 lanes) 0#32 (ix2 r d) : EReal) = tileAt g v d := by
  pointwise [k0_pay1, k0_pay36, k0_pay37, k0_pay38, k0_pay39, k0_pay15, k0_pay7, k0_pay6]
  refine four _ _ g (fun f => ?_) (fun f => ?_) (fun f => ?_) (fun f => ?_)
  · refine Eq.trans (dif_pos f.isLt) (h₀ f)
  · refine Eq.trans (dif_neg (by show ¬ (256 + f.val < 256); omega)) ?_
    refine Eq.trans (dif_pos (by show 256 + f.val - 256 < 256; omega)) ?_
    refine Eq.trans (congrArg (fun k => a₁ (ix2 r k)) (Fin.ext ?_)) (h₁ f)
    show 256 + f.val - 256 = f.val
    omega
  · refine Eq.trans (dif_neg (by show ¬ (256 + (256 + f.val) < 256); omega)) ?_
    refine Eq.trans (dif_neg (by show ¬ (256 + (256 + f.val) - 256 < 256); omega)) ?_
    refine Eq.trans (dif_pos (by show 256 + (256 + f.val) - 256 - 256 < 256; omega)) ?_
    refine Eq.trans (congrArg (fun k => a₂ (ix2 r k)) (Fin.ext ?_)) (h₂ f)
    show 256 + (256 + f.val) - 256 - 256 = f.val
    omega
  · refine Eq.trans (dif_neg (by show ¬ (256 + (256 + (256 + f.val)) < 256); omega)) ?_
    refine Eq.trans (dif_neg (by show ¬ (256 + (256 + (256 + f.val)) - 256 < 256); omega)) ?_
    refine Eq.trans (dif_neg (by show ¬ (256 + (256 + (256 + f.val)) - 256 - 256 < 256); omega)) ?_
    rw [pick 3 (by omega) _ _ (by decide +kernel)]
    simp only [show 256 + (256 + (256 + f.val)) - 256 - 256 - 256 = f.val by omega]
    exact h₃ f

end Cert.Kernel3Ideal.Exp
-- ==== Proof.ExpBlock.lean ====
/-
  The experts' output block at the ideal reading: a row of a live tile is the row's activations against the output
  weights, a row of an idle tile is zero. The body stores rows 0 to 255 and 256 to 511 from one tile each.
-/
module

public import proofs.«01_k».proof.Proof.ExpTile
public import proofs.«01_k».proof.Proof.ExpIdealCover
public import Idealize.ShloMosaic.Lib.Pipeline.ValueKit

@[expose] public section

set_option maxRecDepth 16384

noncomputable section

namespace Cert.Kernel3Ideal.Exp

open Cert.Kernel3Ideal Cert.Kernel3Ideal.Gen Idealize.ShloMosaic Idealize.ShloMosaic.TcCoe Idealize.SL.Sem
open Cert.Exp

/-- What the body loads of expert 0's weights. -/
abbrev rW0 : Rect S1x4x1024x512 := Rect.unit ![0, 0, 0, 0] S1x1x1024x512.size inb_S1x4x1024x512_S1x1x1024x512_0_0_0_0
theorem ldw0 (X : Vec Ideal S1x4x1024x512 .bf16) (e : Fin 1024) (f : Fin 512) :
    View.ld X rW0 (ix4 0 0 e f : S1x1x1024x512.Idx) = X (ix4 0 0 e f : S1x4x1024x512.Idx) :=
  View.ld_unit_apply_of X _ _ _ _ _ fun a => match a with
    | ⟨0, _⟩ => rfl
    | ⟨1, _⟩ => rfl
    | ⟨2, _⟩ => (Nat.zero_add _).symm
    | ⟨3, _⟩ => (Nat.zero_add _).symm
/-- What the body loads of expert 1's weights. -/
abbrev rW1 : Rect S1x4x1024x512 := Rect.unit ![0, 1, 0, 0] S1x1x1024x512.size inb_S1x4x1024x512_S1x1x1024x512_0_1_0_0
theorem ldw1 (X : Vec Ideal S1x4x1024x512 .bf16) (e : Fin 1024) (f : Fin 512) :
    View.ld X rW1 (ix4 0 0 e f : S1x1x1024x512.Idx) = X (ix4 0 1 e f : S1x4x1024x512.Idx) :=
  View.ld_unit_apply_of X _ _ _ _ _ fun a => match a with
    | ⟨0, _⟩ => rfl
    | ⟨1, _⟩ => rfl
    | ⟨2, _⟩ => (Nat.zero_add _).symm
    | ⟨3, _⟩ => (Nat.zero_add _).symm
/-- What the body loads of expert 2's weights. -/
abbrev rW2 : Rect S1x4x1024x512 := Rect.unit ![0, 2, 0, 0] S1x1x1024x512.size inb_S1x4x1024x512_S1x1x1024x512_0_2_0_0
theorem ldw2 (X : Vec Ideal S1x4x1024x512 .bf16) (e : Fin 1024) (f : Fin 512) :
    View.ld X rW2 (ix4 0 0 e f : S1x1x1024x512.Idx) = X (ix4 0 2 e f : S1x4x1024x512.Idx) :=
  View.ld_unit_apply_of X _ _ _ _ _ fun a => match a with
    | ⟨0, _⟩ => rfl
    | ⟨1, _⟩ => rfl
    | ⟨2, _⟩ => (Nat.zero_add _).symm
    | ⟨3, _⟩ => (Nat.zero_add _).symm
/-- What the body loads of expert 3's weights. -/
abbrev rW3 : Rect S1x4x1024x512 := Rect.unit ![0, 3, 0, 0] S1x1x1024x512.size inb_S1x4x1024x512_S1x1x1024x512_0_3_0_0
theorem ldw3 (X : Vec Ideal S1x4x1024x512 .bf16) (e : Fin 1024) (f : Fin 512) :
    View.ld X rW3 (ix4 0 0 e f : S1x1x1024x512.Idx) = X (ix4 0 3 e f : S1x4x1024x512.Idx) :=
  View.ld_unit_apply_of X _ _ _ _ _ fun a => match a with
    | ⟨0, _⟩ => rfl
    | ⟨1, _⟩ => rfl
    | ⟨2, _⟩ => (Nat.zero_add _).symm
    | ⟨3, _⟩ => (Nat.zero_add _).symm

/-- What it loads of the output weights. -/
abbrev rV : Rect S1x1024x1024 := Rect.unit ![0, 0, 0] S1x1024x1024.size inb_S1x1024x1024_S1x1024x1024_0_0_0
theorem ldv (X : Vec Ideal S1x1024x1024 .bf16) (k e : Fin 1024) : View.ld X rV (ix3 0 k e : S1x1024x1024.Idx) = X (ix3 0 k e : S1x1024x1024.Idx) :=
  View.ld_unit_apply_of X _ _ _ _ _ fun a => match a with
    | ⟨0, _⟩ => rfl
    | ⟨1, _⟩ => (Nat.zero_add _).symm
    | ⟨2, _⟩ => (Nat.zero_add _).symm

/-! The rows and their records, of the upper and of the lower rows. -/
abbrev rXLo : Rect S512x1152 := Rect.unit ![0, 0] S256x1024.size inb_S512x1152_S256x1024_0_0
abbrev rQLo : Rect S512x1152 := Rect.unit ![0, 1024] S256x128.size inb_S512x1152_S256x128_0_1024
abbrev rOLo : Rect S512x1024 := Rect.unit ![0, 0] S256x1024.size inb_S512x1024_S256x1024_0_0
theorem ldxLo (X : Vec Ideal S512x1152 .bf16) {s : Fin 512} {r : Fin 256} (hs : s.val = 0 + r.val) (e : Fin 1024) :
    View.ld X rXLo (ix2 r e : S256x1024.Idx) = X (ix2 s ⟨e.val, by omega⟩ : S512x1152.Idx) :=
  View.ld_unit_apply_of X _ _ _ _ _ fun a => match a with
    | ⟨0, _⟩ => hs
    | ⟨1, _⟩ => (Nat.zero_add _).symm
theorem ldqLo (X : Vec Ideal S512x1152 .bf16) {s : Fin 512} {r : Fin 256} (hs : s.val = 0 + r.val) (l : Fin 128) :
    View.ld X rQLo (ix2 r l : S256x128.Idx) = X (ix2 s ⟨1024 + l.val, by omega⟩ : S512x1152.Idx) :=
  View.ld_unit_apply_of X _ _ _ _ _ fun a => match a with
    | ⟨0, _⟩ => hs
    | ⟨1, _⟩ => rfl
abbrev rXHi : Rect S512x1152 := Rect.unit ![256, 0] S256x1024.size inb_S512x1152_S256x1024_256_0
abbrev rQHi : Rect S512x1152 := Rect.unit ![256, 1024] S256x128.size inb_S512x1152_S256x128_256_1024
abbrev rOHi : Rect S512x1024 := Rect.unit ![256, 0] S256x1024.size inb_S512x1024_S256x1024_256_0
theorem ldxHi (X : Vec Ideal S512x1152 .bf16) {s : Fin 512} {r : Fin 256} (hs : s.val = 256 + r.val) (e : Fin 1024) :
    View.ld X rXHi (ix2 r e : S256x1024.Idx) = X (ix2 s ⟨e.val, by omega⟩ : S512x1152.Idx) :=
  View.ld_unit_apply_of X _ _ _ _ _ fun a => match a with
    | ⟨0, _⟩ => hs
    | ⟨1, _⟩ => (Nat.zero_add _).symm
theorem ldqHi (X : Vec Ideal S512x1152 .bf16) {s : Fin 512} {r : Fin 256} (hs : s.val = 256 + r.val) (l : Fin 128) :
    View.ld X rQHi (ix2 r l : S256x128.Idx) = X (ix2 s ⟨1024 + l.val, by omega⟩ : S512x1152.Idx) :=
  View.ld_unit_apply_of X _ _ _ _ _ fun a => match a with
    | ⟨0, _⟩ => hs
    | ⟨1, _⟩ => rfl

/-- A row's weight for expert `j` of its group: three lanes of its record. -/
def wgt (x0 : Vec Ideal S512x1152 .bf16) (s : Fin 512) (j : Fin 4) : EReal :=
  x0 (ix2 s ⟨1024 + j.val, by omega⟩) + x0 (ix2 s ⟨1024 + (4 + j.val), by omega⟩) + x0 (ix2 s ⟨1024 + (8 + j.val), by omega⟩)

/-- A row of a live tile's output. -/
def rowY (x0 : Vec Ideal S512x1152 .bf16) (x1 : Vec Ideal S1x4x1024x512 .bf16) (x2 : Vec Ideal S1x1024x1024 .bf16) (s : Fin 512) (d : Fin 1024) : EReal :=
  down (fun j f => act (fun e => x0 (ix2 s ⟨e.val, by omega⟩)) (fun e => x1 (ix4 0 j e ⟨f.val, by omega⟩)) (fun e => x1 (ix4 0 j e ⟨256 + f.val, by omega⟩)) (wgt x0 s j))
    (fun k => x2 (ix3 0 k d))

theorem act_congr {x x' g g' u u' : Fin 1024 → EReal} {c c' : EReal} (hx : ∀ e, x e = x' e) (hg : ∀ e, g e = g' e) (hu : ∀ e, u e = u' e) (hc : c = c') :
    act x g u c = act x' g' u' c' := by
  obtain rfl := funext hx; obtain rfl := funext hg; obtain rfl := funext hu; rw [hc]

/-- The upper rows' tile. -/
def tileLo (x0 : Vec Ideal S512x1152 .bf16) (x1 : Vec Ideal S1x4x1024x512 .bf16) (x2 : Vec Ideal S1x1024x1024 .bf16) : FVec Ideal S256x1024 .bf16 :=
  k0_pay26 lanes (k0_pay7 (View.ld x2 rV)) (k0_pay18 lanes (k0_pay8 (View.ld x1 rW0) (View.ld x0 rXLo)) (k0_pay16 (View.ld x1 rW0) (View.ld x0 rXLo)) (k0_pay17 (View.ld x1 rW0) (View.ld x0 rXLo)) (Scalar.ofBits .f32 0x3F800000#32) (View.ld x0 rQLo))
    (k0_pay21 lanes (k0_pay19 (k0_pay9 (View.ld x1 rW1) (View.ld x0 rXLo))) (k0_pay20 (k0_pay9 (View.ld x1 rW1) (View.ld x0 rXLo))) (View.ld x0 rQLo))
    (k0_pay23 lanes (k0_pay22 (k0_pay10 (View.ld x1 rW2) (View.ld x0 rXLo))) (View.ld x0 rQLo))
    (k0_pay24 (k0_pay11 (View.ld x1 rW3) (View.ld x0 rXLo))) (k0_pay25 (View.ld x0 rQLo)) 4#32 0#1

/-- The lower rows' tile. -/
def tileHi (x0 : Vec Ideal S512x1152 .bf16) (x1 : Vec Ideal S1x4x1024x512 .bf16) (x2 : Vec Ideal S1x1024x1024 .bf16) : FVec Ideal S256x1024 .bf16 :=
  k0_pay1 (k0_pay7 (View.ld x2 rV)) (k0_pay28 lanes (k0_pay27 (k0_pay12 (View.ld x1 rW0) (View.ld x0 rXHi))) (View.ld x0 rQHi))
    (k0_pay31 lanes (k0_pay29 (k0_pay13 (View.ld x1 rW1) (View.ld x0 rXHi))) (k0_pay30 (View.ld x0 rQHi)) 4#32 0#1)
    (k0_pay35 lanes (k0_pay32 (k0_pay14 (View.ld x1 rW2) (View.ld x0 rXHi))) (k0_pay33 (View.ld x0 rQHi)) 4#32 (k0_pay34 lanes))
    (k0_pay36 (k0_pay15 (View.ld x1 rW3) (View.ld x0 rXHi))) (k0_pay37 (View.ld x0 rQHi)) 4#32 (k0_pay38 lanes) (k0_pay39 lanes) 0#32

theorem tileLo_at (x0 : Vec Ideal S512x1152 .bf16) (x1 : Vec Ideal S1x4x1024x512 .bf16) (x2 : Vec Ideal S1x1024x1024 .bf16) {s : Fin 512} {r : Fin 256}
    (hs : s.val = 0 + r.val) (d : Fin 1024) : (tileLo x0 x1 x2 (ix2 r d) : EReal) = rowY x0 x1 x2 s d := by
  unfold tileLo
  refine (lo_at (View.ld x1 rW3) (View.ld x0 rXLo) (View.ld x0 rQLo) (View.ld x2 rV) _ _ _
    (fun j f => act (fun e => x0 (ix2 s ⟨e.val, by omega⟩)) (fun e => x1 (ix4 0 j e ⟨f.val, by omega⟩)) (fun e => x1 (ix4 0 j e ⟨256 + f.val, by omega⟩)) (wgt x0 s j)) r d
    (fun f => ?_) (fun f => ?_) (fun f => ?_) (fun f => ?_)).trans ?_
  · refine (lo0 (View.ld x1 rW0) (View.ld x0 rXLo) (View.ld x0 rQLo) r f).trans ?_
    exact act_congr (ldxLo x0 hs) (fun e => ldw0 x1 e _) (fun e => ldw0 x1 e _)
      (congrArg₂ (· + ·) (congrArg₂ (· + ·) (ldqLo x0 hs _) (ldqLo x0 hs _)) (ldqLo x0 hs _))
  · refine (lo1 (View.ld x1 rW1) (View.ld x0 rXLo) (View.ld x0 rQLo) r f).trans ?_
    exact act_congr (ldxLo x0 hs) (fun e => ldw1 x1 e _) (fun e => ldw1 x1 e _)
      (congrArg₂ (· + ·) (congrArg₂ (· + ·) (ldqLo x0 hs _) (ldqLo x0 hs _)) (ldqLo x0 hs _))
  · refine (lo2 (View.ld x1 rW2) (View.ld x0 rXLo) (View.ld x0 rQLo) r f).trans ?_
    exact act_congr (ldxLo x0 hs) (fun e => ldw2 x1 e _) (fun e => ldw2 x1 e _)
      (congrArg₂ (· + ·) (congrArg₂ (· + ·) (ldqLo x0 hs _) (ldqLo x0 hs _)) (ldqLo x0 hs _))
  · exact act_congr (ldxLo x0 hs) (fun e => ldw3 x1 e _) (fun e => ldw3 x1 e _)
      (congrArg₂ (· + ·) (congrArg₂ (· + ·) (ldqLo x0 hs _) (ldqLo x0 hs _)) (ldqLo x0 hs _))
  · unfold tileAt rowY
    exact congrArg _ (funext fun k => ldv x2 k d)

theorem tileHi_at (x0 : Vec Ideal S512x1152 .bf16) (x1 : Vec Ideal S1x4x1024x512 .bf16) (x2 : Vec Ideal S1x1024x1024 .bf16) {s : Fin 512} {r : Fin 256}
    (hs : s.val = 256 + r.val) (d : Fin 1024) : (tileHi x0 x1 x2 (ix2 r d) : EReal) = rowY x0 x1 x2 s d := by
  unfold tileHi
  refine (hi_at (View.ld x1 rW3) (View.ld x0 rXHi) (View.ld x0 rQHi) (View.ld x2 rV) _ _ _
    (fun j f => act (fun e => x0 (ix2 s ⟨e.val, by omega⟩)) (fun e => x1 (ix4 0 j e ⟨f.val, by omega⟩)) (fun e => x1 (ix4 0 j e ⟨256 + f.val, by omega⟩)) (wgt x0 s j)) r d
    (fun f => ?_) (fun f => ?_) (fun f => ?_) (fun f => ?_)).trans ?_
  · refine (hi0 (View.ld x1 rW0) (View.ld x0 rXHi) (View.ld x0 rQHi) r f).trans ?_
    exact act_congr (ldxHi x0 hs) (fun e => ldw0 x1 e _) (fun e => ldw0 x1 e _)
      (congrArg₂ (· + ·) (congrArg₂ (· + ·) (ldqHi x0 hs _) (ldqHi x0 hs _)) (ldqHi x0 hs _))
  · refine (hi1 (View.ld x1 rW1) (View.ld x0 rXHi) (View.ld x0 rQHi) r f).trans ?_
    exact act_congr (ldxHi x0 hs) (fun e => ldw1 x1 e _) (fun e => ldw1 x1 e _)
      (congrArg₂ (· + ·) (congrArg₂ (· + ·) (ldqHi x0 hs _) (ldqHi x0 hs _)) (ldqHi x0 hs _))
  · refine (hi2 (View.ld x1 rW2) (View.ld x0 rXHi) (View.ld x0 rQHi) r f).trans ?_
    exact act_congr (ldxHi x0 hs) (fun e => ldw2 x1 e _) (fun e => ldw2 x1 e _)
      (congrArg₂ (· + ·) (congrArg₂ (· + ·) (ldqHi x0 hs _) (ldqHi x0 hs _)) (ldqHi x0 hs _))
  · exact act_congr (ldxHi x0 hs) (fun e => ldw3 x1 e _) (fun e => ldw3 x1 e _)
      (congrArg₂ (· + ·) (congrArg₂ (· + ·) (ldqHi x0 hs _) (ldqHi x0 hs _)) (ldqHi x0 hs _))
  · unfold tileAt rowY
    exact congrArg _ (funext fun k => ldv x2 k d)

/-- What the body stores on a live tile, last first, and on an idle one. -/
def livePieces (x0 : Vec Ideal S512x1152 .bf16) (x1 : Vec Ideal S1x4x1024x512 .bf16) (x2 : Vec Ideal S1x1024x1024 .bf16) : List (View.Piece (Elt Ideal) S512x1024 .bf16) :=
  [⟨rOHi, tileHi x0 x1 x2⟩, ⟨rOLo, tileLo x0 x1 x2⟩]
def idlePieces : List (View.Piece (Elt Ideal) S512x1024 .bf16) :=
  [⟨Rect.unit ![0, 0] S512x1024.size inb_S512x1024_S512x1024_0_0, k0_pay2 (F := Ideal)⟩]

section Out
variable (c : Dev nD) (i : grid0.Coords) (arg3 : Memref sig .tc .vmem S512x1152 .bf16) (harg3 : arg3.IsWhole)
    (arg4 : Memref sig .tc .vmem S1x4x1024x512 .bf16) (harg4 : arg4.IsWhole) (arg5 : Memref sig .tc .vmem S1x1024x1024 .bf16) (harg5 : arg5.IsWhole)
    (arg6 : Memref sig .tc .vmem S512x1024 .bf16) (harg6 : arg6.IsWhole) (x0 : Vec Ideal S512x1152 .bf16) (x1 : Vec Ideal S1x4x1024x512 .bf16)
    (x2 : Vec Ideal S1x1024x1024 .bf16) (xt0 : Tab (F := Ideal) c tgM) (xt1 : Tab (F := Ideal) c tvM)

set_option maxHeartbeats 1000000 in
theorem liveOut_eq (h1 : k0_cond1 (flag c i xt1) = 1#1) (h2 : ¬ k0_cond2 (flag c i xt1) = 1#1) :
    liveOut c i arg3 harg3 arg4 harg4 arg5 harg5 arg6 harg6 x0 x1 x2 xt0 xt1 h1 h2 = View.canon (Val := Elt Ideal) (livePieces x0 x1 x2) := by
  unfold liveOut
  refine (View.read_writes_eq_canon _ _ _ (liveCover c i arg3 harg3 arg4 harg4 arg5 harg5 arg6 harg6 x0 x1 x2 xt0 xt1 h1 h2)).trans ?_
  unfold liveRun
  sl_unfold_run_names
  simp only [View.readAt_eq_ld, Memref.IsWhole.read_unread]
  rfl

theorem live_cover (y : S512x1024.Idx) : ∃ pc ∈ livePieces x0 x1 x2, y ∈ pc.1.set := by
  refine View.cover_of_tiledL (livePieces x0 x1 x2) S256x1024.size ?_ y
  sl_kernel_rfl

theorem liveOut_at (h1 : k0_cond1 (flag c i xt1) = 1#1) (h2 : ¬ k0_cond2 (flag c i xt1) = 1#1) (y : S512x1024.Idx) :
    (liveOut c i arg3 harg3 arg4 harg4 arg5 harg5 arg6 harg6 x0 x1 x2 xt0 xt1 h1 h2 y : EReal) = rowY x0 x1 x2 (y 0) (y 1) := by
  rw [liveOut_eq]
  have hc := live_cover x0 x1 x2 y
  refine View.canon_apply_of_pieces (Val := Elt Ideal) (fun y => rowY x0 x1 x2 (y 0) (y 1)) _ ?_ y hc
  intro p hp
  simp only [livePieces, idlePieces, List.mem_cons, List.not_mem_nil, or_false] at hp
  rcases hp with rfl | rfl
  · intro (y : S256x1024.Idx)
    obtain ⟨r, d, rfl⟩ : ∃ (r : Fin 256) (d : Fin 1024), y = ix2 r d := ⟨y 0, y 1, eq_ix2 y⟩
    have hs : (rOHi.emb (ix2 r d) 0).val = 256 + r.val := by show 256 + 1 * r.val = _; omega
    have hd : rOHi.emb (ix2 r d) 1 = d := Fin.ext (by show 0 + 1 * d.val = _; omega)
    exact (tileHi_at x0 x1 x2 hs d).trans (congrArg (rowY x0 x1 x2 _) hd.symm)
  · intro (y : S256x1024.Idx)
    obtain ⟨r, d, rfl⟩ : ∃ (r : Fin 256) (d : Fin 1024), y = ix2 r d := ⟨y 0, y 1, eq_ix2 y⟩
    have hs : (rOLo.emb (ix2 r d) 0).val = 0 + r.val := by show 0 + 1 * r.val = _; omega
    have hd : rOLo.emb (ix2 r d) 1 = d := Fin.ext (by show 0 + 1 * d.val = _; omega)
    exact (tileLo_at x0 x1 x2 hs d).trans (congrArg (rowY x0 x1 x2 _) hd.symm)

theorem zero_at (y : S512x1024.Idx) : (k0_pay2 (F := Ideal) y : EReal) = 0 := by
  obtain ⟨r, d, rfl⟩ : ∃ (r : Fin 512) (d : Fin 1024), y = ix2 r d := ⟨y 0, y 1, eq_ix2 y⟩
  pointwise [k0_pay2]

theorem idleOut_eq (h1 : ¬ k0_cond1 (flag c i xt1) = 1#1) (h2 : k0_cond2 (flag c i xt1) = 1#1) :
    idleOut c i arg3 harg3 arg4 harg4 arg5 harg5 arg6 harg6 x0 x1 x2 xt0 xt1 h1 h2 = View.canon (Val := Elt Ideal) idlePieces := by
  unfold idleOut
  refine (View.read_writes_eq_canon _ _ _ (idleCover c i arg3 harg3 arg4 harg4 arg5 harg5 arg6 harg6 x0 x1 x2 xt0 xt1 h1 h2)).trans ?_
  unfold idleRun
  sl_unfold_run_names
  rfl

theorem idle_cover (y : S512x1024.Idx) : ∃ pc ∈ idlePieces, y ∈ pc.1.set := by
  refine View.cover_of_tiledL idlePieces S512x1024.size ?_ y
  sl_kernel_rfl

theorem idleOut_at (h1 : ¬ k0_cond1 (flag c i xt1) = 1#1) (h2 : k0_cond2 (flag c i xt1) = 1#1) (y : S512x1024.Idx) :
    (idleOut c i arg3 harg3 arg4 harg4 arg5 harg5 arg6 harg6 x0 x1 x2 xt0 xt1 h1 h2 y : EReal) = 0 := by
  rw [idleOut_eq]
  have hc := idle_cover y
  refine View.canon_apply_of_pieces (Val := Elt Ideal) (fun y => (0 : EReal)) _ ?_ y hc
  intro p hp
  simp only [livePieces, idlePieces, List.mem_cons, List.not_mem_nil, or_false] at hp
  subst hp
  intro y
  exact zero_at y

/-- The body's output block at an index, by the flag. -/
theorem bodyOut_at (y : S512x1024.Idx) : (bodyOut c i arg3 harg3 arg4 harg4 arg5 harg5 arg6 harg6 x0 x1 x2 xt0 xt1 y : EReal) = if k0_cond1 (flag c i xt1) = 1#1 then rowY x0 x1 x2 (y 0) (y 1) else 0 := by
  unfold bodyOut
  by_cases h : k0_cond1 (flag c i xt1) = 1#1
  · rw [dif_pos h, if_pos h, liveOut_at]
  · rw [dif_neg h, if_neg h, idleOut_at]

end Out

end Cert.Kernel3Ideal.Exp
-- ==== Proof.ExpPlace.lean ====
/-
  Where a grid point's blocks stand in the arrays: tile `t`'s rows, and the weights of the tile's group.
-/
module

public import proofs.«01_k».proof.Proof.ExpIdealFrame
public import proofs.«01_k».proof.Proof.ExpIdealInside
public import proofs.«01_k».proof.Proof.ExpBlock

@[expose] public section

set_option maxRecDepth 16384

noncomputable section

namespace Cert.Kernel3Ideal.Exp

open Cert.Kernel3Ideal Cert.Kernel3Ideal.Gen
open Idealize.ShloMosaic Idealize.ShloMosaic.TcCoe Idealize.SL.Sem
open Idealize.ShloMosaic.Pipeline (Dat)

variable (m : (ℓ : Loc nD τ sig) → Buf (Elt Ideal) ℓ) (hO : Inside m) (c : Dev nD)

/-- A group's weights, as blocks, and a tile's rows. -/
def wguOf (X : Vec Ideal S4x4x1024x512 .bf16) (g : Fin 4) : Vec Ideal S1x4x1024x512 .bf16 := fun y => X (ix4 g (y 1) (y 2) (y 3))
def wdOf (X : Vec Ideal S4x1024x1024 .bf16) (g : Fin 4) : Vec Ideal S1x1024x1024 .bf16 := fun y => X (ix3 g (y 1) (y 2))
def rowsOf (X : Vec Ideal S83456x1152 .bf16) (t : Fin 163) : Vec Ideal S512x1152 .bf16 :=
  fun y => X (ix2 ⟨512 * t.val + (y 0).val, by have h : (y 0).val < 512 := (y 0).isLt; have := t.isLt; omega⟩ (y 1))

/-- A grid point's tile, and the tile's group among the four. -/
def til (t : Fin (cfgM m hO).N) : Fin 163 := ⟨t.val, t.isLt⟩
def gro (t : Fin (cfgM m hO).N) : Fin 4 := ⟨(grp m (grid0.coords t)).toNat % 4, Nat.mod_lt _ (by decide)⟩

theorem coord : ∀ t : Fin grid0.N, ((grid0.coords t) 0).val = t.val := (by decide +kernel : ∀ t : Fin grid0.N, _)
theorem idxRows : ∀ t : Fin grid0.N, cc0_transform_0 (grid0.coords t) = ![t.val, 0] ∧ cc0_transform_3 (grid0.coords t) = ![t.val, 0] :=
  (by decide +kernel : ∀ t : Fin grid0.N, _)

theorem ind0 (t : Fin (cfgM m hO).N) : ((cfgM m hO).win 0).index t = ![t.val, 0] := (idxRows t).1
theorem ind3 (t : Fin (cfgM m hO).N) : ((cfgM m hO).win 3).index t = ![t.val, 0] := (idxRows t).2
theorem ind1 (h : ∀ i, (grp m i).toNat < 4) (t : Fin (cfgM m hO).N) : ((cfgM m hO).win 1).index t = ![(gro m hO t).val, 0, 0, 0] :=
  (idx1 m (grid0.coords t)).trans (congrArg (fun k => (![k, 0, 0, 0] : Fin 4 → ℕ)) (Nat.mod_eq_of_lt (h _)).symm)
theorem ind2 (h : ∀ i, (grp m i).toNat < 4) (t : Fin (cfgM m hO).N) : ((cfgM m hO).win 2).index t = ![(gro m hO t).val, 0, 0] :=
  (idx2 m (grid0.coords t)).trans (congrArg (fun k => (![k, 0, 0] : Fin 3 → ℕ)) (Nat.mod_eq_of_lt (h _)).symm)

theorem iblk0 (t : Fin (cfgM m hO).N) : (iblk m hO c 0 t : Vec Ideal S512x1152 .bf16) = rowsOf (V m c main_arg0) (til m hO t) := by
  funext y; unfold rowsOf til; blk_ext [iblk, ind0 m hO t]
theorem iblk1 (h : ∀ i, (grp m i).toNat < 4) (t : Fin (cfgM m hO).N) : (iblk m hO c 1 t : Vec Ideal S1x4x1024x512 .bf16) = wguOf (V m c main_v2) (gro m hO t) := by
  funext y; unfold wguOf; blk_ext [iblk, ind1 m hO h t]
theorem iblk2 (h : ∀ i, (grp m i).toNat < 4) (t : Fin (cfgM m hO).N) : (iblk m hO c 2 t : Vec Ideal S1x1024x1024 .bf16) = wdOf (V m c main_v4) (gro m hO t) := by
  funext y; unfold wdOf; blk_ext [iblk, ind2 m hO h t]

/-- Where a point's block of the result stands. -/
theorem placeY (t : Fin (cfgM m hO).N) (y : S512x1024.Idx) : ((((cfgM m hO).win 3).blk t).view.emb y : S83456x1024.Idx)
    = ix2 (⟨512 * (til m hO t).val + (y 0).val, by have h : (y 0).val < 512 := (y 0).isLt; have h' := (til m hO t).isLt; omega⟩ : Fin 83456) (y 1) := by
  funext a
  refine Fin.ext ?_
  unfold til
  idx_bounds y
  fin_cases a <;> blk_simp [ind3 m hO t] <;> simp <;> omega

end Cert.Kernel3Ideal.Exp
-- ==== Proof.ExpArray.lean ====
/-
  The array the experts' call leaves: a live tile's rows are the mix of the group's experts, an idle tile's are zero.
-/
module

public import proofs.«01_k».proof.Proof.ExpPlace
public import proofs.«01_k».proof.Proof.ExpRouted
public import Idealize.ShloMosaic.Lib.Pipeline.ValueKit

@[expose] public section

set_option maxRecDepth 16384

noncomputable section

namespace Cert.Kernel3Ideal.Exp

open Cert.Kernel3Ideal Cert.Kernel3Ideal.Gen
open Idealize.ShloMosaic Idealize.ShloMosaic.TcCoe Idealize.SL.Sem
open Idealize.ShloMosaic.Pipeline (Dat)
open Cert.Exp

/-- Row `r` of tile `t` under the weights of group `g`. -/
def mix (xs : Vec Ideal S83456x1152 .bf16) (wgu : Vec Ideal S4x4x1024x512 .bf16) (wd : Vec Ideal S4x1024x1024 .bf16) (g : Fin 4) (r : Fin 83456) (d : Fin 1024) : EReal :=
  down (fun j f => act (fun e => xs (ix2 r ⟨e.val, by omega⟩)) (fun e => wgu (ix4 g j e ⟨f.val, by omega⟩)) (fun e => wgu (ix4 g j e ⟨256 + f.val, by omega⟩)) (weight xs r j))
    (fun k => wd (ix3 g k d))

/-- The result as a function of the arrays the call takes. -/
def arrY (xs : Vec Ideal S83456x1152 .bf16) (tg tv : IVec S163 32) (wgu : Vec Ideal S4x4x1024x512 .bf16) (wd : Vec Ideal S4x1024x1024 .bf16) : Vec Ideal S83456x1024 .bf16 := fun j =>
  if tv (ix1 ⟨(j 0).val / 512, by have h : (j 0).val < 83456 := (j 0).isLt; omega⟩) ≠ 0#32 then
    mix xs wgu wd ⟨(tg (ix1 ⟨(j 0).val / 512, by have h : (j 0).val < 83456 := (j 0).isLt; omega⟩)).toNat % 4, Nat.mod_lt _ (by decide)⟩ (j 0) (j 1)
  else 0

/-- The result at tile `t`'s row `s`. -/
theorem arrY_tile (xs : Vec Ideal S83456x1152 .bf16) (tg tv : IVec S163 32) (wgu : Vec Ideal S4x4x1024x512 .bf16) (wd : Vec Ideal S4x1024x1024 .bf16)
    (t : Fin 163) (s : Fin 512) (d : Fin 1024) :
    arrY xs tg tv wgu wd (ix2 (⟨512 * t.val + s.val, by omega⟩ : Fin 83456) d)
      = if tv (ix1 t) ≠ 0#32 then mix xs wgu wd ⟨(tg (ix1 t)).toNat % 4, Nat.mod_lt _ (by decide)⟩ ⟨512 * t.val + s.val, by omega⟩ d else 0 := by
  have e : (⟨(512 * t.val + s.val) / 512, by omega⟩ : Fin 163) = t := Fin.ext (show (512 * t.val + s.val) / 512 = t.val by omega)
  exact congrArg (fun k : Fin 163 => if tv (ix1 k) ≠ 0#32 then
      mix xs wgu wd ⟨(tg (ix1 k)).toNat % 4, Nat.mod_lt _ (by decide)⟩ (⟨512 * t.val + s.val, by omega⟩ : Fin 83456) d else 0) e

theorem cond_iff (w : BitVec 32) : k0_cond1 w = 1#1 ↔ w ≠ 0#32 := by
  refine ⟨fun h h0 => ?_, fun h => ?_⟩
  · subst h0; exact absurd h (by decide)
  · by_contra hn
    have h2 := zero_of_not_live w hn
    unfold k0_cond2 at h2
    have e : (w == 0#32) = false := by simp [h]
    simp only [Scalar.cmpi, IntOp.cmpi, Scalar.extui, e] at h2
    exact absurd h2 (by decide)

variable (m : (ℓ : Loc nD τ sig) → Buf (Elt Ideal) ℓ) (hO : Inside m) (c : Dev nD)

theorem grp_til (t : Fin (cfgM m hO).N) : grp m (grid0.coords t) = (m (((0 : Dev nD) : Thread nD τ).loc main_arg1) : IVec S163 32) (ix1 (til m hO t)) :=
  congrArg (fun k => (m (((0 : Dev nD) : Thread nD τ).loc main_arg1) : IVec S163 32) (ix1 k)) (Fin.ext (coord t))
theorem val_til (t : Fin (cfgM m hO).N) : val m (grid0.coords t) = (m (((0 : Dev nD) : Thread nD τ).loc main_arg2) : IVec S163 32) (ix1 (til m hO t)) :=
  congrArg (fun k => (m (((0 : Dev nD) : Thread nD τ).loc main_arg2) : IVec S163 32) (ix1 k)) (Fin.ext (coord t))

/-- A block's row is the array's row. -/
theorem row_mix (xs : Vec Ideal S83456x1152 .bf16) (wgu : Vec Ideal S4x4x1024x512 .bf16) (wd : Vec Ideal S4x1024x1024 .bf16) (g : Fin 4) (t : Fin 163) (s : Fin 512) (d : Fin 1024) :
    rowY (rowsOf xs t) (wguOf wgu g) (wdOf wd g) s d = mix xs wgu wd g ⟨512 * t.val + s.val, by omega⟩ d := rfl

/-- Every element of the result is in a tile's block. -/
theorem covered (i : S83456x1024.Idx) : ∃ (t : Fin (cfgM m hO).N) (y : S512x1024.Idx), ((((cfgM m hO).win 3).blk t).view.emb y : S83456x1024.Idx) = i := by
  have hi : (i 0).val < 83456 := (i 0).isLt
  refine ⟨⟨(i 0).val / 512, (show (i 0).val / 512 < 163 by omega)⟩, ix2 (⟨(i 0).val % 512, by omega⟩ : Fin 512) (i 1), ?_⟩
  refine (placeY m hO _ _).trans ?_
  funext a
  fin_cases a
  · exact Fin.ext (show 512 * ((i 0).val / 512) + (i 0).val % 512 = (i 0).val by omega)
  · rfl

/-- What a tile's body leaves is the tile's rows of the result. -/
theorem tile_eq (h : ∀ i, (grp m i).toNat < 4) (t : Fin (cfgM m hO).N) (y : S512x1024.Idx) :
    (if k0_cond1 (flag c (grid0.coords t) (tbl m 1)) = 1#1 then
      rowY (rowsOf (V m c main_arg0) (til m hO t)) (wguOf (V m c main_v2) (gro m hO t)) (wdOf (V m c main_v4) (gro m hO t)) (y 0) (y 1) else 0)
      = (arrY (V m c main_arg0) (m (((0 : Dev nD) : Thread nD τ).loc main_arg1)) (m (((0 : Dev nD) : Thread nD τ).loc main_arg2)) (V m c main_v2) (V m c main_v4)) ((((cfgM m hO).win 3).blk t).view.emb y : S83456x1024.Idx) := by
  refine Eq.trans ?_ (congrArg (arrY (V m c main_arg0) (m (((0 : Dev nD) : Thread nD τ).loc main_arg1)) (m (((0 : Dev nD) : Thread nD τ).loc main_arg2)) (V m c main_v2) (V m c main_v4)) (placeY m hO t y)).symm
  refine Eq.trans ?_ (arrY_tile _ _ _ _ _ (til m hO t) (y 0) (y 1)).symm
  refine if_congr ((cond_iff _).trans ?_) ?_ rfl
  · exact Iff.of_eq (congrArg (fun w : BitVec 32 => w ≠ 0#32) ((flag_eq m c _).trans (val_til m hO t)))
  · refine (row_mix _ _ _ _ _ _ _).trans ?_
    exact congrArg (fun g => mix (V m c main_arg0) (V m c main_v2) (V m c main_v4) g _ (y 1)) (Fin.ext (congrArg (fun w : BitVec 32 => w.toNat % 4) (grp_til m hO t)))

set_option maxHeartbeats 2000000 in
/-- The array the run leaves. -/
theorem final (h : ∀ i, (grp m i).toNat < 4) : (dats m hO 0 c).arrAt 3 (cfgM m hO).N
    = arrY (V m c main_arg0) (m (((0 : Dev nD) : Thread nD τ).loc main_arg1)) (m (((0 : Dev nD) : Thread nD τ).loc main_arg2)) (V m c main_v2) (V m c main_v4) := by
  refine (dats m hO 0 c).arrAt_eq_of_emb 3 _ (fun t hf y => ?_) fun i => ?_
  · blk_simp
    rw [after3, iblk0, iblk1 m hO c h, iblk2 m hO c h]
    exact (bodyOut_at _ _ _ _ _ _ _ _ _ _ _ _ _ _ _ y).trans (tile_eq m hO c h t y)
  · obtain ⟨t, y, e⟩ := covered m hO i
    exact ⟨t, flush_out m hO t, Finset.mem_map.mpr ⟨y, Finset.mem_univ _, e⟩⟩

end Cert.Kernel3Ideal.Exp
-- ==== Proof.ExpHost.lean ====
/-
  The packed weights of the experts: expert `e` is expert `e % 4` of group `e / 4`, its gate left and its up projection right.
-/
module

public import proofs.«01_k».proof.Proof.ExpIdealTable
public import Idealize.ShloMosaic.Lib.Pointwise
public import Idealize.ShloMosaic.Lib.Pipeline.ValueKit

@[expose] public section

set_option maxRecDepth 16384

noncomputable section

namespace Cert.Kernel3Ideal.Exp

open Cert.Kernel3Ideal Cert.Kernel3Ideal.Gen
open Idealize.ShloMosaic Idealize.ShloMosaic.TcCoe Idealize.SL.Sem

/-- The gate and up projections, packed. -/
def packGU (wg wu : Vec Ideal S16x1024x256 .f32) : Vec Ideal S4x4x1024x512 .bf16 :=
  shapeCast S4x4x1024x512 (truncf (F := Ideal) .bf16 (concatenate S16x1024x512 2 [⟨S16x1024x256, wg⟩, ⟨S16x1024x256, wu⟩] concatenates_S16x1024x256_S16x1024x256_S16x1024x512_d2) bitsLt_bf16_f32) shapeCasts_S16x1024x512_S4x4x1024x512
/-- The down projections, packed. -/
def packD (wd : Vec Ideal S16x256x1024 .f32) : Vec Ideal S4x1024x1024 .bf16 :=
  shapeCast S4x1024x1024 (truncf (F := Ideal) .bf16 wd bitsLt_bf16_f32) shapeCasts_S16x256x1024_S4x1024x1024

section
variable (m : (ℓ : Loc nD τ sig) → Buf (Elt Ideal) ℓ) (c : Dev nD)
theorem v2 : V m c main_v2 = packGU (m ((c : Thread nD τ).loc main_arg3)) (m ((c : Thread nD τ).loc main_arg4)) := by
  simp only [V, hostOps0, List.flatten_cons, List.flatten_nil, List.append_nil]
  after_results
  try rfl
theorem v4 : V m c main_v4 = packD (m ((c : Thread nD τ).loc main_arg5)) := by
  simp only [V, hostOps0, List.flatten_cons, List.flatten_nil, List.append_nil]
  after_results
  try rfl
end

/-- The packed weights, position by position. -/
theorem packG_at (wg wu : Vec Ideal S16x1024x256 .f32) (e : Fin 16) (k : Fin 1024) (f : Fin 256) :
    (packGU wg wu (ix4 ⟨e.val / 4, by omega⟩ ⟨e.val % 4, by omega⟩ k ⟨f.val, by omega⟩) : EReal) = wg (ix3 e k f) := by
  pointwise [packGU]
theorem packU_at (wg wu : Vec Ideal S16x1024x256 .f32) (e : Fin 16) (k : Fin 1024) (f : Fin 256) :
    (packGU wg wu (ix4 ⟨e.val / 4, by omega⟩ ⟨e.val % 4, by omega⟩ k ⟨256 + f.val, by omega⟩) : EReal) = wu (ix3 e k f) := by
  pointwise [packGU]
theorem packD_at (wd : Vec Ideal S16x256x1024 .f32) (e : Fin 16) (f : Fin 256) (d : Fin 1024) :
    (packD wd (ix3 ⟨e.val / 4, by omega⟩ ⟨e.val % 4 * 256 + f.val, by omega⟩ d) : EReal) = wd (ix3 e f d) := by
  pointwise [packD]

end Cert.Kernel3Ideal.Exp
-- ==== Proof.ExpEq.lean ====
/-
  The reference's result is the array the kernel leaves: of the sixteen experts only a tile's group counts.
-/
module

public import proofs.«01_k».proof.Proof.ExpMoe
public import proofs.«01_k».proof.Proof.ExpArray
public import proofs.«01_k».proof.Proof.ExpHost

@[expose] public section

set_option maxRecDepth 16384

noncomputable section

namespace Cert.Reference3Ideal.Exp

open Cert.Reference3Ideal Cert.Reference3Ideal.Gen Idealize.ShloMosaic Idealize.ShloMosaic.TcCoe Idealize.SL.Sem
open Cert.Exp

/-- The term of expert `j` of group `a` in a row of group `g`. -/
def part (g : BitVec 32) (c : Fin 4 → EReal) (S : Fin 4 → Fin 4 → EReal) (a j : Fin 4) : EReal :=
  Scalar.select (IntOp.cmpi .eq g (BitVec.ofNat 32 a.val)) (c j) 0 * S a j

/-- The sum over the sixteen experts. -/
def all (g : BitVec 32) (c : Fin 4 → EReal) (S : Fin 4 → Fin 4 → EReal) : EReal :=
  (((((((((((((((part g c S 0 0 + part g c S 0 1) + part g c S 0 2) + part g c S 0 3) + part g c S 1 0) + part g c S 1 1) + part g c S 1 2) + part g c S 1 3) + part g c S 2 0) + part g c S 2 1) + part g c S 2 2) + part g c S 2 3) + part g c S 3 0) + part g c S 3 1) + part g c S 3 2) + part g c S 3 3)

theorem part_of (g : BitVec 32) (c : Fin 4 → EReal) (S : Fin 4 → Fin 4 → EReal) (a j : Fin 4) : part g c S a j = if g = BitVec.ofNat 32 a.val then c j * S a j else 0 := by
  unfold part
  by_cases h : g = BitVec.ofNat 32 a.val
  · have e : IntOp.cmpi .eq g (BitVec.ofNat 32 a.val) = 1#1 := by simp [IntOp.cmpi, h]
    rw [e, if_pos h]; rfl
  · have e : IntOp.cmpi .eq g (BitVec.ofNat 32 a.val) = 0#1 := by
      show BitVec.ofBool (g == BitVec.ofNat 32 a.val) = 0#1
      rw [beq_eq_false_iff_ne.mpr h]; rfl
    rw [e, if_neg h]; exact zero_mul _

/-- Only the row's group counts. -/
theorem all_group (q : Fin 4) (c : Fin 4 → EReal) (S : Fin 4 → Fin 4 → EReal) :
    all (BitVec.ofNat 32 q.val) c S = c 0 * S q 0 + (c 1 * S q 1 + (c 2 * S q 2 + c 3 * S q 3)) := by
  unfold all
  simp only [part_of]
  fin_cases q <;> simp [add_assoc]

/-- A row of no group is zero. -/
theorem all_none (c : Fin 4 → EReal) (S : Fin 4 → Fin 4 → EReal) : all 4#32 c S = 0 := by
  unfold all
  simp only [part_of]
  simp

/-- An expert's output for a row, before its weight. -/
def out (xs : Vec Ideal S83456x1152 .bf16) (wgu : Vec Ideal Cert.Kernel3Ideal.S4x4x1024x512 .bf16) (wd : Vec Ideal Cert.Kernel3Ideal.S4x1024x1024 .bf16) (r : Fin 83456) (d : Fin 1024) (a j : Fin 4) : EReal :=
  ∑ f : Fin 256, glu (∑ k : Fin 1024, xs (ix2 r ⟨k.val, by omega⟩) * wgu (ix4 a j k ⟨f.val, by omega⟩)) (∑ k : Fin 1024, xs (ix2 r ⟨k.val, by omega⟩) * wgu (ix4 a j k ⟨256 + f.val, by omega⟩))
    * wd (ix3 a ⟨j.val * 256 + f.val, by omega⟩ d)

section
variable (xs : Vec Ideal S83456x1152 .bf16) (tg tv : IVec S163 32) (wg wu : Vec Ideal S16x1024x256 .f32) (wd : Vec Ideal S16x256x1024 .f32)
open Cert.Kernel3Ideal.Exp (packGU packD packG_at packU_at packD_at)

theorem term_of (r : Fin 83456) (d : Fin 1024) (e : Fin 16) (hc : S83456x16.Slices ![0, e.val] S83456x1) (hw : S16x1024x256.Slices ![e.val, 0, 0] S1x1024x256) (hd : S16x256x1024.Slices ![e.val, 0, 0] S1x256x1024) :
    (term e.val hc hw hd (hid xs) (comb (mark (grps tg tv)) (wts xs)) wg wu wd (ix2 r d) : EReal)
      = part (grps tg tv (ix1 ⟨r.val / 512, by omega⟩)) (weight xs r) (out xs (packGU wg wu) (packD wd) r d) ⟨e.val / 4, by omega⟩ ⟨e.val % 4, by omega⟩ := by
  rw [term_at r d e.val e.isLt]
  unfold part out weight
  rw [comb_at, mark_at, wts_at]
  simp only [hid_at, packG_at, packU_at, packD_at, Fin.eta]

set_option maxHeartbeats 2000000 in
theorem moe_at (r : Fin 83456) (d : Fin 1024) :
    (moe xs tg tv wg wu wd (ix2 r d) : EReal) = all (grps tg tv (ix1 ⟨r.val / 512, by omega⟩)) (weight xs r) (out xs (packGU wg wu) (packD wd) r d) := by
  unfold all
  exact (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (term_of xs tg tv wg wu wd r d 0 _ _ _)
    (term_of xs tg tv wg wu wd r d 1 _ _ _))
    (term_of xs tg tv wg wu wd r d 2 _ _ _))
    (term_of xs tg tv wg wu wd r d 3 _ _ _))
    (term_of xs tg tv wg wu wd r d 4 _ _ _))
    (term_of xs tg tv wg wu wd r d 5 _ _ _))
    (term_of xs tg tv wg wu wd r d 6 _ _ _))
    (term_of xs tg tv wg wu wd r d 7 _ _ _))
    (term_of xs tg tv wg wu wd r d 8 _ _ _))
    (term_of xs tg tv wg wu wd r d 9 _ _ _))
    (term_of xs tg tv wg wu wd r d 10 _ _ _))
    (term_of xs tg tv wg wu wd r d 11 _ _ _))
    (term_of xs tg tv wg wu wd r d 12 _ _ _))
    (term_of xs tg tv wg wu wd r d 13 _ _ _))
    (term_of xs tg tv wg wu wd r d 14 _ _ _))
    (term_of xs tg tv wg wu wd r d 15 _ _ _))

end

section
variable (xs : Vec Ideal S83456x1152 .bf16) (tg tv : IVec S163 32) (wgu : Vec Ideal Cert.Kernel3Ideal.S4x4x1024x512 .bf16) (wd : Vec Ideal Cert.Kernel3Ideal.S4x1024x1024 .bf16)

/-- The kernel's mix is the group's experts, weighed. -/
theorem mix_eq (hn : ∀ r j, 0 ≤ weight xs r j) (ht : ∀ r j, weight xs r j < ⊤) (g : Fin 4) (r : Fin 83456) (d : Fin 1024) :
    Cert.Kernel3Ideal.Exp.mix xs wgu wd g r d
      = weight xs r 0 * out xs wgu wd r d g 0 + (weight xs r 1 * out xs wgu wd r d g 1 + (weight xs r 2 * out xs wgu wd r d g 2 + weight xs r 3 * out xs wgu wd r d g 3)) := by
  have w : ∀ (j : Fin 4) (b : ℕ) (hb : b + 256 ≤ 1024) (e : j.val * 256 = b),
      (∑ f : Fin 256, act (fun k => (xs (ix2 r ⟨k.val, by omega⟩) : EReal)) (fun k => wgu (ix4 g j k ⟨f.val, by omega⟩)) (fun k => wgu (ix4 g j k ⟨256 + f.val, by omega⟩)) (weight xs r j)
        * (wd (ix3 g ⟨b + f.val, by omega⟩ d) : EReal)) = weight xs r j * out xs wgu wd r d g j := by
    intro j b hb e
    subst e
    exact weighed (fun k => (xs (ix2 r ⟨k.val, by omega⟩) : EReal)) (fun f k => wgu (ix4 g j k ⟨f.val, by omega⟩)) (fun f k => wgu (ix4 g j k ⟨256 + f.val, by omega⟩))
      (fun f => wd (ix3 g ⟨j.val * 256 + f.val, by omega⟩ d)) (weight xs r j) (hn r j) (ht r j)
  unfold Cert.Kernel3Ideal.Exp.mix down
  refine congrArg₂ (· + ·) ?_ (congrArg₂ (· + ·) (w 1 256 (by decide) rfl) (congrArg₂ (· + ·) (w 2 512 (by decide) rfl) (w 3 768 (by decide) rfl)))
  refine Eq.trans ?_ (w 0 0 (by decide) rfl)
  refine Finset.sum_congr rfl fun f _ => congrArg₂ (· * ·) rfl (congrArg (fun k => (wd (ix3 g k d) : EReal)) (Fin.ext (Nat.zero_add f.val).symm))

/-- A row of a tile of group under four, live or not. -/
theorem row_eq (hg : ∀ t : Fin 163, (tg (ix1 t)).toNat < 4) (hn : ∀ r j, 0 ≤ weight xs r j) (ht : ∀ r j, weight xs r j < ⊤) (r : Fin 83456) (d : Fin 1024) (q : Fin 163) :
    (if tv (ix1 q) ≠ 0#32 then Cert.Kernel3Ideal.Exp.mix xs wgu wd ⟨(tg (ix1 q)).toNat % 4, Nat.mod_lt _ (by decide)⟩ r d else 0)
      = all (Scalar.select (IntOp.cmpi .ne (tv (ix1 q)) 0#32) (tg (ix1 q)) 4#32) (weight xs r) (out xs wgu wd r d) := by
  by_cases hv : tv (ix1 q) = 0#32
  · have e : IntOp.cmpi .ne (tv (ix1 q)) 0#32 = 0#1 := by simp [IntOp.cmpi, hv]
    rw [e, if_neg (not_not.mpr hv)]
    exact (all_none _ _).symm
  · have e : IntOp.cmpi .ne (tv (ix1 q)) 0#32 = 1#1 := by
      show BitVec.ofBool (tv (ix1 q) != 0#32) = 1#1
      rw [bne_iff_ne.mpr hv]; rfl
    rw [e, if_pos hv, mix_eq xs wgu wd hn ht]
    have eg : tg (ix1 q) = BitVec.ofNat 32 (⟨(tg (ix1 q)).toNat % 4, Nat.mod_lt _ (by decide)⟩ : Fin 4).val := by
      refine BitVec.eq_of_toNat_eq ?_
      have := hg q
      simp only [BitVec.toNat_ofNat]
      omega
    refine Eq.trans ?_ (congrArg (fun w => all w (weight xs r) (out xs wgu wd r d)) eg).symm
    exact (all_group _ _ _).symm

end

/-- The two results are one array. -/
theorem moe_eq (xs : Vec Ideal S83456x1152 .bf16) (tg tv : IVec S163 32) (wg wu : Vec Ideal S16x1024x256 .f32) (wd : Vec Ideal S16x256x1024 .f32)
    (hg : ∀ t : Fin 163, (tg (ix1 t)).toNat < 4) (hn : ∀ r j, 0 ≤ weight xs r j) (ht : ∀ r j, weight xs r j < ⊤) :
    Cert.Kernel3Ideal.Exp.arrY xs tg tv (Cert.Kernel3Ideal.Exp.packGU wg wu) (Cert.Kernel3Ideal.Exp.packD wd) = moe xs tg tv wg wu wd := by
  funext i
  obtain ⟨r, d, rfl⟩ : ∃ (r : Fin 83456) (d : Fin 1024), i = ix2 r d := ⟨i 0, i 1, by funext a; fin_cases a <;> rfl⟩
  refine Eq.trans ?_ (moe_at xs tg tv wg wu wd r d).symm
  rw [grps_at]
  exact row_eq xs tg tv _ _ hg hn ht r d ⟨r.val / 512, by omega⟩

end Cert.Reference3Ideal.Exp
-- ==== Proof.ExpClaims.lean ====
/-
  The claims of the experts' layer, from its frames and its two values.
-/
module

public import proofs.«01_k».proof.Defs
public import proofs.«01_k».proof.Proof.Gen.Kernel3
public import proofs.«01_k».proof.Proof.ExpBitsInside
public import proofs.«01_k».proof.Proof.ExpBitsFrame
public import proofs.«01_k».proof.Proof.ExpRouted
public import proofs.«01_k».proof.Proof.ExpRefResult
public import proofs.«01_k».proof.Proof.ExpEq
public import Idealize.ShloMosaic.Lib.Claim

@[expose] public section

set_option maxRecDepth 16384

noncomputable section

namespace Cert.Proof.Exp

open Idealize.ShloMosaic Idealize.ShloMosaic.TcCoe Idealize.SL.Sem
open Cert.Exp

theorem frame_p : Cert.quiescent_Kernel3 := fun m ρ h => by
  have hO := Cert.Kernel3.Exp.inside m fun i => group_lt _ _ _ _ _ _ (h 0).1 (i 0)
  exact (θ_run Cert.Kernel3.defs _ _).mono (fun r h' => ⟨fun c => (h'.1 c).2, h'.2⟩) (Cert.Kernel3.Exp.run_full m ρ hO)

theorem frame_pi : Cert.quiescent_Kernel3Ideal := fun m ρ h => by
  have hO := Cert.Kernel3Ideal.Exp.inside m fun i => group_lt _ _ _ _ _ _ (h 0).1 (i 0)
  exact (θ_run Cert.Kernel3Ideal.defs _ _).mono (fun r h' => ⟨fun c => (h'.1 c).2, h'.2⟩) (Cert.Kernel3Ideal.Exp.run_full m ρ hO)

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- The kernel's array is the reference's, where the routing is in range. -/
theorem value (m : (ℓ : Loc Cert.Kernel3Ideal.nD Cert.Kernel3Ideal.τ Cert.Kernel3Ideal.sig) → Buf (Elt Ideal) ℓ) (h : Cert.Pre_Kernel3Ideal m)
    (hO : Cert.Kernel3Ideal.Exp.Inside m) (c : Dev Cert.Kernel3Ideal.nD) :
    (Cert.Kernel3Ideal.Exp.dats m hO 0 c).arrAt 3 (Cert.Kernel3Ideal.Exp.cfgM m hO).N
      = Cert.Reference3Ideal.Exp.moe (m ((c.tc : Thread Cert.Kernel3Ideal.nD Cert.Kernel3Ideal.τ).loc Cert.Kernel3Ideal.main_arg0))
          (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))
          (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))
          (m ((c.tc : Thread Cert.Kernel3Ideal.nD Cert.Kernel3Ideal.τ).loc Cert.Kernel3Ideal.main_arg5)) := by
  obtain rfl : c = 0 := Fin.eq_zero c
  refine (Cert.Kernel3Ideal.Exp.final m hO 0 fun i => group_lt _ _ _ _ _ _ (h 0).1 (i 0)).trans ?_
  rw [Cert.Kernel3Ideal.Exp.V_main_arg0, Cert.Kernel3Ideal.Exp.v2, Cert.Kernel3Ideal.Exp.v4]
  exact Cert.Reference3Ideal.Exp.moe_eq _ _ _ _ _ _ (fun t => group_lt _ _ _ _ _ _ (h 0).1 t) (fun r j => weight_nonneg _ _ _ _ _ _ (h 0).2.1 r j) (fun r j => weight_lt_top _ _ _ _ _ _ (h 0).2.2 r j)

theorem algebraic : Cert.algebraic_Kernel3Ideal_Reference3Ideal := fun m g m' g' h ha => by
  have hO := Cert.Kernel3Ideal.Exp.inside m fun i => group_lt _ _ _ _ _ _ (h 0).1 (i 0)
  refine ⟨fun c => (Cert.Kernel3Ideal.Exp.dats m hO 0 c).arrAt 3 (Cert.Kernel3Ideal.Exp.cfgM m hO).N, ?_, ?_⟩
  · exact (θ_run Cert.Kernel3Ideal.defs _ _).mono (fun r h' c => h'.1 c) (Cert.Kernel3Ideal.Exp.run_full m g hO)
  · refine (θ_run Cert.Reference3Ideal.defs _ _).mono (fun r h' c => ⟨(h' c).1.trans (Eq.trans ?_ (value m h hO c).symm), (h' c).2⟩) (Cert.Reference3Ideal.Exp.run m' g')
    obtain ⟨h0, h1, h2, h3, h4, h5⟩ := ha c
    rw [h0, h1, h2, h3, h4, h5]

end Cert.Proof.Exp
-- ==== Proof.lean ====
/-
  The proof of the claims about the chunked band attention, the merge of the branches and the experts: the modules under Proof/ assembled
  behind the witnesses of the programs' side conditions.
-/
module

public import proofs.«01_k».proof.Defs
public import proofs.«01_k».proof.Proof.BandClaims
public import proofs.«01_k».proof.Proof.MergeClaims
public import proofs.«01_k».proof.Proof.ExpClaims
public import proofs.«01_k».proof.Proof.Gen.Kernel3.Launch
public import proofs.«01_k».proof.Proof.Gen.Kernel3.Skeleton
public import proofs.«01_k».proof.Proof.Gen.Kernel3Ideal.Launch
public import proofs.«01_k».proof.Proof.Gen.Kernel3Ideal.Skeleton
public import proofs.«01_k».proof.Proof.Gen.Reference3Ideal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Band.preFacts, Cert.Exp.preFacts,
    Band.frame_p, Band.frame_pi, Band.frame_pi_finite, Band.frame_ri, Band.frame_ri_finite, Merge.frame_p, Merge.frame_pi, Merge.frame_ri,
    Exp.frame_p, Exp.frame_pi, Exp.frame_ri,
    Band.preserves, Band.algebraic, Merge.preserves, Merge.algebraic, Exp.preserves, Exp.algebraic⟩

end Cert.Proof

end
